-- ==== Defs.lean ====
def Pre_Dil0 (m : (ℓ : Loc Cert.Dil0.nD Cert.Dil0.τ Cert.Dil0.sig) → Buf (Elt Bits) ℓ) : Prop :=
  True

def Pre_Dil0Ideal (m : (ℓ : Loc Cert.Dil0Ideal.nD Cert.Dil0Ideal.τ Cert.Dil0Ideal.sig) → Buf (Elt Ideal) ℓ) : Prop :=
  True

def Pre_Dil0RefIdeal (m : (ℓ : Loc Cert.Dil0RefIdeal.nD Cert.Dil0RefIdeal.τ Cert.Dil0RefIdeal.sig) → Buf (Elt Ideal) ℓ) : Prop :=
  True

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1RefIdeal (m : (ℓ : Loc Cert.Dil1RefIdeal.nD Cert.Dil1RefIdeal.τ Cert.Dil1RefIdeal.sig) → Buf (Elt Ideal) ℓ) : Prop :=
  True

def Pre_Dil2 (m : (ℓ : Loc Cert.Dil2.nD Cert.Dil2.τ Cert.Dil2.sig) → Buf (Elt Bits) ℓ) : Prop :=
  True

def Pre_Dil2Ideal (m : (ℓ : Loc Cert.Dil2Ideal.nD Cert.Dil2Ideal.τ Cert.Dil2Ideal.sig) → Buf (Elt Ideal) ℓ) : Prop :=
  True

def Pre_Dil2RefIdeal (m : (ℓ : Loc Cert.Dil2RefIdeal.nD Cert.Dil2RefIdeal.τ Cert.Dil2RefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjKV (m : (ℓ : Loc Cert.ProjKV.nD Cert.ProjKV.τ Cert.ProjKV.sig) → Buf (Elt Bits) ℓ) : Prop :=
  True

def Pre_ProjKVIdeal (m : (ℓ : Loc Cert.ProjKVIdeal.nD Cert.ProjKVIdeal.τ Cert.ProjKVIdeal.sig) → Buf (Elt Ideal) ℓ) : Prop :=
  True

def Pre_ProjKVRefIdeal (m : (ℓ : Loc Cert.ProjKVRefIdeal.nD Cert.ProjKVRefIdeal.τ Cert.ProjKVRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_NormH (m : (ℓ : Loc Cert.NormH.nD Cert.NormH.τ Cert.NormH.sig) → Buf (Elt Bits) ℓ) : Prop :=
  True

def Pre_NormHIdeal (m : (ℓ : Loc Cert.NormHIdeal.nD Cert.NormHIdeal.τ Cert.NormHIdeal.sig) → Buf (Elt Ideal) ℓ) : Prop :=
  True

def Pre_NormHRefIdeal (m : (ℓ : Loc Cert.NormHRefIdeal.nD Cert.NormHRefIdeal.τ Cert.NormHRefIdeal.sig) → Buf (Elt Ideal) ℓ) : Prop :=
  True

def Pre_NormY (m : (ℓ : Loc Cert.NormY.nD Cert.NormY.τ Cert.NormY.sig) → Buf (Elt Bits) ℓ) : Prop :=
  True

def Pre_NormYIdeal (m : (ℓ : Loc Cert.NormYIdeal.nD Cert.NormYIdeal.τ Cert.NormYIdeal.sig) → Buf (Elt Ideal) ℓ) : Prop :=
  True

def Pre_NormYRefIdeal (m : (ℓ : Loc Cert.NormYRefIdeal.nD Cert.NormYRefIdeal.τ Cert.NormYRefIdeal.sig) → Buf (Elt Ideal) ℓ) : Prop :=
  True

def Pre_NormT (m : (ℓ : Loc Cert.NormT.nD Cert.NormT.τ Cert.NormT.sig) → Buf (Elt Bits) ℓ) : Prop :=
  True

def Pre_NormTIdeal (m : (ℓ : Loc Cert.NormTIdeal.nD Cert.NormTIdeal.τ Cert.NormTIdeal.sig) → Buf (Elt Ideal) ℓ) : Prop :=
  True

def Pre_NormTRefIdeal (m : (ℓ : Loc Cert.NormTRefIdeal.nD Cert.NormTRefIdeal.τ Cert.NormTRefIdeal.sig) → Buf (Elt Ideal) ℓ) : Prop :=
  True

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXRefIdeal (m : (ℓ : Loc Cert.NormXRefIdeal.nD Cert.NormXRefIdeal.τ Cert.NormXRefIdeal.sig) → Buf (Elt Ideal) ℓ) : Prop :=
  True

def quiescent_Dil0 [hDil0 : Cert.Dil0.Facts] : Prop :=
  ∀ (m : (ℓ : Loc Cert.Dil0.nD Cert.Dil0.τ Cert.Dil0.sig) → Buf (Elt Bits) ℓ) (g : Dev Cert.Dil0.nD → PrngReg), Pre_Dil0 m →
    θ_run (Cert.Dil0.defs (F := Bits)) (onTc (τ := Cert.Dil0.τ) (Cert.Dil0.main (F := Bits))) ⟨m, fun _ => 0, g⟩ (fun r => (∀ c : Dev Cert.Dil0.nD,
      r.2.mem ((c.tc : Thread Cert.Dil0.nD Cert.Dil0.τ).loc Cert.Dil0.main_arg0) = m ((c.tc : Thread Cert.Dil0.nD Cert.Dil0.τ).loc Cert.Dil0.main_arg0))
      ∧ r.2.sem = fun _ => 0)

def quiescent_Dil0Ideal [hDil0Ideal : Cert.Dil0Ideal.Facts] : Prop :=
  ∀ (m : (ℓ : Loc Cert.Dil0Ideal.nD Cert.Dil0Ideal.τ Cert.Dil0Ideal.sig) → Buf (Elt Ideal) ℓ) (g : Dev Cert.Dil0Ideal.nD → PrngReg), Pre_Dil0Ideal m →
    θ_run (Cert.Dil0Ideal.defs (F := Ideal)) (onTc (τ := Cert.Dil0Ideal.τ) (Cert.Dil0Ideal.main (F := Ideal))) ⟨m, fun _ => 0, g⟩ (fun r => (∀ c : Dev Cert.Dil0Ideal.nD,
      r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0))
      ∧ r.2.sem = fun _ => 0)

def quiescent_Dil0RefIdeal [hDil0RefIdeal : Cert.Dil0RefIdeal.Facts] : Prop :=
  ∀ (m : (ℓ : Loc Cert.Dil0RefIdeal.nD Cert.Dil0RefIdeal.τ Cert.Dil0RefIdeal.sig) → Buf (Elt Ideal) ℓ) (g : Dev Cert.Dil0RefIdeal.nD → PrngReg), Pre_Dil0RefIdeal m →
    θ_run (Cert.Dil0RefIdeal.defs (F := Ideal)) (onTc (τ := Cert.Dil0RefIdeal.τ) (Cert.Dil0RefIdeal.main (F := Ideal))) ⟨m, fun _ => 0, g⟩ (fun r => (∀ c : Dev Cert.Dil0RefIdeal.nD,
      r.2.mem ((c.tc : Thread Cert.Dil0RefIdeal.nD Cert.Dil0RefIdeal.τ).loc Cert.Dil0RefIdeal.main_arg0) = m ((c.tc : Thread Cert.Dil0RefIdeal.nD Cert.Dil0RefIdeal.τ).loc Cert.Dil0RefIdeal.main_arg0))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def quiescent_Dil2 [hDil2 : Cert.Dil2.Facts] : Prop :=
  ∀ (m : (ℓ : Loc Cert.Dil2.nD Cert.Dil2.τ Cert.Dil2.sig) → Buf (Elt Bits) ℓ) (g : Dev Cert.Dil2.nD → PrngReg), Pre_Dil2 m →
    θ_run (Cert.Dil2.defs (F := Bits)) (onTc (τ := Cert.Dil2.τ) (Cert.Dil2.main (F := Bits))) ⟨m, fun _ => 0, g⟩ (fun r => (∀ c : Dev Cert.Dil2.nD,
      r.2.mem ((c.tc : Thread Cert.Dil2.nD Cert.Dil2.τ).loc Cert.Dil2.main_arg0) = m ((c.tc : Thread Cert.Dil2.nD Cert.Dil2.τ).loc Cert.Dil2.main_arg0))
      ∧ r.2.sem = fun _ => 0)

def quiescent_Dil2Ideal [hDil2Ideal : Cert.Dil2Ideal.Facts] : Prop :=
  ∀ (m : (ℓ : Loc Cert.Dil2Ideal.nD Cert.Dil2Ideal.τ Cert.Dil2Ideal.sig) → Buf (Elt Ideal) ℓ) (g : Dev Cert.Dil2Ideal.nD → PrngReg), Pre_Dil2Ideal m →
    θ_run (Cert.Dil2Ideal.defs (F := Ideal)) (onTc (τ := Cert.Dil2Ideal.τ) (Cert.Dil2Ideal.main (F := Ideal))) ⟨m, fun _ => 0, g⟩ (fun r => (∀ c : Dev Cert.Dil2Ideal.nD,
      r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0))
      ∧ r.2.sem = fun _ => 0)

def quiescent_Dil2RefIdeal [hDil2RefIdeal : Cert.Dil2RefIdeal.Facts] : Prop :=
  ∀ (m : (ℓ : Loc Cert.Dil2RefIdeal.nD Cert.Dil2RefIdeal.τ Cert.Dil2RefIdeal.sig) → Buf (Elt Ideal) ℓ) (g : Dev Cert.Dil2RefIdeal.nD → PrngReg), Pre_Dil2RefIdeal m →
    θ_run (Cert.Dil2RefIdeal.defs (F := Ideal)) (onTc (τ := Cert.Dil2RefIdeal.τ) (Cert.Dil2RefIdeal.main (F := Ideal))) ⟨m, fun _ => 0, g⟩ (fun r => (∀ c : Dev Cert.Dil2RefIdeal.nD,
      r.2.mem ((c.tc : Thread Cert.Dil2RefIdeal.nD Cert.Dil2RefIdeal.τ).loc Cert.Dil2RefIdeal.main_arg0) = m ((c.tc : Thread Cert.Dil2RefIdeal.nD Cert.Dil2RefIdeal.τ).loc Cert.Dil2RefIdeal.main_arg0))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2))
      ∧ r.2.sem = fun _ => 0)

def quiescent_ProjKV [hProjKV : Cert.ProjKV.Facts] : Prop :=
  ∀ (m : (ℓ : Loc Cert.ProjKV.nD Cert.ProjKV.τ Cert.ProjKV.sig) → Buf (Elt Bits) ℓ) (g : Dev Cert.ProjKV.nD → PrngReg), Pre_ProjKV m →
    θ_run (Cert.ProjKV.defs (F := Bits)) (onTc (τ := Cert.ProjKV.τ) (Cert.ProjKV.main (F := Bits))) ⟨m, fun _ => 0, g⟩ (fun r => (∀ c : Dev Cert.ProjKV.nD,
      r.2.mem ((c.tc : Thread Cert.ProjKV.nD Cert.ProjKV.τ).loc Cert.ProjKV.main_arg0) = m ((c.tc : Thread Cert.ProjKV.nD Cert.ProjKV.τ).loc Cert.ProjKV.main_arg0)
      ∧ r.2.mem ((c.tc : Thread Cert.ProjKV.nD Cert.ProjKV.τ).loc Cert.ProjKV.main_arg1) = m ((c.tc : Thread Cert.ProjKV.nD Cert.ProjKV.τ).loc Cert.ProjKV.main_arg1)
      ∧ r.2.mem ((c.tc : Thread Cert.ProjKV.nD Cert.ProjKV.τ).loc Cert.ProjKV.main_arg2) = m ((c.tc : Thread Cert.ProjKV.nD Cert.ProjKV.τ).loc Cert.ProjKV.main_arg2))
      ∧ r.2.sem = fun _ => 0)

def quiescent_ProjKVIdeal [hProjKVIdeal : Cert.ProjKVIdeal.Facts] : Prop :=
  ∀ (m : (ℓ : Loc Cert.ProjKVIdeal.nD Cert.ProjKVIdeal.τ Cert.ProjKVIdeal.sig) → Buf (Elt Ideal) ℓ) (g : Dev Cert.ProjKVIdeal.nD → PrngReg), Pre_ProjKVIdeal m →
    θ_run (Cert.ProjKVIdeal.defs (F := Ideal)) (onTc (τ := Cert.ProjKVIdeal.τ) (Cert.ProjKVIdeal.main (F := Ideal))) ⟨m, fun _ => 0, g⟩ (fun r => (∀ c : Dev Cert.ProjKVIdeal.nD,
      r.2.mem ((c.tc : Thread Cert.ProjKVIdeal.nD Cert.ProjKVIdeal.τ).loc Cert.ProjKVIdeal.main_arg0) = m ((c.tc : Thread Cert.ProjKVIdeal.nD Cert.ProjKVIdeal.τ).loc Cert.ProjKVIdeal.main_arg0)
      ∧ r.2.mem ((c.tc : Thread Cert.ProjKVIdeal.nD Cert.ProjKVIdeal.τ).loc Cert.ProjKVIdeal.main_arg1) = m ((c.tc : Thread Cert.ProjKVIdeal.nD Cert.ProjKVIdeal.τ).loc Cert.ProjKVIdeal.main_arg1)
      ∧ r.2.mem ((c.tc : Thread Cert.ProjKVIdeal.nD Cert.ProjKVIdeal.τ).loc Cert.ProjKVIdeal.main_arg2) = m ((c.tc : Thread Cert.ProjKVIdeal.nD Cert.ProjKVIdeal.τ).loc Cert.ProjKVIdeal.main_arg2))
      ∧ r.2.sem = fun _ => 0)

def quiescent_ProjKVRefIdeal [hProjKVRefIdeal : Cert.ProjKVRefIdeal.Facts] : Prop :=
  ∀ (m : (ℓ : Loc Cert.ProjKVRefIdeal.nD Cert.ProjKVRefIdeal.τ Cert.ProjKVRefIdeal.sig) → Buf (Elt Ideal) ℓ) (g : Dev Cert.ProjKVRefIdeal.nD → PrngReg), Pre_ProjKVRefIdeal m →
    θ_run (Cert.ProjKVRefIdeal.defs (F := Ideal)) (onTc (τ := Cert.ProjKVRefIdeal.τ) (Cert.ProjKVRefIdeal.main (F := Ideal))) ⟨m, fun _ => 0, g⟩ (fun r => (∀ c : Dev Cert.ProjKVRefIdeal.nD,
      r.2.mem ((c.tc : Thread Cert.ProjKVRefIdeal.nD Cert.ProjKVRefIdeal.τ).loc Cert.ProjKVRefIdeal.main_arg0) = m ((c.tc : Thread Cert.ProjKVRefIdeal.nD Cert.ProjKVRefIdeal.τ).loc Cert.ProjKVRefIdeal.main_arg0)
      ∧ r.2.mem ((c.tc : Thread Cert.ProjKVRefIdeal.nD Cert.ProjKVRefIdeal.τ).loc Cert.ProjKVRefIdeal.main_arg1) = m ((c.tc : Thread Cert.ProjKVRefIdeal.nD Cert.ProjKVRefIdeal.τ).loc Cert.ProjKVRefIdeal.main_arg1)
      ∧ r.2.mem ((c.tc : Thread Cert.ProjKVRefIdeal.nD Cert.ProjKVRefIdeal.τ).loc Cert.ProjKVRefIdeal.main_arg2) = m ((c.tc : Thread Cert.ProjKVRefIdeal.nD Cert.ProjKVRefIdeal.τ).loc Cert.ProjKVRefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_NormH [hNormH : Cert.NormH.Facts] : Prop :=
  ∀ (m : (ℓ : Loc Cert.NormH.nD Cert.NormH.τ Cert.NormH.sig) → Buf (Elt Bits) ℓ) (g : Dev Cert.NormH.nD → PrngReg), Pre_NormH m →
    θ_run (Cert.NormH.defs (F := Bits)) (onTc (τ := Cert.NormH.τ) (Cert.NormH.main (F := Bits))) ⟨m, fun _ => 0, g⟩ (fun r => (∀ c : Dev Cert.NormH.nD,
      r.2.mem ((c.tc : Thread Cert.NormH.nD Cert.NormH.τ).loc Cert.NormH.main_arg0) = m ((c.tc : Thread Cert.NormH.nD Cert.NormH.τ).loc Cert.NormH.main_arg0)
      ∧ r.2.mem ((c.tc : Thread Cert.NormH.nD Cert.NormH.τ).loc Cert.NormH.main_arg1) = m ((c.tc : Thread Cert.NormH.nD Cert.NormH.τ).loc Cert.NormH.main_arg1))
      ∧ r.2.sem = fun _ => 0)

def quiescent_NormHIdeal [hNormHIdeal : Cert.NormHIdeal.Facts] : Prop :=
  ∀ (m : (ℓ : Loc Cert.NormHIdeal.nD Cert.NormHIdeal.τ Cert.NormHIdeal.sig) → Buf (Elt Ideal) ℓ) (g : Dev Cert.NormHIdeal.nD → PrngReg), Pre_NormHIdeal m →
    θ_run (Cert.NormHIdeal.defs (F := Ideal)) (onTc (τ := Cert.NormHIdeal.τ) (Cert.NormHIdeal.main (F := Ideal))) ⟨m, fun _ => 0, g⟩ (fun r => (∀ c : Dev Cert.NormHIdeal.nD,
      r.2.mem ((c.tc : Thread Cert.NormHIdeal.nD Cert.NormHIdeal.τ).loc Cert.NormHIdeal.main_arg0) = m ((c.tc : Thread Cert.NormHIdeal.nD Cert.NormHIdeal.τ).loc Cert.NormHIdeal.main_arg0)
      ∧ r.2.mem ((c.tc : Thread Cert.NormHIdeal.nD Cert.NormHIdeal.τ).loc Cert.NormHIdeal.main_arg1) = m ((c.tc : Thread Cert.NormHIdeal.nD Cert.NormHIdeal.τ).loc Cert.NormHIdeal.main_arg1))
      ∧ r.2.sem = fun _ => 0)

def quiescent_NormHRefIdeal [hNormHRefIdeal : Cert.NormHRefIdeal.Facts] : Prop :=
  ∀ (m : (ℓ : Loc Cert.NormHRefIdeal.nD Cert.NormHRefIdeal.τ Cert.NormHRefIdeal.sig) → Buf (Elt Ideal) ℓ) (g : Dev Cert.NormHRefIdeal.nD → PrngReg), Pre_NormHRefIdeal m →
    θ_run (Cert.NormHRefIdeal.defs (F := Ideal)) (onTc (τ := Cert.NormHRefIdeal.τ) (Cert.NormHRefIdeal.main (F := Ideal))) ⟨m, fun _ => 0, g⟩ (fun r => (∀ c : Dev Cert.NormHRefIdeal.nD,
      r.2.mem ((c.tc : Thread Cert.NormHRefIdeal.nD Cert.NormHRefIdeal.τ).loc Cert.NormHRefIdeal.main_arg0) = m ((c.tc : Thread Cert.NormHRefIdeal.nD Cert.NormHRefIdeal.τ).loc Cert.NormHRefIdeal.main_arg0)
      ∧ r.2.mem ((c.tc : Thread Cert.NormHRefIdeal.nD Cert.NormHRefIdeal.τ).loc Cert.NormHRefIdeal.main_arg1) = m ((c.tc : Thread Cert.NormHRefIdeal.nD Cert.NormHRefIdeal.τ).loc Cert.NormHRefIdeal.main_arg1))
      ∧ r.2.sem = fun _ => 0)

def quiescent_NormY [hNormY : Cert.NormY.Facts] : Prop :=
  ∀ (m : (ℓ : Loc Cert.NormY.nD Cert.NormY.τ Cert.NormY.sig) → Buf (Elt Bits) ℓ) (g : Dev Cert.NormY.nD → PrngReg), Pre_NormY m →
    θ_run (Cert.NormY.defs (F := Bits)) (onTc (τ := Cert.NormY.τ) (Cert.NormY.main (F := Bits))) ⟨m, fun _ => 0, g⟩ (fun r => (∀ c : Dev Cert.NormY.nD,
      r.2.mem ((c.tc : Thread Cert.NormY.nD Cert.NormY.τ).loc Cert.NormY.main_arg0) = m ((c.tc : Thread Cert.NormY.nD Cert.NormY.τ).loc Cert.NormY.main_arg0)
      ∧ r.2.mem ((c.tc : Thread Cert.NormY.nD Cert.NormY.τ).loc Cert.NormY.main_arg1) = m ((c.tc : Thread Cert.NormY.nD Cert.NormY.τ).loc Cert.NormY.main_arg1))
      ∧ r.2.sem = fun _ => 0)

def quiescent_NormYIdeal [hNormYIdeal : Cert.NormYIdeal.Facts] : Prop :=
  ∀ (m : (ℓ : Loc Cert.NormYIdeal.nD Cert.NormYIdeal.τ Cert.NormYIdeal.sig) → Buf (Elt Ideal) ℓ) (g : Dev Cert.NormYIdeal.nD → PrngReg), Pre_NormYIdeal m →
    θ_run (Cert.NormYIdeal.defs (F := Ideal)) (onTc (τ := Cert.NormYIdeal.τ) (Cert.NormYIdeal.main (F := Ideal))) ⟨m, fun _ => 0, g⟩ (fun r => (∀ c : Dev Cert.NormYIdeal.nD,
      r.2.mem ((c.tc : Thread Cert.NormYIdeal.nD Cert.NormYIdeal.τ).loc Cert.NormYIdeal.main_arg0) = m ((c.tc : Thread Cert.NormYIdeal.nD Cert.NormYIdeal.τ).loc Cert.NormYIdeal.main_arg0)
      ∧ r.2.mem ((c.tc : Thread Cert.NormYIdeal.nD Cert.NormYIdeal.τ).loc Cert.NormYIdeal.main_arg1) = m ((c.tc : Thread Cert.NormYIdeal.nD Cert.NormYIdeal.τ).loc Cert.NormYIdeal.main_arg1))
      ∧ r.2.sem = fun _ => 0)

def quiescent_NormYRefIdeal [hNormYRefIdeal : Cert.NormYRefIdeal.Facts] : Prop :=
  ∀ (m : (ℓ : Loc Cert.NormYRefIdeal.nD Cert.NormYRefIdeal.τ Cert.NormYRefIdeal.sig) → Buf (Elt Ideal) ℓ) (g : Dev Cert.NormYRefIdeal.nD → PrngReg), Pre_NormYRefIdeal m →
    θ_run (Cert.NormYRefIdeal.defs (F := Ideal)) (onTc (τ := Cert.NormYRefIdeal.τ) (Cert.NormYRefIdeal.main (F := Ideal))) ⟨m, fun _ => 0, g⟩ (fun r => (∀ c : Dev Cert.NormYRefIdeal.nD,
      r.2.mem ((c.tc : Thread Cert.NormYRefIdeal.nD Cert.NormYRefIdeal.τ).loc Cert.NormYRefIdeal.main_arg0) = m ((c.tc : Thread Cert.NormYRefIdeal.nD Cert.NormYRefIdeal.τ).loc Cert.NormYRefIdeal.main_arg0)
      ∧ r.2.mem ((c.tc : Thread Cert.NormYRefIdeal.nD Cert.NormYRefIdeal.τ).loc Cert.NormYRefIdeal.main_arg1) = m ((c.tc : Thread Cert.NormYRefIdeal.nD Cert.NormYRefIdeal.τ).loc Cert.NormYRefIdeal.main_arg1))
      ∧ r.2.sem = fun _ => 0)

def quiescent_NormT [hNormT : Cert.NormT.Facts] : Prop :=
  ∀ (m : (ℓ : Loc Cert.NormT.nD Cert.NormT.τ Cert.NormT.sig) → Buf (Elt Bits) ℓ) (g : Dev Cert.NormT.nD → PrngReg), Pre_NormT m →
    θ_run (Cert.NormT.defs (F := Bits)) (onTc (τ := Cert.NormT.τ) (Cert.NormT.main (F := Bits))) ⟨m, fun _ => 0, g⟩ (fun r => (∀ c : Dev Cert.NormT.nD,
      r.2.mem ((c.tc : Thread Cert.NormT.nD Cert.NormT.τ).loc Cert.NormT.main_arg0) = m ((c.tc : Thread Cert.NormT.nD Cert.NormT.τ).loc Cert.NormT.main_arg0)
      ∧ r.2.mem ((c.tc : Thread Cert.NormT.nD Cert.NormT.τ).loc Cert.NormT.main_arg1) = m ((c.tc : Thread Cert.NormT.nD Cert.NormT.τ).loc Cert.NormT.main_arg1))
      ∧ r.2.sem = fun _ => 0)

def quiescent_NormTIdeal [hNormTIdeal : Cert.NormTIdeal.Facts] : Prop :=
  ∀ (m : (ℓ : Loc Cert.NormTIdeal.nD Cert.NormTIdeal.τ Cert.NormTIdeal.sig) → Buf (Elt Ideal) ℓ) (g : Dev Cert.NormTIdeal.nD → PrngReg), Pre_NormTIdeal m →
    θ_run (Cert.NormTIdeal.defs (F := Ideal)) (onTc (τ := Cert.NormTIdeal.τ) (Cert.NormTIdeal.main (F := Ideal))) ⟨m, fun _ => 0, g⟩ (fun r => (∀ c : Dev Cert.NormTIdeal.nD,
      r.2.mem ((c.tc : Thread Cert.NormTIdeal.nD Cert.NormTIdeal.τ).loc Cert.NormTIdeal.main_arg0) = m ((c.tc : Thread Cert.NormTIdeal.nD Cert.NormTIdeal.τ).loc Cert.NormTIdeal.main_arg0)
      ∧ r.2.mem ((c.tc : Thread Cert.NormTIdeal.nD Cert.NormTIdeal.τ).loc Cert.NormTIdeal.main_arg1) = m ((c.tc : Thread Cert.NormTIdeal.nD Cert.NormTIdeal.τ).loc Cert.NormTIdeal.main_arg1))
      ∧ r.2.sem = fun _ => 0)

def quiescent_NormTRefIdeal [hNormTRefIdeal : Cert.NormTRefIdeal.Facts] : Prop :=
  ∀ (m : (ℓ : Loc Cert.NormTRefIdeal.nD Cert.NormTRefIdeal.τ Cert.NormTRefIdeal.sig) → Buf (Elt Ideal) ℓ) (g : Dev Cert.NormTRefIdeal.nD → PrngReg), Pre_NormTRefIdeal m →
    θ_run (Cert.NormTRefIdeal.defs (F := Ideal)) (onTc (τ := Cert.NormTRefIdeal.τ) (Cert.NormTRefIdeal.main (F := Ideal))) ⟨m, fun _ => 0, g⟩ (fun r => (∀ c : Dev Cert.NormTRefIdeal.nD,
      r.2.mem ((c.tc : Thread Cert.NormTRefIdeal.nD Cert.NormTRefIdeal.τ).loc Cert.NormTRefIdeal.main_arg0) = m ((c.tc : Thread Cert.NormTRefIdeal.nD Cert.NormTRefIdeal.τ).loc Cert.NormTRefIdeal.main_arg0)
      ∧ r.2.mem ((c.tc : Thread Cert.NormTRefIdeal.nD Cert.NormTRefIdeal.τ).loc Cert.NormTRefIdeal.main_arg1) = m ((c.tc : Thread Cert.NormTRefIdeal.nD Cert.NormTRefIdeal.τ).loc Cert.NormTRefIdeal.main_arg1))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1)
      ∧ r.2.mem ((c.tc : Thread Cert.NormX.nD Cert.NormX.τ).loc Cert.NormX.main_arg2) = m ((c.tc : Thread Cert.NormX.nD Cert.NormX.τ).loc Cert.NormX.main_arg2))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1)
      ∧ r.2.mem ((c.tc : Thread Cert.NormXIdeal.nD Cert.NormXIdeal.τ).loc Cert.NormXIdeal.main_arg2) = m ((c.tc : Thread Cert.NormXIdeal.nD Cert.NormXIdeal.τ).loc Cert.NormXIdeal.main_arg2))
      ∧ r.2.sem = fun _ => 0)

def quiescent_NormXRefIdeal [hNormXRefIdeal : Cert.NormXRefIdeal.Facts] : Prop :=
  ∀ (m : (ℓ : Loc Cert.NormXRefIdeal.nD Cert.NormXRefIdeal.τ Cert.NormXRefIdeal.sig) → Buf (Elt Ideal) ℓ) (g : Dev Cert.NormXRefIdeal.nD → PrngReg), Pre_NormXRefIdeal m →
    θ_run (Cert.NormXRefIdeal.defs (F := Ideal)) (onTc (τ := Cert.NormXRefIdeal.τ) (Cert.NormXRefIdeal.main (F := Ideal))) ⟨m, fun _ => 0, g⟩ (fun r => (∀ c : Dev Cert.NormXRefIdeal.nD,
      r.2.mem ((c.tc : Thread Cert.NormXRefIdeal.nD Cert.NormXRefIdeal.τ).loc Cert.NormXRefIdeal.main_arg0) = m ((c.tc : Thread Cert.NormXRefIdeal.nD Cert.NormXRefIdeal.τ).loc Cert.NormXRefIdeal.main_arg0)
      ∧ r.2.mem ((c.tc : Thread Cert.NormXRefIdeal.nD Cert.NormXRefIdeal.τ).loc Cert.NormXRefIdeal.main_arg1) = m ((c.tc : Thread Cert.NormXRefIdeal.nD Cert.NormXRefIdeal.τ).loc Cert.NormXRefIdeal.main_arg1)
      ∧ r.2.mem ((c.tc : Thread Cert.NormXRefIdeal.nD Cert.NormXRefIdeal.τ).loc Cert.NormXRefIdeal.main_arg2) = m ((c.tc : Thread Cert.NormXRefIdeal.nD Cert.NormXRefIdeal.τ).loc Cert.NormXRefIdeal.main_arg2))
      ∧ r.2.sem = fun _ => 0)

def preserves_Dil0_Dil0Ideal : Prop :=
  IdealRules.named_const.Statement Cert.Dil0Ideal.κ "scale" .f32 0x3DB504F3#32 (((Real.sqrt 128)⁻¹ : ℝ) : EReal)

def algebraic_Dil0Ideal_Dil0RefIdeal_on_rows0 [hDil0Ideal : Cert.Dil0Ideal.Facts] [hDil0RefIdeal : Cert.Dil0RefIdeal.Facts] [hOn_rows0 : Cert.On_rows0.Facts] : Prop :=
  ∀ (m : (ℓ : Loc Cert.Dil0Ideal.nD Cert.Dil0Ideal.τ Cert.Dil0Ideal.sig) → Buf (Elt Ideal) ℓ) (g : Dev Cert.Dil0Ideal.nD → PrngReg)
    (m' : (ℓ : Loc Cert.Dil0RefIdeal.nD Cert.Dil0RefIdeal.τ Cert.Dil0RefIdeal.sig) → Buf (Elt Ideal) ℓ) (g' : Dev Cert.Dil0RefIdeal.nD → PrngReg), Pre_Dil0Ideal m →
    (∀ c : Dev Cert.Dil0Ideal.nD,
      m' ((c.tc : Thread Cert.Dil0RefIdeal.nD Cert.Dil0RefIdeal.τ).loc Cert.Dil0RefIdeal.main_arg0) = m ((c.tc : Thread Cert.Dil0Ideal.nD Cert.Dil0Ideal.τ).loc Cert.Dil0Ideal.main_arg0)) →
    ∃ (v0 : (c : Dev Cert.Dil0Ideal.nD) → Buf (Elt Ideal) ((c.tc : Thread Cert.Dil0Ideal.nD Cert.Dil0Ideal.τ).loc Cert.Dil0Ideal.main_v0_0)) (v1 : (c : Dev Cert.Dil0Ideal.nD) → Buf (Elt Ideal) ((c.tc : Thread Cert.Dil0Ideal.nD Cert.Dil0Ideal.τ).loc Cert.Dil0Ideal.main_v0_1)),
      θ_run (Cert.Dil0Ideal.defs (F := Ideal)) (onTc (τ := Cert.Dil0Ideal.τ) (Cert.Dil0Ideal.main (F := Ideal))) ⟨m, fun _ => 0, g⟩ (fun r => ∀ c : Dev Cert.Dil0Ideal.nD,
          (∀ i : (⟨2, ![8704, 1024]⟩ : Shape).Idx, (Cert.On_rows0.fn (F := Ideal) (m ((c.tc : Thread Cert.Dil0Ideal.nD Cert.Dil0Ideal.τ).loc Cert.Dil0Ideal.main_arg0))).1 i = 1#1 → r.2.mem ((c.tc : Thread Cert.Dil0Ideal.nD Cert.Dil0Ideal.τ).loc Cert.Dil0Ideal.main_v0_0) i = v0 c i)
          ∧ (∀ i : (⟨2, ![8704, 1024]⟩ : Shape).Idx, (Cert.On_rows0.fn (F := Ideal) (m ((c.tc : Thread Cert.Dil0Ideal.nD Cert.Dil0Ideal.τ).loc Cert.Dil0Ideal.main_arg0))).2 i = 1#1 → r.2.mem ((c.tc : Thread Cert.Dil0Ideal.nD Cert.Dil0Ideal.τ).loc Cert.Dil0Ideal.main_v0_1) i = v1 c i)
          ∧ r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0))
      ∧ θ_run (Cert.Dil0RefIdeal.defs (F := Ideal)) (onTc (τ := Cert.Dil0RefIdeal.τ) (Cert.Dil0RefIdeal.main (F := Ideal))) ⟨m', fun _ => 0, g'⟩ (fun r => ∀ c : Dev Cert.Dil0RefIdeal.nD,
          (∀ i : (⟨2, ![8704, 1024]⟩ : Shape).Idx, (Cert.On_rows0.fn (F := Ideal) (m ((c.tc : Thread Cert.Dil0Ideal.nD Cert.Dil0Ideal.τ).loc Cert.Dil0Ideal.main_arg0))).1 i = 1#1 → r.2.mem ((c.tc : Thread Cert.Dil0RefIdeal.nD Cert.Dil0RefIdeal.τ).loc Cert.Dil0RefIdeal.main_v86) i = v0 c i)
          ∧ (∀ i : (⟨2, ![8704, 1024]⟩ : Shape).Idx, (Cert.On_rows0.fn (F := Ideal) (m ((c.tc : Thread Cert.Dil0Ideal.nD Cert.Dil0Ideal.τ).loc Cert.Dil0Ideal.main_arg0))).2 i = 1#1 → r.2.mem ((c.tc : Thread Cert.Dil0RefIdeal.nD Cert.Dil0RefIdeal.τ).loc Cert.Dil0RefIdeal.main_v88) i = v1 c i)
          ∧ r.2.mem ((c.tc : Thread Cert.Dil0RefIdeal.nD Cert.Dil0RefIdeal.τ).loc Cert.Dil0RefIdeal.main_arg0) = m' ((c.tc : Thread Cert.Dil0RefIdeal.nD Cert.Dil0RefIdeal.τ).loc Cert.Dil0RefIdeal.main_arg0))

def preserves_Dil1_Dil1Ideal : Prop :=
  IdealRules.named_const.Statement Cert.Dil1Ideal.κ "scale" .f32 0x3DB504F3#32 (((Real.sqrt 128)⁻¹ : ℝ) : EReal)

def algebraic_Dil1Ideal_Dil1RefIdeal_on_rows1 [hDil1Ideal : Cert.Dil1Ideal.Facts] [hDil1RefIdeal : Cert.Dil1RefIdeal.Facts] [hOn_rows1 : Cert.On_rows1.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)) →
    ∃ (v0 : (c : Dev Cert.Dil1Ideal.nD) → Buf (Elt Ideal) ((c.tc : Thread Cert.Dil1Ideal.nD Cert.Dil1Ideal.τ).loc Cert.Dil1Ideal.main_v1_0)) (v1 : (c : Dev Cert.Dil1Ideal.nD) → Buf (Elt Ideal) ((c.tc : Thread Cert.Dil1Ideal.nD Cert.Dil1Ideal.τ).loc Cert.Dil1Ideal.main_v1_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          (∀ i : (⟨2, ![2176, 4096]⟩ : Shape).Idx, (Cert.On_rows1.fn (F := Ideal) (m ((c.tc : Thread Cert.Dil1Ideal.nD Cert.Dil1Ideal.τ).loc Cert.Dil1Ideal.main_arg0))).1 i = 1#1 → r.2.mem ((c.tc : Thread Cert.Dil1Ideal.nD Cert.Dil1Ideal.τ).loc Cert.Dil1Ideal.main_v1_0) i = v0 c i)
          ∧ (∀ i : (⟨2, ![2176, 4096]⟩ : Shape).Idx, (Cert.On_rows1.fn (F := Ideal) (m ((c.tc : Thread Cert.Dil1Ideal.nD Cert.Dil1Ideal.τ).loc Cert.Dil1Ideal.main_arg0))).2 i = 1#1 → r.2.mem ((c.tc : Thread Cert.Dil1Ideal.nD Cert.Dil1Ideal.τ).loc Cert.Dil1Ideal.main_v1_1) i = v1 c i)
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          (∀ i : (⟨2, ![2176, 4096]⟩ : Shape).Idx, (Cert.On_rows1.fn (F := Ideal) (m ((c.tc : Thread Cert.Dil1Ideal.nD Cert.Dil1Ideal.τ).loc Cert.Dil1Ideal.main_arg0))).1 i = 1#1 → r.2.mem ((c.tc : Thread Cert.Dil1RefIdeal.nD Cert.Dil1RefIdeal.τ).loc Cert.Dil1RefIdeal.main_v86) i = v0 c i)
          ∧ (∀ i : (⟨2, ![2176, 4096]⟩ : Shape).Idx, (Cert.On_rows1.fn (F := Ideal) (m ((c.tc : Thread Cert.Dil1Ideal.nD Cert.Dil1Ideal.τ).loc Cert.Dil1Ideal.main_arg0))).2 i = 1#1 → r.2.mem ((c.tc : Thread Cert.Dil1RefIdeal.nD Cert.Dil1RefIdeal.τ).loc Cert.Dil1RefIdeal.main_v88) i = v1 c i)
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0))

def preserves_Dil2_Dil2Ideal : Prop :=
  IdealRules.named_const.Statement Cert.Dil2Ideal.κ "scale" .f32 0x3DB504F3#32 (((Real.sqrt 128)⁻¹ : ℝ) : EReal)

def algebraic_Dil2Ideal_Dil2RefIdeal_on_rows2 [hDil2Ideal : Cert.Dil2Ideal.Facts] [hDil2RefIdeal : Cert.Dil2RefIdeal.Facts] [hOn_rows2 : Cert.On_rows2.Facts] : Prop :=
  ∀ (m : (ℓ : Loc Cert.Dil2Ideal.nD Cert.Dil2Ideal.τ Cert.Dil2Ideal.sig) → Buf (Elt Ideal) ℓ) (g : Dev Cert.Dil2Ideal.nD → PrngReg)
    (m' : (ℓ : Loc Cert.Dil2RefIdeal.nD Cert.Dil2RefIdeal.τ Cert.Dil2RefIdeal.sig) → Buf (Elt Ideal) ℓ) (g' : Dev Cert.Dil2RefIdeal.nD → PrngReg), Pre_Dil2Ideal m →
    (∀ c : Dev Cert.Dil2Ideal.nD,
      m' ((c.tc : Thread Cert.Dil2RefIdeal.nD Cert.Dil2RefIdeal.τ).loc Cert.Dil2RefIdeal.main_arg0) = m ((c.tc : Thread Cert.Dil2Ideal.nD Cert.Dil2Ideal.τ).loc Cert.Dil2Ideal.main_arg0)) →
    ∃ (v0 : (c : Dev Cert.Dil2Ideal.nD) → Buf (Elt Ideal) ((c.tc : Thread Cert.Dil2Ideal.nD Cert.Dil2Ideal.τ).loc Cert.Dil2Ideal.main_v1_0)) (v1 : (c : Dev Cert.Dil2Ideal.nD) → Buf (Elt Ideal) ((c.tc : Thread Cert.Dil2Ideal.nD Cert.Dil2Ideal.τ).loc Cert.Dil2Ideal.main_v1_1)),
      θ_run (Cert.Dil2Ideal.defs (F := Ideal)) (onTc (τ := Cert.Dil2Ideal.τ) (Cert.Dil2Ideal.main (F := Ideal))) ⟨m, fun _ => 0, g⟩ (fun r => ∀ c : Dev Cert.Dil2Ideal.nD,
          (∀ i : (⟨2, ![544, 16384]⟩ : Shape).Idx, (Cert.On_rows2.fn (F := Ideal) (m ((c.tc : Thread Cert.Dil2Ideal.nD Cert.Dil2Ideal.τ).loc Cert.Dil2Ideal.main_arg0))).1 i = 1#1 → r.2.mem ((c.tc : Thread Cert.Dil2Ideal.nD Cert.Dil2Ideal.τ).loc Cert.Dil2Ideal.main_v1_0) i = v0 c i)
          ∧ (∀ i : (⟨2, ![544, 16384]⟩ : Shape).Idx, (Cert.On_rows2.fn (F := Ideal) (m ((c.tc : Thread Cert.Dil2Ideal.nD Cert.Dil2Ideal.τ).loc Cert.Dil2Ideal.main_arg0))).2 i = 1#1 → r.2.mem ((c.tc : Thread Cert.Dil2Ideal.nD Cert.Dil2Ideal.τ).loc Cert.Dil2Ideal.main_v1_1) i = v1 c i)
          ∧ r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0))
      ∧ θ_run (Cert.Dil2RefIdeal.defs (F := Ideal)) (onTc (τ := Cert.Dil2RefIdeal.τ) (Cert.Dil2RefIdeal.main (F := Ideal))) ⟨m', fun _ => 0, g'⟩ (fun r => ∀ c : Dev Cert.Dil2RefIdeal.nD,
          (∀ i : (⟨2, ![544, 16384]⟩ : Shape).Idx, (Cert.On_rows2.fn (F := Ideal) (m ((c.tc : Thread Cert.Dil2Ideal.nD Cert.Dil2Ideal.τ).loc Cert.Dil2Ideal.main_arg0))).1 i = 1#1 → r.2.mem ((c.tc : Thread Cert.Dil2RefIdeal.nD Cert.Dil2RefIdeal.τ).loc Cert.Dil2RefIdeal.main_v86) i = v0 c i)
          ∧ (∀ i : (⟨2, ![544, 16384]⟩ : Shape).Idx, (Cert.On_rows2.fn (F := Ideal) (m ((c.tc : Thread Cert.Dil2Ideal.nD Cert.Dil2Ideal.τ).loc Cert.Dil2Ideal.main_arg0))).2 i = 1#1 → r.2.mem ((c.tc : Thread Cert.Dil2RefIdeal.nD Cert.Dil2RefIdeal.τ).loc Cert.Dil2RefIdeal.main_v88) i = v1 c i)
          ∧ r.2.mem ((c.tc : Thread Cert.Dil2RefIdeal.nD Cert.Dil2RefIdeal.τ).loc Cert.Dil2RefIdeal.main_arg0) = m' ((c.tc : Thread Cert.Dil2RefIdeal.nD Cert.Dil2RefIdeal.τ).loc Cert.Dil2RefIdeal.main_arg0))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v2) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v2) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v10) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)) →
    ∃ (v0 : (c : Dev Cert.ProjQIdeal.nD) → Buf (Elt Ideal) ((c.tc : Thread Cert.ProjQIdeal.nD Cert.ProjQIdeal.τ).loc Cert.ProjQIdeal.main_v19)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v19) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v33) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2))

def preserves_ProjKV_ProjKVIdeal : Prop :=
  True

def algebraic_ProjKVIdeal_ProjKVRefIdeal [hProjKVIdeal : Cert.ProjKVIdeal.Facts] [hProjKVRefIdeal : Cert.ProjKVRefIdeal.Facts] : Prop :=
  ∀ (m : (ℓ : Loc Cert.ProjKVIdeal.nD Cert.ProjKVIdeal.τ Cert.ProjKVIdeal.sig) → Buf (Elt Ideal) ℓ) (g : Dev Cert.ProjKVIdeal.nD → PrngReg)
    (m' : (ℓ : Loc Cert.ProjKVRefIdeal.nD Cert.ProjKVRefIdeal.τ Cert.ProjKVRefIdeal.sig) → Buf (Elt Ideal) ℓ) (g' : Dev Cert.ProjKVRefIdeal.nD → PrngReg), Pre_ProjKVIdeal m →
    (∀ c : Dev Cert.ProjKVIdeal.nD,
      m' ((c.tc : Thread Cert.ProjKVRefIdeal.nD Cert.ProjKVRefIdeal.τ).loc Cert.ProjKVRefIdeal.main_arg0) = m ((c.tc : Thread Cert.ProjKVIdeal.nD Cert.ProjKVIdeal.τ).loc Cert.ProjKVIdeal.main_arg0)
      ∧ m' ((c.tc : Thread Cert.ProjKVRefIdeal.nD Cert.ProjKVRefIdeal.τ).loc Cert.ProjKVRefIdeal.main_arg1) = m ((c.tc : Thread Cert.ProjKVIdeal.nD Cert.ProjKVIdeal.τ).loc Cert.ProjKVIdeal.main_arg1)
      ∧ m' ((c.tc : Thread Cert.ProjKVRefIdeal.nD Cert.ProjKVRefIdeal.τ).loc Cert.ProjKVRefIdeal.main_arg2) = m ((c.tc : Thread Cert.ProjKVIdeal.nD Cert.ProjKVIdeal.τ).loc Cert.ProjKVIdeal.main_arg2)) →
    ∃ (v0 : (c : Dev Cert.ProjKVIdeal.nD) → Buf (Elt Ideal) ((c.tc : Thread Cert.ProjKVIdeal.nD Cert.ProjKVIdeal.τ).loc Cert.ProjKVIdeal.main_v19)),
      θ_run (Cert.ProjKVIdeal.defs (F := Ideal)) (onTc (τ := Cert.ProjKVIdeal.τ) (Cert.ProjKVIdeal.main (F := Ideal))) ⟨m, fun _ => 0, g⟩ (fun r => ∀ c : Dev Cert.ProjKVIdeal.nD,
          r.2.mem ((c.tc : Thread Cert.ProjKVIdeal.nD Cert.ProjKVIdeal.τ).loc Cert.ProjKVIdeal.main_v19) = v0 c
          ∧ r.2.mem ((c.tc : Thread Cert.ProjKVIdeal.nD Cert.ProjKVIdeal.τ).loc Cert.ProjKVIdeal.main_arg0) = m ((c.tc : Thread Cert.ProjKVIdeal.nD Cert.ProjKVIdeal.τ).loc Cert.ProjKVIdeal.main_arg0)
          ∧ r.2.mem ((c.tc : Thread Cert.ProjKVIdeal.nD Cert.ProjKVIdeal.τ).loc Cert.ProjKVIdeal.main_arg1) = m ((c.tc : Thread Cert.ProjKVIdeal.nD Cert.ProjKVIdeal.τ).loc Cert.ProjKVIdeal.main_arg1)
          ∧ r.2.mem ((c.tc : Thread Cert.ProjKVIdeal.nD Cert.ProjKVIdeal.τ).loc Cert.ProjKVIdeal.main_arg2) = m ((c.tc : Thread Cert.ProjKVIdeal.nD Cert.ProjKVIdeal.τ).loc Cert.ProjKVIdeal.main_arg2))
      ∧ θ_run (Cert.ProjKVRefIdeal.defs (F := Ideal)) (onTc (τ := Cert.ProjKVRefIdeal.τ) (Cert.ProjKVRefIdeal.main (F := Ideal))) ⟨m', fun _ => 0, g'⟩ (fun r => ∀ c : Dev Cert.ProjKVRefIdeal.nD,
          r.2.mem ((c.tc : Thread Cert.ProjKVRefIdeal.nD Cert.ProjKVRefIdeal.τ).loc Cert.ProjKVRefIdeal.main_v36) = v0 c
          ∧ r.2.mem ((c.tc : Thread Cert.ProjKVRefIdeal.nD Cert.ProjKVRefIdeal.τ).loc Cert.ProjKVRefIdeal.main_arg0) = m' ((c.tc : Thread Cert.ProjKVRefIdeal.nD Cert.ProjKVRefIdeal.τ).loc Cert.ProjKVRefIdeal.main_arg0)
          ∧ r.2.mem ((c.tc : Thread Cert.ProjKVRefIdeal.nD Cert.ProjKVRefIdeal.τ).loc Cert.ProjKVRefIdeal.main_arg1) = m' ((c.tc : Thread Cert.ProjKVRefIdeal.nD Cert.ProjKVRefIdeal.τ).loc Cert.ProjKVRefIdeal.main_arg1)
          ∧ r.2.mem ((c.tc : Thread Cert.ProjKVRefIdeal.nD Cert.ProjKVRefIdeal.τ).loc Cert.ProjKVRefIdeal.main_arg2) = m' ((c.tc : Thread Cert.ProjKVRefIdeal.nD Cert.ProjKVRefIdeal.τ).loc Cert.ProjKVRefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v19)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v19) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v73) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_NormH_NormHIdeal : Prop :=
  True

def algebraic_NormHIdeal_NormHRefIdeal [hNormHIdeal : Cert.NormHIdeal.Facts] [hNormHRefIdeal : Cert.NormHRefIdeal.Facts] : Prop :=
  ∀ (m : (ℓ : Loc Cert.NormHIdeal.nD Cert.NormHIdeal.τ Cert.NormHIdeal.sig) → Buf (Elt Ideal) ℓ) (g : Dev Cert.NormHIdeal.nD → PrngReg)
    (m' : (ℓ : Loc Cert.NormHRefIdeal.nD Cert.NormHRefIdeal.τ Cert.NormHRefIdeal.sig) → Buf (Elt Ideal) ℓ) (g' : Dev Cert.NormHRefIdeal.nD → PrngReg), Pre_NormHIdeal m →
    (∀ c : Dev Cert.NormHIdeal.nD,
      m' ((c.tc : Thread Cert.NormHRefIdeal.nD Cert.NormHRefIdeal.τ).loc Cert.NormHRefIdeal.main_arg0) = m ((c.tc : Thread Cert.NormHIdeal.nD Cert.NormHIdeal.τ).loc Cert.NormHIdeal.main_arg0)
      ∧ m' ((c.tc : Thread Cert.NormHRefIdeal.nD Cert.NormHRefIdeal.τ).loc Cert.NormHRefIdeal.main_arg1) = m ((c.tc : Thread Cert.NormHIdeal.nD Cert.NormHIdeal.τ).loc Cert.NormHIdeal.main_arg1)) →
    ∃ (v0 : (c : Dev Cert.NormHIdeal.nD) → Buf (Elt Ideal) ((c.tc : Thread Cert.NormHIdeal.nD Cert.NormHIdeal.τ).loc Cert.NormHIdeal.main_v1)),
      θ_run (Cert.NormHIdeal.defs (F := Ideal)) (onTc (τ := Cert.NormHIdeal.τ) (Cert.NormHIdeal.main (F := Ideal))) ⟨m, fun _ => 0, g⟩ (fun r => ∀ c : Dev Cert.NormHIdeal.nD,
          r.2.mem ((c.tc : Thread Cert.NormHIdeal.nD Cert.NormHIdeal.τ).loc Cert.NormHIdeal.main_v1) = v0 c
          ∧ r.2.mem ((c.tc : Thread Cert.NormHIdeal.nD Cert.NormHIdeal.τ).loc Cert.NormHIdeal.main_arg0) = m ((c.tc : Thread Cert.NormHIdeal.nD Cert.NormHIdeal.τ).loc Cert.NormHIdeal.main_arg0)
          ∧ r.2.mem ((c.tc : Thread Cert.NormHIdeal.nD Cert.NormHIdeal.τ).loc Cert.NormHIdeal.main_arg1) = m ((c.tc : Thread Cert.NormHIdeal.nD Cert.NormHIdeal.τ).loc Cert.NormHIdeal.main_arg1))
      ∧ θ_run (Cert.NormHRefIdeal.defs (F := Ideal)) (onTc (τ := Cert.NormHRefIdeal.τ) (Cert.NormHRefIdeal.main (F := Ideal))) ⟨m', fun _ => 0, g'⟩ (fun r => ∀ c : Dev Cert.NormHRefIdeal.nD,
          r.2.mem ((c.tc : Thread Cert.NormHRefIdeal.nD Cert.NormHRefIdeal.τ).loc Cert.NormHRefIdeal.main_v13) = v0 c
          ∧ r.2.mem ((c.tc : Thread Cert.NormHRefIdeal.nD Cert.NormHRefIdeal.τ).loc Cert.NormHRefIdeal.main_arg0) = m' ((c.tc : Thread Cert.NormHRefIdeal.nD Cert.NormHRefIdeal.τ).loc Cert.NormHRefIdeal.main_arg0)
          ∧ r.2.mem ((c.tc : Thread Cert.NormHRefIdeal.nD Cert.NormHRefIdeal.τ).loc Cert.NormHRefIdeal.main_arg1) = m' ((c.tc : Thread Cert.NormHRefIdeal.nD Cert.NormHRefIdeal.τ).loc Cert.NormHRefIdeal.main_arg1))

def preserves_NormY_NormYIdeal : Prop :=
  True

def algebraic_NormYIdeal_NormYRefIdeal [hNormYIdeal : Cert.NormYIdeal.Facts] [hNormYRefIdeal : Cert.NormYRefIdeal.Facts] : Prop :=
  ∀ (m : (ℓ : Loc Cert.NormYIdeal.nD Cert.NormYIdeal.τ Cert.NormYIdeal.sig) → Buf (Elt Ideal) ℓ) (g : Dev Cert.NormYIdeal.nD → PrngReg)
    (m' : (ℓ : Loc Cert.NormYRefIdeal.nD Cert.NormYRefIdeal.τ Cert.NormYRefIdeal.sig) → Buf (Elt Ideal) ℓ) (g' : Dev Cert.NormYRefIdeal.nD → PrngReg), Pre_NormYIdeal m →
    (∀ c : Dev Cert.NormYIdeal.nD,
      m' ((c.tc : Thread Cert.NormYRefIdeal.nD Cert.NormYRefIdeal.τ).loc Cert.NormYRefIdeal.main_arg0) = m ((c.tc : Thread Cert.NormYIdeal.nD Cert.NormYIdeal.τ).loc Cert.NormYIdeal.main_arg0)
      ∧ m' ((c.tc : Thread Cert.NormYRefIdeal.nD Cert.NormYRefIdeal.τ).loc Cert.NormYRefIdeal.main_arg1) = m ((c.tc : Thread Cert.NormYIdeal.nD Cert.NormYIdeal.τ).loc Cert.NormYIdeal.main_arg1)) →
    ∃ (v0 : (c : Dev Cert.NormYIdeal.nD) → Buf (Elt Ideal) ((c.tc : Thread Cert.NormYIdeal.nD Cert.NormYIdeal.τ).loc Cert.NormYIdeal.main_v1)),
      θ_run (Cert.NormYIdeal.defs (F := Ideal)) (onTc (τ := Cert.NormYIdeal.τ) (Cert.NormYIdeal.main (F := Ideal))) ⟨m, fun _ => 0, g⟩ (fun r => ∀ c : Dev Cert.NormYIdeal.nD,
          r.2.mem ((c.tc : Thread Cert.NormYIdeal.nD Cert.NormYIdeal.τ).loc Cert.NormYIdeal.main_v1) = v0 c
          ∧ r.2.mem ((c.tc : Thread Cert.NormYIdeal.nD Cert.NormYIdeal.τ).loc Cert.NormYIdeal.main_arg0) = m ((c.tc : Thread Cert.NormYIdeal.nD Cert.NormYIdeal.τ).loc Cert.NormYIdeal.main_arg0)
          ∧ r.2.mem ((c.tc : Thread Cert.NormYIdeal.nD Cert.NormYIdeal.τ).loc Cert.NormYIdeal.main_arg1) = m ((c.tc : Thread Cert.NormYIdeal.nD Cert.NormYIdeal.τ).loc Cert.NormYIdeal.main_arg1))
      ∧ θ_run (Cert.NormYRefIdeal.defs (F := Ideal)) (onTc (τ := Cert.NormYRefIdeal.τ) (Cert.NormYRefIdeal.main (F := Ideal))) ⟨m', fun _ => 0, g'⟩ (fun r => ∀ c : Dev Cert.NormYRefIdeal.nD,
          r.2.mem ((c.tc : Thread Cert.NormYRefIdeal.nD Cert.NormYRefIdeal.τ).loc Cert.NormYRefIdeal.main_v12) = v0 c
          ∧ r.2.mem ((c.tc : Thread Cert.NormYRefIdeal.nD Cert.NormYRefIdeal.τ).loc Cert.NormYRefIdeal.main_arg0) = m' ((c.tc : Thread Cert.NormYRefIdeal.nD Cert.NormYRefIdeal.τ).loc Cert.NormYRefIdeal.main_arg0)
          ∧ r.2.mem ((c.tc : Thread Cert.NormYRefIdeal.nD Cert.NormYRefIdeal.τ).loc Cert.NormYRefIdeal.main_arg1) = m' ((c.tc : Thread Cert.NormYRefIdeal.nD Cert.NormYRefIdeal.τ).loc Cert.NormYRefIdeal.main_arg1))

def preserves_NormT_NormTIdeal : Prop :=
  True

def algebraic_NormTIdeal_NormTRefIdeal [hNormTIdeal : Cert.NormTIdeal.Facts] [hNormTRefIdeal : Cert.NormTRefIdeal.Facts] : Prop :=
  ∀ (m : (ℓ : Loc Cert.NormTIdeal.nD Cert.NormTIdeal.τ Cert.NormTIdeal.sig) → Buf (Elt Ideal) ℓ) (g : Dev Cert.NormTIdeal.nD → PrngReg)
    (m' : (ℓ : Loc Cert.NormTRefIdeal.nD Cert.NormTRefIdeal.τ Cert.NormTRefIdeal.sig) → Buf (Elt Ideal) ℓ) (g' : Dev Cert.NormTRefIdeal.nD → PrngReg), Pre_NormTIdeal m →
    (∀ c : Dev Cert.NormTIdeal.nD,
      m' ((c.tc : Thread Cert.NormTRefIdeal.nD Cert.NormTRefIdeal.τ).loc Cert.NormTRefIdeal.main_arg0) = m ((c.tc : Thread Cert.NormTIdeal.nD Cert.NormTIdeal.τ).loc Cert.NormTIdeal.main_arg0)
      ∧ m' ((c.tc : Thread Cert.NormTRefIdeal.nD Cert.NormTRefIdeal.τ).loc Cert.NormTRefIdeal.main_arg1) = m ((c.tc : Thread Cert.NormTIdeal.nD Cert.NormTIdeal.τ).loc Cert.NormTIdeal.main_arg1)) →
    ∃ (v0 : (c : Dev Cert.NormTIdeal.nD) → Buf (Elt Ideal) ((c.tc : Thread Cert.NormTIdeal.nD Cert.NormTIdeal.τ).loc Cert.NormTIdeal.main_v1)),
      θ_run (Cert.NormTIdeal.defs (F := Ideal)) (onTc (τ := Cert.NormTIdeal.τ) (Cert.NormTIdeal.main (F := Ideal))) ⟨m, fun _ => 0, g⟩ (fun r => ∀ c : Dev Cert.NormTIdeal.nD,
          r.2.mem ((c.tc : Thread Cert.NormTIdeal.nD Cert.NormTIdeal.τ).loc Cert.NormTIdeal.main_v1) = v0 c
          ∧ r.2.mem ((c.tc : Thread Cert.NormTIdeal.nD Cert.NormTIdeal.τ).loc Cert.NormTIdeal.main_arg0) = m ((c.tc : Thread Cert.NormTIdeal.nD Cert.NormTIdeal.τ).loc Cert.NormTIdeal.main_arg0)
          ∧ r.2.mem ((c.tc : Thread Cert.NormTIdeal.nD Cert.NormTIdeal.τ).loc Cert.NormTIdeal.main_arg1) = m ((c.tc : Thread Cert.NormTIdeal.nD Cert.NormTIdeal.τ).loc Cert.NormTIdeal.main_arg1))
      ∧ θ_run (Cert.NormTRefIdeal.defs (F := Ideal)) (onTc (τ := Cert.NormTRefIdeal.τ) (Cert.NormTRefIdeal.main (F := Ideal))) ⟨m', fun _ => 0, g'⟩ (fun r => ∀ c : Dev Cert.NormTRefIdeal.nD,
          r.2.mem ((c.tc : Thread Cert.NormTRefIdeal.nD Cert.NormTRefIdeal.τ).loc Cert.NormTRefIdeal.main_v14) = v0 c
          ∧ r.2.mem ((c.tc : Thread Cert.NormTRefIdeal.nD Cert.NormTRefIdeal.τ).loc Cert.NormTRefIdeal.main_arg0) = m' ((c.tc : Thread Cert.NormTRefIdeal.nD Cert.NormTRefIdeal.τ).loc Cert.NormTRefIdeal.main_arg0)
          ∧ r.2.mem ((c.tc : Thread Cert.NormTRefIdeal.nD Cert.NormTRefIdeal.τ).loc Cert.NormTRefIdeal.main_arg1) = m' ((c.tc : Thread Cert.NormTRefIdeal.nD Cert.NormTRefIdeal.τ).loc Cert.NormTRefIdeal.main_arg1))

def preserves_NormX_NormXIdeal : Prop :=
  True

def algebraic_NormXIdeal_NormXRefIdeal [hNormXIdeal : Cert.NormXIdeal.Facts] [hNormXRefIdeal : Cert.NormXRefIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXRefIdeal.nD Cert.NormXRefIdeal.τ Cert.NormXRefIdeal.sig) → Buf (Elt Ideal) ℓ) (g' : Dev Cert.NormXRefIdeal.nD → PrngReg), Pre_NormXIdeal m →
    (∀ c : Dev Cert.NormXIdeal.nD,
      m' ((c.tc : Thread Cert.NormXRefIdeal.nD Cert.NormXRefIdeal.τ).loc Cert.NormXRefIdeal.main_arg0) = m ((c.tc : Thread Cert.NormXIdeal.nD Cert.NormXIdeal.τ).loc Cert.NormXIdeal.main_arg0)
      ∧ m' ((c.tc : Thread Cert.NormXRefIdeal.nD Cert.NormXRefIdeal.τ).loc Cert.NormXRefIdeal.main_arg1) = m ((c.tc : Thread Cert.NormXIdeal.nD Cert.NormXIdeal.τ).loc Cert.NormXIdeal.main_arg1)
      ∧ m' ((c.tc : Thread Cert.NormXRefIdeal.nD Cert.NormXRefIdeal.τ).loc Cert.NormXRefIdeal.main_arg2) = m ((c.tc : Thread Cert.NormXIdeal.nD Cert.NormXIdeal.τ).loc Cert.NormXIdeal.main_arg2)) →
    ∃ (v0 : (c : Dev Cert.NormXIdeal.nD) → Buf (Elt Ideal) ((c.tc : Thread Cert.NormXIdeal.nD Cert.NormXIdeal.τ).loc Cert.NormXIdeal.main_v1_0)) (v1 : (c : Dev Cert.NormXIdeal.nD) → Buf (Elt Ideal) ((c.tc : Thread Cert.NormXIdeal.nD Cert.NormXIdeal.τ).loc Cert.NormXIdeal.main_v1_1)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v1_0) = v0 c
          ∧ r.2.mem ((c.tc : Thread Cert.NormXIdeal.nD Cert.NormXIdeal.τ).loc Cert.NormXIdeal.main_v1_1) = v1 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1)
          ∧ r.2.mem ((c.tc : Thread Cert.NormXIdeal.nD Cert.NormXIdeal.τ).loc Cert.NormXIdeal.main_arg2) = m ((c.tc : Thread Cert.NormXIdeal.nD Cert.NormXIdeal.τ).loc Cert.NormXIdeal.main_arg2))
      ∧ θ_run (Cert.NormXRefIdeal.defs (F := Ideal)) (onTc (τ := Cert.NormXRefIdeal.τ) (Cert.NormXRefIdeal.main (F := Ideal))) ⟨m', fun _ => 0, g'⟩ (fun r => ∀ c : Dev Cert.NormXRefIdeal.nD,
          r.2.mem ((c.tc : Thread Cert.NormXRefIdeal.nD Cert.NormXRefIdeal.τ).loc Cert.NormXRefIdeal.main_v1) = v0 c
          ∧ r.2.mem ((c.tc : Thread Cert.NormXRefIdeal.nD Cert.NormXRefIdeal.τ).loc Cert.NormXRefIdeal.main_v15) = v1 c
          ∧ r.2.mem ((c.tc : Thread Cert.NormXRefIdeal.nD Cert.NormXRefIdeal.τ).loc Cert.NormXRefIdeal.main_arg0) = m' ((c.tc : Thread Cert.NormXRefIdeal.nD Cert.NormXRefIdeal.τ).loc Cert.NormXRefIdeal.main_arg0)
          ∧ r.2.mem ((c.tc : Thread Cert.NormXRefIdeal.nD Cert.NormXRefIdeal.τ).loc Cert.NormXRefIdeal.main_arg1) = m' ((c.tc : Thread Cert.NormXRefIdeal.nD Cert.NormXRefIdeal.τ).loc Cert.NormXRefIdeal.main_arg1)
          ∧ r.2.mem ((c.tc : Thread Cert.NormXRefIdeal.nD Cert.NormXRefIdeal.τ).loc Cert.NormXRefIdeal.main_arg2) = m' ((c.tc : Thread Cert.NormXRefIdeal.nD Cert.NormXRefIdeal.τ).loc Cert.NormXRefIdeal.main_arg2))

def Claim : Prop :=
  ∃ (hDil0 : Cert.Dil0.Facts) (hDil0Ideal : Cert.Dil0Ideal.Facts) (hDil0RefIdeal : Cert.Dil0RefIdeal.Facts) (hDil1 : Cert.Dil1.Facts) (hDil1Ideal : Cert.Dil1Ideal.Facts) (hDil1RefIdeal : Cert.Dil1RefIdeal.Facts) (hDil2 : Cert.Dil2.Facts) (hDil2Ideal : Cert.Dil2Ideal.Facts) (hDil2RefIdeal : Cert.Dil2RefIdeal.Facts) (hOutA : Cert.OutA.Facts) (hOutAIdeal : Cert.OutAIdeal.Facts) (hOutARefIdeal : Cert.OutARefIdeal.Facts) (hOutB : Cert.OutB.Facts) (hOutBIdeal : Cert.OutBIdeal.Facts) (hOutBRefIdeal : Cert.OutBRefIdeal.Facts) (hPle : Cert.Ple.Facts) (hPleIdeal : Cert.PleIdeal.Facts) (hPleRefIdeal : Cert.PleRefIdeal.Facts) (hProjQ : Cert.ProjQ.Facts) (hProjQIdeal : Cert.ProjQIdeal.Facts) (hProjQRefIdeal : Cert.ProjQRefIdeal.Facts) (hProjKV : Cert.ProjKV.Facts) (hProjKVIdeal : Cert.ProjKVIdeal.Facts) (hProjKVRefIdeal : Cert.ProjKVRefIdeal.Facts) (hProjA : Cert.ProjA.Facts) (hProjAIdeal : Cert.ProjAIdeal.Facts) (hProjARefIdeal : Cert.ProjARefIdeal.Facts) (hNormH : Cert.NormH.Facts) (hNormHIdeal : Cert.NormHIdeal.Facts) (hNormHRefIdeal : Cert.NormHRefIdeal.Facts) (hNormY : Cert.NormY.Facts) (hNormYIdeal : Cert.NormYIdeal.Facts) (hNormYRefIdeal : Cert.NormYRefIdeal.Facts) (hNormT : Cert.NormT.Facts) (hNormTIdeal : Cert.NormTIdeal.Facts) (hNormTRefIdeal : Cert.NormTRefIdeal.Facts) (hNormX : Cert.NormX.Facts) (hNormXIdeal : Cert.NormXIdeal.Facts) (hNormXRefIdeal : Cert.NormXRefIdeal.Facts) (hOn_rows0 : Cert.On_rows0.Facts) (hOn_rows1 : Cert.On_rows1.Facts) (hOn_rows2 : Cert.On_rows2.Facts),
    quiescent_Dil0 (hDil0 := hDil0)
    ∧ quiescent_Dil0Ideal (hDil0Ideal := hDil0Ideal)
    ∧ quiescent_Dil0RefIdeal (hDil0RefIdeal := hDil0RefIdeal)
    ∧ quiescent_Dil1 (hDil1 := hDil1)
    ∧ quiescent_Dil1Ideal (hDil1Ideal := hDil1Ideal)
    ∧ quiescent_Dil1RefIdeal (hDil1RefIdeal := hDil1RefIdeal)
    ∧ quiescent_Dil2 (hDil2 := hDil2)
    ∧ quiescent_Dil2Ideal (hDil2Ideal := hDil2Ideal)
    ∧ quiescent_Dil2RefIdeal (hDil2RefIdeal := hDil2RefIdeal)
    ∧ quiescent_OutA (hOutA := hOutA)
    ∧ quiescent_OutAIdeal (hOutAIdeal := hOutAIdeal)
    ∧ quiescent_OutARefIdeal (hOutARefIdeal := hOutARefIdeal)
    ∧ quiescent_OutB (hOutB := hOutB)
    ∧ quiescent_OutBIdeal (hOutBIdeal := hOutBIdeal)
    ∧ quiescent_OutBRefIdeal (hOutBRefIdeal := hOutBRefIdeal)
    ∧ quiescent_Ple (hPle := hPle)
    ∧ quiescent_PleIdeal (hPleIdeal := hPleIdeal)
    ∧ quiescent_PleRefIdeal (hPleRefIdeal := hPleRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjKV (hProjKV := hProjKV)
    ∧ quiescent_ProjKVIdeal (hProjKVIdeal := hProjKVIdeal)
    ∧ quiescent_ProjKVRefIdeal (hProjKVRefIdeal := hProjKVRefIdeal)
    ∧ quiescent_ProjA (hProjA := hProjA)
    ∧ quiescent_ProjAIdeal (hProjAIdeal := hProjAIdeal)
    ∧ quiescent_ProjARefIdeal (hProjARefIdeal := hProjARefIdeal)
    ∧ quiescent_NormH (hNormH := hNormH)
    ∧ quiescent_NormHIdeal (hNormHIdeal := hNormHIdeal)
    ∧ quiescent_NormHRefIdeal (hNormHRefIdeal := hNormHRefIdeal)
    ∧ quiescent_NormY (hNormY := hNormY)
    ∧ quiescent_NormYIdeal (hNormYIdeal := hNormYIdeal)
    ∧ quiescent_NormYRefIdeal (hNormYRefIdeal := hNormYRefIdeal)
    ∧ quiescent_NormT (hNormT := hNormT)
    ∧ quiescent_NormTIdeal (hNormTIdeal := hNormTIdeal)
    ∧ quiescent_NormTRefIdeal (hNormTRefIdeal := hNormTRefIdeal)
    ∧ quiescent_NormX (hNormX := hNormX)
    ∧ quiescent_NormXIdeal (hNormXIdeal := hNormXIdeal)
    ∧ quiescent_NormXRefIdeal (hNormXRefIdeal := hNormXRefIdeal)
    ∧ preserves_Dil0_Dil0Ideal
    ∧ algebraic_Dil0Ideal_Dil0RefIdeal_on_rows0 (hDil0Ideal := hDil0Ideal) (hDil0RefIdeal := hDil0RefIdeal) (hOn_rows0 := hOn_rows0)
    ∧ preserves_Dil1_Dil1Ideal
    ∧ algebraic_Dil1Ideal_Dil1RefIdeal_on_rows1 (hDil1Ideal := hDil1Ideal) (hDil1RefIdeal := hDil1RefIdeal) (hOn_rows1 := hOn_rows1)
    ∧ preserves_Dil2_Dil2Ideal
    ∧ algebraic_Dil2Ideal_Dil2RefIdeal_on_rows2 (hDil2Ideal := hDil2Ideal) (hDil2RefIdeal := hDil2RefIdeal) (hOn_rows2 := hOn_rows2)
    ∧ preserves_OutA_OutAIdeal
    ∧ algebraic_OutAIdeal_OutARefIdeal (hOutAIdeal := hOutAIdeal) (hOutARefIdeal := hOutARefIdeal)
    ∧ preserves_OutB_OutBIdeal
    ∧ algebraic_OutBIdeal_OutBRefIdeal (hOutBIdeal := hOutBIdeal) (hOutBRefIdeal := hOutBRefIdeal)
    ∧ preserves_Ple_PleIdeal
    ∧ algebraic_PleIdeal_PleRefIdeal (hPleIdeal := hPleIdeal) (hPleRefIdeal := hPleRefIdeal)
    ∧ preserves_ProjQ_ProjQIdeal
    ∧ algebraic_ProjQIdeal_ProjQRefIdeal (hProjQIdeal := hProjQIdeal) (hProjQRefIdeal := hProjQRefIdeal)
    ∧ preserves_ProjKV_ProjKVIdeal
    ∧ algebraic_ProjKVIdeal_ProjKVRefIdeal (hProjKVIdeal := hProjKVIdeal) (hProjKVRefIdeal := hProjKVRefIdeal)
    ∧ preserves_ProjA_ProjAIdeal
    ∧ algebraic_ProjAIdeal_ProjARefIdeal (hProjAIdeal := hProjAIdeal) (hProjARefIdeal := hProjARefIdeal)
    ∧ preserves_NormH_NormHIdeal
    ∧ algebraic_NormHIdeal_NormHRefIdeal (hNormHIdeal := hNormHIdeal) (hNormHRefIdeal := hNormHRefIdeal)
    ∧ preserves_NormY_NormYIdeal
    ∧ algebraic_NormYIdeal_NormYRefIdeal (hNormYIdeal := hNormYIdeal) (hNormYRefIdeal := hNormYRefIdeal)
    ∧ preserves_NormT_NormTIdeal
    ∧ algebraic_NormTIdeal_NormTRefIdeal (hNormTIdeal := hNormTIdeal) (hNormTRefIdeal := hNormTRefIdeal)
    ∧ preserves_NormX_NormXIdeal
    ∧ algebraic_NormXIdeal_NormXRefIdeal (hNormXIdeal := hNormXIdeal) (hNormXRefIdeal := hNormXRefIdeal)
-- ==== On_rows0.lean ====
abbrev S8704x9216 : Shape := ⟨2, ![8704, 9216]⟩
abbrev S8704x1024 : Shape := ⟨2, ![8704, 1024]⟩
abbrev S_ : Shape := ⟨0, ![]⟩

class Facts : Prop where
  bcast_S_S8704x1024 : S_.BroadcastsInDim S8704x1024 (![] : Fin 0 → Fin S8704x1024.rank)

variable [Facts]

def fn {F : FTy → Type} [FloatOps F] (main_arg0 : FVec F S8704x9216 .f32) : IVec S8704x1024 1 × IVec S8704x1024 1 :=
  let main_v0 : IVec S8704x1024 32 := iotaInDim S8704x1024 32 0
  let main_c : IVec S_ 32 := constantI S_ 32 8192#32
  let main_v1 : IVec S8704x1024 32 := broadcastInDim S8704x1024 ![] bcast_S_S8704x1024 main_c
  let main_v2 : IVec S8704x1024 1 := cmpi .slt main_v0 main_v1
  (main_v2, main_v2)
-- ==== On_rows1.lean ====
abbrev S8704x9216 : Shape := ⟨2, ![8704, 9216]⟩
abbrev S2176x4096 : Shape := ⟨2, ![2176, 4096]⟩
abbrev S_ : Shape := ⟨0, ![]⟩

class Facts : Prop where
  bcast_S_S2176x4096 : S_.BroadcastsInDim S2176x4096 (![] : Fin 0 → Fin S2176x4096.rank)

variable [Facts]

def fn {F : FTy → Type} [FloatOps F] (main_arg0 : FVec F S8704x9216 .f32) : IVec S2176x4096 1 × IVec S2176x4096 1 :=
  let main_v0 : IVec S2176x4096 32 := iotaInDim S2176x4096 32 0
  let main_c : IVec S_ 32 := constantI S_ 32 2048#32
  let main_v1 : IVec S2176x4096 32 := broadcastInDim S2176x4096 ![] bcast_S_S2176x4096 main_c
  let main_v2 : IVec S2176x4096 1 := cmpi .slt main_v0 main_v1
  (main_v2, main_v2)
-- ==== On_rows2.lean ====
abbrev S8704x9216 : Shape := ⟨2, ![8704, 9216]⟩
abbrev S544x16384 : Shape := ⟨2, ![544, 16384]⟩
abbrev S_ : Shape := ⟨0, ![]⟩

class Facts : Prop where
  bcast_S_S544x16384 : S_.BroadcastsInDim S544x16384 (![] : Fin 0 → Fin S544x16384.rank)

variable [Facts]

def fn {F : FTy → Type} [FloatOps F] (main_arg0 : FVec F S8704x9216 .f32) : IVec S544x16384 1 × IVec S544x16384 1 :=
  let main_v0 : IVec S544x16384 32 := iotaInDim S544x16384 32 0
  let main_c : IVec S_ 32 := constantI S_ 32 512#32
  let main_v1 : IVec S544x16384 32 := broadcastInDim S544x16384 ![] bcast_S_S544x16384 main_c
  let main_v2 : IVec S544x16384 1 := cmpi .slt main_v0 main_v1
  (main_v2, main_v2)
-- ==== Dil0.lean ====
abbrev S8704x9216 : Shape := ⟨2, ![8704, 9216]⟩
abbrev S8704x1024 : Shape := ⟨2, ![8704, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S8704x9216, .f32⟩
  | .hbm, ⟨1, _⟩ => ⟨S8704x1024, .f32⟩
  | .hbm, ⟨2, _⟩ => ⟨S8704x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S8704x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c9_i32 : BitVec 32 := 9#32
  let v2 : BitVec 32 := Scalar.muli arg1 c9_i32
  let c0_i32 : BitVec 32 := 0#32
  let v3 : BitVec 32 := Scalar.addi v2 c0_i32
  let c0_i32_0 : BitVec 32 := 0#32
  let v4 : BitVec 32 := Scalar.addi v3 c0_i32_0
  let c0_i32_1 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c9_i32 : BitVec 32 := 9#32
  let v2 : BitVec 32 := Scalar.muli arg1 c9_i32
  let c0_i32 : BitVec 32 := 0#32
  let v3 : BitVec 32 := Scalar.addi v2 c0_i32
  let c1_i32 : BitVec 32 := 1#32
  let v4 : BitVec 32 := Scalar.addi v3 c1_i32
  let c0_i32_0 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c0_i32_0 : BitVec 32 := 0#32
  let v5 : BitVec 32 := Scalar.addi v4 c0_i32_0
  let c1_i32_1 : BitVec 32 := 1#32
  let v6 : BitVec 32 := Scalar.addi v5 c1_i32_1
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c9_i32 : BitVec 32 := 9#32
  let v2 : BitVec 32 := Scalar.muli arg1 c9_i32
  let c0_i32 : BitVec 32 := 0#32
  let v3 : BitVec 32 := Scalar.addi v2 c0_i32
  let c2_i32 : BitVec 32 := 2#32
  let v4 : BitVec 32 := Scalar.addi v3 c2_i32
  let c0_i32_0 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c0_i32_0 : BitVec 32 := 0#32
  let v5 : BitVec 32 := Scalar.addi v4 c0_i32_0
  let c2_i32 : BitVec 32 := 2#32
  let v6 : BitVec 32 := Scalar.addi v5 c2_i32
  let c0_i32_1 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil0Ideal.lean ====
variable {F : FTy → Type} [FloatOps F] [Named F]
def κ : String → Option EReal := fun
  | "scale" => some (((Real.sqrt 128)⁻¹ : ℝ) : EReal)
  | _ => none
-- ==== Dil0RefIdeal.lean ====
abbrev S8704x9216 : Shape := ⟨2, ![8704, 9216]⟩
abbrev S8192x9216 : Shape := ⟨2, ![8192, 9216]⟩
abbrev S2x4096x3x3x8x128 : Shape := ⟨6, ![2, 4096, 3, 3, 8, 128]⟩
abbrev S2x4096x1x1x8x128 : Shape := ⟨6, ![2, 4096, 1, 1, 8, 128]⟩
abbrev S2x4096x8x128 : Shape := ⟨4, ![2, 4096, 8, 128]⟩
abbrev S2x4096x1x8x128 : Shape := ⟨5, ![2, 4096, 1, 8, 128]⟩
abbrev S2x1x4096x8x128 : Shape := ⟨5, ![2, 1, 4096, 8, 128]⟩
abbrev S2x1x32x128x8x128 : Shape := ⟨6, ![2, 1, 32, 128, 8, 128]⟩
abbrev S_ : Shape := ⟨0, ![]⟩
abbrev S2x1x4224x8x128 : Shape := ⟨5, ![2, 1, 4224, 8, 128]⟩
abbrev S2x1x33x128x8x128 : Shape := ⟨6, ![2, 1, 33, 128, 8, 128]⟩
abbrev S2x1x32x256x8x128 : Shape := ⟨6, ![2, 1, 32, 256, 8, 128]⟩
abbrev S2x1x32x8x128x256 : Shape := ⟨6, ![2, 1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S2x1x32x8x128 : Shape := ⟨5, ![2, 1, 32, 8, 128]⟩
abbrev S2x1x32x8x128x1 : Shape := ⟨6, ![2, 1, 32, 8, 128, 1]⟩
abbrev S2x1x32x8x128x128 : Shape := ⟨6, ![2, 1, 32, 8, 128, 128]⟩
abbrev S2x1x32x128x8 : Shape := ⟨5, ![2, 1, 32, 128, 8]⟩
abbrev S2x1x32x128x8x1 : Shape := ⟨6, ![2, 1, 32, 128, 8, 1]⟩
abbrev S2x1x4096x8 : Shape := ⟨4, ![2, 1, 4096, 8]⟩
abbrev S2x4096x1x8 : Shape := ⟨4, ![2, 4096, 1, 8]⟩
abbrev S2x4096x8 : Shape := ⟨3, ![2, 4096, 8]⟩
abbrev S2x4096x8x1 : Shape := ⟨4, ![2, 4096, 8, 1]⟩
abbrev S8192x1024 : Shape := ⟨2, ![8192, 1024]⟩
abbrev S8704x1024 : Shape := ⟨2, ![8704, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8704x9216, .f32⟩
  | .hbm, ⟨1, _⟩ => ⟨S8192x9216, .f32⟩
  | .hbm, ⟨2, _⟩ => ⟨S2x4096x3x3x8x128, .f32⟩
  | .hbm, ⟨3, _⟩ => ⟨S2x4096x1x1x8x128, .f32⟩
  | .hbm, ⟨4, _⟩ => ⟨S2x4096x8x128, .f32⟩
  | .hbm, ⟨5, _⟩ => ⟨S2x4096x1x1x8x128, .f32⟩
  | .hbm, ⟨6, _⟩ => ⟨S2x4096x8x128, .f32⟩
  | .hbm, ⟨7, _⟩ => ⟨S2x4096x1x1x8x128, .f32⟩
  | .hbm, ⟨8, _⟩ => ⟨S2x4096x8x128, .f32⟩
  | .hbm, ⟨9, _⟩ => ⟨S2x4096x1x8x128, .f32⟩
  | .hbm, ⟨10, _⟩ => ⟨S2x1x4096x8x128, .f32⟩
  | .hbm, ⟨11, _⟩ => ⟨S2x1x32x128x8x128, .f32⟩
  | .hbm, ⟨12, _⟩ => ⟨S2x4096x1x8x128, .f32⟩
  | .hbm, ⟨13, _⟩ => ⟨S2x1x4096x8x128, .f32⟩
  | .hbm, ⟨14, _⟩ => ⟨S_, .i32⟩
  | .hbm, ⟨15, _⟩ => ⟨S_, .f32⟩
  | .hbm, ⟨16, _⟩ => ⟨S2x1x4224x8x128, .f32⟩
  | .hbm, ⟨17, _⟩ => ⟨S2x1x33x128x8x128, .f32⟩
  | .hbm, ⟨18, _⟩ => ⟨S2x1x32x128x8x128, .f32⟩
  | .hbm, ⟨19, _⟩ => ⟨S2x1x32x128x8x128, .f32⟩
  | .hbm, ⟨20, _⟩ => ⟨S2x1x32x256x8x128, .f32⟩
  | .hbm, ⟨21, _⟩ => ⟨S2x4096x1x8x128, .f32⟩
  | .hbm, ⟨22, _⟩ => ⟨S2x1x4096x8x128, .f32⟩
  | .hbm, ⟨23, _⟩ => ⟨S_, .i32⟩
  | .hbm, ⟨24, _⟩ => ⟨S_, .f32⟩
  | .hbm, ⟨25, _⟩ => ⟨S2x1x4224x8x128, .f32⟩
  | .hbm, ⟨26, _⟩ => ⟨S2x1x33x128x8x128, .f32⟩
  | .hbm, ⟨27, _⟩ => ⟨S2x1x32x128x8x128, .f32⟩
  | .hbm, ⟨28, _⟩ => ⟨S2x1x32x128x8x128, .f32⟩
  | .hbm, ⟨29, _⟩ => ⟨S2x1x32x256x8x128, .f32⟩
  | .hbm, ⟨30, _⟩ => ⟨S2x1x32x8x128x256, .f32⟩
  | .hbm, ⟨31, _⟩ => ⟨S_, .f32⟩
  | .hbm, ⟨32, _⟩ => ⟨S_, .f32⟩
  | .hbm, ⟨33, _⟩ => ⟨S2x1x32x8x128x256, .f32⟩
  | .hbm, ⟨34, _⟩ => ⟨S2x1x32x8x128x256, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S32, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i32⟩
  | .hbm, ⟨50, _⟩ => ⟨S1x1x256, .i32⟩
  | .hbm, ⟨51, _⟩ => ⟨S32x1x256, .i32⟩
  | .hbm, ⟨52, _⟩ => ⟨S32x1x256, .i32⟩
  | .hbm, ⟨53, _⟩ => ⟨S32x1x256, .i32⟩
  | .hbm, ⟨54, _⟩ => ⟨S_, .i32⟩
  | .hbm, ⟨55, _⟩ => ⟨S32x1x256, .i32⟩
  | .hbm, ⟨56, _⟩ => ⟨S32x1x256, .i32⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i1⟩
  | .hbm, ⟨64, _⟩ => ⟨S_, .i32⟩
  | .hbm, ⟨65, _⟩ => ⟨S32x1x256, .i32⟩
  | .hbm, ⟨66, _⟩ => ⟨S32x1x256, .i1⟩
  | .hbm, ⟨67, _⟩ => ⟨S1x128x256, .i1⟩
  | .hbm, ⟨68, _⟩ => ⟨S32x128x256, .i1⟩
  | .hbm, ⟨69, _⟩ => ⟨S32x128x256, .i1⟩
  | .hbm, ⟨70, _⟩ => ⟨S32x128x256, .i1⟩
  | .hbm, ⟨71, _⟩ => ⟨S1x1x32x1x128x256, .i1⟩
  | .hbm, ⟨72, _⟩ => ⟨S_, .f32⟩
  | .hbm, ⟨73, _⟩ => ⟨S_, .f32⟩
  | .hbm, ⟨74, _⟩ => ⟨S2x1x32x8x128x256, .i1⟩
  | .hbm, ⟨75, _⟩ => ⟨S2x1x32x8x128x256, .f32⟩
  | .hbm, ⟨76, _⟩ => ⟨S2x1x32x8x128x256, .f32⟩
  | .hbm, ⟨77, _⟩ => ⟨S_, .f32⟩
  | .hbm, ⟨78, _⟩ => ⟨S2x1x32x8x128, .f32⟩
  | .hbm, ⟨79, _⟩ => ⟨S2x1x32x8x128x1, .f32⟩
  | .hbm, ⟨80, _⟩ => ⟨S2x1x32x8x128x256, .f32⟩
  | .hbm, ⟨81, _⟩ => ⟨S2x1x32x8x128x256, .f32⟩
  | .hbm, ⟨82, _⟩ => ⟨S2x1x32x8x128x256, .f32⟩
  | .hbm, ⟨83, _⟩ => ⟨S_, .f32⟩
  | .hbm, ⟨84, _⟩ => ⟨S2x1x32x8x128, .f32⟩
  | .hbm, ⟨85, _⟩ => ⟨S2x1x32x8x128x128, .f32⟩
  | .hbm, ⟨86, _⟩ => ⟨S2x1x32x128x8x128, .f32⟩
  | .hbm, ⟨87, _⟩ => ⟨S2x1x32x128x8, .f32⟩
  | .hbm, ⟨88, _⟩ => ⟨S2x1x32x128x8x1, .f32⟩
  | .hbm, ⟨89, _⟩ => ⟨S2x1x32x128x8x128, .f32⟩
  | .hbm, ⟨90, _⟩ => ⟨S2x1x32x128x8x128, .f32⟩
  | .hbm, ⟨91, _⟩ => ⟨S2x1x32x8x128, .f32⟩
  | .hbm, ⟨92, _⟩ => ⟨S2x1x32x8x128, .f32⟩
  | .hbm, ⟨93, _⟩ => ⟨S2x1x32x8x128, .f32⟩
  | .hbm, ⟨94, _⟩ => ⟨S2x1x32x128x8, .f32⟩
  | .hbm, ⟨95, _⟩ => ⟨S2x1x4096x8x128, .f32⟩
  | .hbm, ⟨96, _⟩ => ⟨S2x4096x1x8x128, .f32⟩
  | .hbm, ⟨97, _⟩ => ⟨S2x4096x8x128, .f32⟩
  | .hbm, ⟨98, _⟩ => ⟨S2x1x4096x8, .f32⟩
  | .hbm, ⟨99, _⟩ => ⟨S2x4096x1x8, .f32⟩
  | .hbm, ⟨100, _⟩ => ⟨S2x4096x8, .f32⟩
  | .hbm, ⟨101, _⟩ => ⟨S2x4096x8x1, .f32⟩
  | .hbm, ⟨102, _⟩ => ⟨S2x4096x8x128, .f32⟩
  | .hbm, ⟨103, _⟩ => ⟨S8192x1024, .f32⟩
  | .hbm, ⟨104, _⟩ => ⟨S_, .i32⟩
  | .hbm, ⟨105, _⟩ => ⟨S_, .f32⟩
  | .hbm, ⟨106, _⟩ => ⟨S8704x1024, .f32⟩
  | .hbm, ⟨107, _⟩ => ⟨S8192x1024, .f32⟩
  | .hbm, ⟨108, _⟩ => ⟨S_, .i32⟩
  | .hbm, ⟨109, _⟩ => ⟨S_, .f32⟩
  | .hbm, ⟨110, _⟩ => ⟨S8704x1024, .f32⟩
  | _, _ => ⟨S8704x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_call0_v0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_call1_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_10 : Ref sig .tc := ⟨.hbm, 104, rfl⟩
abbrev main_call3_v0 : Ref sig .tc := ⟨.hbm, 105, rfl⟩
abbrev main_v86 : Ref sig .tc := ⟨.hbm, 106, rfl⟩
abbrev main_v87 : Ref sig .tc := ⟨.hbm, 107, rfl⟩
abbrev main_c_11 : Ref sig .tc := ⟨.hbm, 108, rfl⟩
abbrev main_call4_v0 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Dil1.lean ====
abbrev S8704x9216 : Shape := ⟨2, ![8704, 9216]⟩
abbrev S2176x36864 : Shape := ⟨2, ![2176, 36864]⟩
abbrev S2176x4096 : Shape := ⟨2, ![2176, 4096]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S8704x9216, .f32⟩
  | .hbm, ⟨1, _⟩ => ⟨S2176x36864, .f32⟩
  | .hbm, ⟨2, _⟩ => ⟨S2176x4096, .f32⟩
  | .hbm, ⟨3, _⟩ => ⟨S2176x4096, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S8704x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c9_i32 : BitVec 32 := 9#32
  let v2 : BitVec 32 := Scalar.muli arg1 c9_i32
  let c3_i32 : BitVec 32 := 3#32
  let v3 : BitVec 32 := Scalar.addi v2 c3_i32
  let c0_i32 : BitVec 32 := 0#32
  let v4 : BitVec 32 := Scalar.addi v3 c0_i32
  let c0_i32_0 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c9_i32 : BitVec 32 := 9#32
  let v2 : BitVec 32 := Scalar.muli arg1 c9_i32
  let c3_i32 : BitVec 32 := 3#32
  let v3 : BitVec 32 := Scalar.addi v2 c3_i32
  let c1_i32 : BitVec 32 := 1#32
  let v4 : BitVec 32 := Scalar.addi v3 c1_i32
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c3_i32 : BitVec 32 := 3#32
  let v5 : BitVec 32 := Scalar.addi v4 c3_i32
  let c1_i32_0 : BitVec 32 := 1#32
  let v6 : BitVec 32 := Scalar.addi v5 c1_i32_0
  let c0_i32_1 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c9_i32 : BitVec 32 := 9#32
  let v2 : BitVec 32 := Scalar.muli arg1 c9_i32
  let c3_i32 : BitVec 32 := 3#32
  let v3 : BitVec 32 := Scalar.addi v2 c3_i32
  let c2_i32 : BitVec 32 := 2#32
  let v4 : BitVec 32 := Scalar.addi v3 c2_i32
  let c0_i32 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c3_i32 : BitVec 32 := 3#32
  let v5 : BitVec 32 := Scalar.addi v4 c3_i32
  let c2_i32 : BitVec 32 := 2#32
  let v6 : BitVec 32 := Scalar.addi v5 c2_i32
  let c0_i32_0 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil1Ideal.lean ====
variable {F : FTy → Type} [FloatOps F] [Named F]
def κ : String → Option EReal := fun
  | "scale" => some (((Real.sqrt 128)⁻¹ : ℝ) : EReal)
  | _ => none
-- ==== Dil1RefIdeal.lean ====
abbrev S8704x9216 : Shape := ⟨2, ![8704, 9216]⟩
abbrev S8192x9216 : Shape := ⟨2, ![8192, 9216]⟩
abbrev S2x4096x3x3x8x128 : Shape := ⟨6, ![2, 4096, 3, 3, 8, 128]⟩
abbrev S2x4096x1x1x8x128 : Shape := ⟨6, ![2, 4096, 1, 1, 8, 128]⟩
abbrev S2x4096x8x128 : Shape := ⟨4, ![2, 4096, 8, 128]⟩
abbrev S2x1024x4x8x128 : Shape := ⟨5, ![2, 1024, 4, 8, 128]⟩
abbrev S2x4x1024x8x128 : Shape := ⟨5, ![2, 4, 1024, 8, 128]⟩
abbrev S2x4x8x128x8x128 : Shape := ⟨6, ![2, 4, 8, 128, 8, 128]⟩
abbrev S_ : Shape := ⟨0, ![]⟩
abbrev S2x4x1152x8x128 : Shape := ⟨5, ![2, 4, 1152, 8, 128]⟩
abbrev S2x4x9x128x8x128 : Shape := ⟨6, ![2, 4, 9, 128, 8, 128]⟩
abbrev S2x4x8x256x8x128 : Shape := ⟨6, ![2, 4, 8, 256, 8, 128]⟩
abbrev S2x4x8x8x128x256 : Shape := ⟨6, ![2, 4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x1x8x1x128x256 : Shape := ⟨6, ![1, 1, 8, 1, 128, 256]⟩
abbrev S2x4x8x8x128 : Shape := ⟨5, ![2, 4, 8, 8, 128]⟩
abbrev S2x4x8x8x128x1 : Shape := ⟨6, ![2, 4, 8, 8, 128, 1]⟩
abbrev S2x4x8x8x128x128 : Shape := ⟨6, ![2, 4, 8, 8, 128, 128]⟩
abbrev S2x4x8x128x8 : Shape := ⟨5, ![2, 4, 8, 128, 8]⟩
abbrev S2x4x8x128x8x1 : Shape := ⟨6, ![2, 4, 8, 128, 8, 1]⟩
abbrev S2x4x1024x8 : Shape := ⟨4, ![2, 4, 1024, 8]⟩
abbrev S2x1024x4x8 : Shape := ⟨4, ![2, 1024, 4, 8]⟩
abbrev S2x4096x8 : Shape := ⟨3, ![2, 4096, 8]⟩
abbrev S2x4096x8x1 : Shape := ⟨4, ![2, 4096, 8, 1]⟩
abbrev S2048x4096 : Shape := ⟨2, ![2048, 4096]⟩
abbrev S2176x4096 : Shape := ⟨2, ![2176, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8704x9216, .f32⟩
  | .hbm, ⟨1, _⟩ => ⟨S8192x9216, .f32⟩
  | .hbm, ⟨2, _⟩ => ⟨S2x4096x3x3x8x128, .f32⟩
  | .hbm, ⟨3, _⟩ => ⟨S2x4096x1x1x8x128, .f32⟩
  | .hbm, ⟨4, _⟩ => ⟨S2x4096x8x128, .f32⟩
  | .hbm, ⟨5, _⟩ => ⟨S2x4096x1x1x8x128, .f32⟩
  | .hbm, ⟨6, _⟩ => ⟨S2x4096x8x128, .f32⟩
  | .hbm, ⟨7, _⟩ => ⟨S2x4096x1x1x8x128, .f32⟩
  | .hbm, ⟨8, _⟩ => ⟨S2x4096x8x128, .f32⟩
  | .hbm, ⟨9, _⟩ => ⟨S2x1024x4x8x128, .f32⟩
  | .hbm, ⟨10, _⟩ => ⟨S2x4x1024x8x128, .f32⟩
  | .hbm, ⟨11, _⟩ => ⟨S2x4x8x128x8x128, .f32⟩
  | .hbm, ⟨12, _⟩ => ⟨S2x1024x4x8x128, .f32⟩
  | .hbm, ⟨13, _⟩ => ⟨S2x4x1024x8x128, .f32⟩
  | .hbm, ⟨14, _⟩ => ⟨S_, .i32⟩
  | .hbm, ⟨15, _⟩ => ⟨S_, .f32⟩
  | .hbm, ⟨16, _⟩ => ⟨S2x4x1152x8x128, .f32⟩
  | .hbm, ⟨17, _⟩ => ⟨S2x4x9x128x8x128, .f32⟩
  | .hbm, ⟨18, _⟩ => ⟨S2x4x8x128x8x128, .f32⟩
  | .hbm, ⟨19, _⟩ => ⟨S2x4x8x128x8x128, .f32⟩
  | .hbm, ⟨20, _⟩ => ⟨S2x4x8x256x8x128, .f32⟩
  | .hbm, ⟨21, _⟩ => ⟨S2x1024x4x8x128, .f32⟩
  | .hbm, ⟨22, _⟩ => ⟨S2x4x1024x8x128, .f32⟩
  | .hbm, ⟨23, _⟩ => ⟨S_, .i32⟩
  | .hbm, ⟨24, _⟩ => ⟨S_, .f32⟩
  | .hbm, ⟨25, _⟩ => ⟨S2x4x1152x8x128, .f32⟩
  | .hbm, ⟨26, _⟩ => ⟨S2x4x9x128x8x128, .f32⟩
  | .hbm, ⟨27, _⟩ => ⟨S2x4x8x128x8x128, .f32⟩
  | .hbm, ⟨28, _⟩ => ⟨S2x4x8x128x8x128, .f32⟩
  | .hbm, ⟨29, _⟩ => ⟨S2x4x8x256x8x128, .f32⟩
  | .hbm, ⟨30, _⟩ => ⟨S2x4x8x8x128x256, .f32⟩
  | .hbm, ⟨31, _⟩ => ⟨S_, .f32⟩
  | .hbm, ⟨32, _⟩ => ⟨S_, .f32⟩
  | .hbm, ⟨33, _⟩ => ⟨S2x4x8x8x128x256, .f32⟩
  | .hbm, ⟨34, _⟩ => ⟨S2x4x8x8x128x256, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S8, .i32⟩
  | .hbm, ⟨46, _⟩ => ⟨S8x1x1, .i32⟩
  | .hbm, ⟨47, _⟩ => ⟨S_, .i32⟩
  | .hbm, ⟨48, _⟩ => ⟨S8x1x1, .i32⟩
  | .hbm, ⟨49, _⟩ => ⟨S8x1x1, .i32⟩
  | .hbm, ⟨50, _⟩ => ⟨S1x1x256, .i32⟩
  | .hbm, ⟨51, _⟩ => ⟨S8x1x256, .i32⟩
  | .hbm, ⟨52, _⟩ => ⟨S8x1x256, .i32⟩
  | .hbm, ⟨53, _⟩ => ⟨S8x1x256, .i32⟩
  | .hbm, ⟨54, _⟩ => ⟨S_, .i32⟩
  | .hbm, ⟨55, _⟩ => ⟨S8x1x256, .i32⟩
  | .hbm, ⟨56, _⟩ => ⟨S8x1x256, .i32⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i1⟩
  | .hbm, ⟨64, _⟩ => ⟨S_, .i32⟩
  | .hbm, ⟨65, _⟩ => ⟨S8x1x256, .i32⟩
  | .hbm, ⟨66, _⟩ => ⟨S8x1x256, .i1⟩
  | .hbm, ⟨67, _⟩ => ⟨S1x128x256, .i1⟩
  | .hbm, ⟨68, _⟩ => ⟨S8x128x256, .i1⟩
  | .hbm, ⟨69, _⟩ => ⟨S8x128x256, .i1⟩
  | .hbm, ⟨70, _⟩ => ⟨S8x128x256, .i1⟩
  | .hbm, ⟨71, _⟩ => ⟨S1x1x8x1x128x256, .i1⟩
  | .hbm, ⟨72, _⟩ => ⟨S_, .f32⟩
  | .hbm, ⟨73, _⟩ => ⟨S_, .f32⟩
  | .hbm, ⟨74, _⟩ => ⟨S2x4x8x8x128x256, .i1⟩
  | .hbm, ⟨75, _⟩ => ⟨S2x4x8x8x128x256, .f32⟩
  | .hbm, ⟨76, _⟩ => ⟨S2x4x8x8x128x256, .f32⟩
  | .hbm, ⟨77, _⟩ => ⟨S_, .f32⟩
  | .hbm, ⟨78, _⟩ => ⟨S2x4x8x8x128, .f32⟩
  | .hbm, ⟨79, _⟩ => ⟨S2x4x8x8x128x1, .f32⟩
  | .hbm, ⟨80, _⟩ => ⟨S2x4x8x8x128x256, .f32⟩
  | .hbm, ⟨81, _⟩ => ⟨S2x4x8x8x128x256, .f32⟩
  | .hbm, ⟨82, _⟩ => ⟨S2x4x8x8x128x256, .f32⟩
  | .hbm, ⟨83, _⟩ => ⟨S_, .f32⟩
  | .hbm, ⟨84, _⟩ => ⟨S2x4x8x8x128, .f32⟩
  | .hbm, ⟨85, _⟩ => ⟨S2x4x8x8x128x128, .f32⟩
  | .hbm, ⟨86, _⟩ => ⟨S2x4x8x128x8x128, .f32⟩
  | .hbm, ⟨87, _⟩ => ⟨S2x4x8x128x8, .f32⟩
  | .hbm, ⟨88, _⟩ => ⟨S2x4x8x128x8x1, .f32⟩
  | .hbm, ⟨89, _⟩ => ⟨S2x4x8x128x8x128, .f32⟩
  | .hbm, ⟨90, _⟩ => ⟨S2x4x8x128x8x128, .f32⟩
  | .hbm, ⟨91, _⟩ => ⟨S2x4x8x8x128, .f32⟩
  | .hbm, ⟨92, _⟩ => ⟨S2x4x8x8x128, .f32⟩
  | .hbm, ⟨93, _⟩ => ⟨S2x4x8x8x128, .f32⟩
  | .hbm, ⟨94, _⟩ => ⟨S2x4x8x128x8, .f32⟩
  | .hbm, ⟨95, _⟩ => ⟨S2x4x1024x8x128, .f32⟩
  | .hbm, ⟨96, _⟩ => ⟨S2x1024x4x8x128, .f32⟩
  | .hbm, ⟨97, _⟩ => ⟨S2x4096x8x128, .f32⟩
  | .hbm, ⟨98, _⟩ => ⟨S2x4x1024x8, .f32⟩
  | .hbm, ⟨99, _⟩ => ⟨S2x1024x4x8, .f32⟩
  | .hbm, ⟨100, _⟩ => ⟨S2x4096x8, .f32⟩
  | .hbm, ⟨101, _⟩ => ⟨S2x4096x8x1, .f32⟩
  | .hbm, ⟨102, _⟩ => ⟨S2x4096x8x128, .f32⟩
  | .hbm, ⟨103, _⟩ => ⟨S2048x4096, .f32⟩
  | .hbm, ⟨104, _⟩ => ⟨S_, .i32⟩
  | .hbm, ⟨105, _⟩ => ⟨S_, .f32⟩
  | .hbm, ⟨106, _⟩ => ⟨S2176x4096, .f32⟩
  | .hbm, ⟨107, _⟩ => ⟨S2048x4096, .f32⟩
  | .hbm, ⟨108, _⟩ => ⟨S_, .i32⟩
  | .hbm, ⟨109, _⟩ => ⟨S_, .f32⟩
  | .hbm, ⟨110, _⟩ => ⟨S2176x4096, .f32⟩
  | _, _ => ⟨S8704x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_call0_v0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_call1_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_10 : Ref sig .tc := ⟨.hbm, 104, rfl⟩
abbrev main_call3_v0 : Ref sig .tc := ⟨.hbm, 105, rfl⟩
abbrev main_v86 : Ref sig .tc := ⟨.hbm, 106, rfl⟩
abbrev main_v87 : Ref sig .tc := ⟨.hbm, 107, rfl⟩
abbrev main_c_11 : Ref sig .tc := ⟨.hbm, 108, rfl⟩
abbrev main_call4_v0 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Dil2.lean ====
abbrev S8704x9216 : Shape := ⟨2, ![8704, 9216]⟩
abbrev S544x147456 : Shape := ⟨2, ![544, 147456]⟩
abbrev S544x16384 : Shape := ⟨2, ![544, 16384]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S8704x9216, .f32⟩
  | .hbm, ⟨1, _⟩ => ⟨S544x147456, .f32⟩
  | .hbm, ⟨2, _⟩ => ⟨S544x16384, .f32⟩
  | .hbm, ⟨3, _⟩ => ⟨S544x16384, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S8704x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c9_i32 : BitVec 32 := 9#32
  let v2 : BitVec 32 := Scalar.muli arg1 c9_i32
  let c6_i32 : BitVec 32 := 6#32
  let v3 : BitVec 32 := Scalar.addi v2 c6_i32
  let c0_i32 : BitVec 32 := 0#32
  let v4 : BitVec 32 := Scalar.addi v3 c0_i32
  let c0_i32_0 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c9_i32 : BitVec 32 := 9#32
  let v2 : BitVec 32 := Scalar.muli arg1 c9_i32
  let c6_i32 : BitVec 32 := 6#32
  let v3 : BitVec 32 := Scalar.addi v2 c6_i32
  let c1_i32 : BitVec 32 := 1#32
  let v4 : BitVec 32 := Scalar.addi v3 c1_i32
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c6_i32 : BitVec 32 := 6#32
  let v5 : BitVec 32 := Scalar.addi v4 c6_i32
  let c1_i32_0 : BitVec 32 := 1#32
  let v6 : BitVec 32 := Scalar.addi v5 c1_i32_0
  let c0_i32_1 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c9_i32 : BitVec 32 := 9#32
  let v2 : BitVec 32 := Scalar.muli arg1 c9_i32
  let c6_i32 : BitVec 32 := 6#32
  let v3 : BitVec 32 := Scalar.addi v2 c6_i32
  let c2_i32_0 : BitVec 32 := 2#32
  let v4 : BitVec 32 := Scalar.addi v3 c2_i32_0
  let c0_i32 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c6_i32 : BitVec 32 := 6#32
  let v5 : BitVec 32 := Scalar.addi v4 c6_i32
  let c2_i32_0 : BitVec 32 := 2#32
  let v6 : BitVec 32 := Scalar.addi v5 c2_i32_0
  let c0_i32_1 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil2Ideal.lean ====
variable {F : FTy → Type} [FloatOps F] [Named F]
def κ : String → Option EReal := fun
  | "scale" => some (((Real.sqrt 128)⁻¹ : ℝ) : EReal)
  | _ => none
-- ==== Dil2RefIdeal.lean ====
abbrev S8704x9216 : Shape := ⟨2, ![8704, 9216]⟩
abbrev S8192x9216 : Shape := ⟨2, ![8192, 9216]⟩
abbrev S2x4096x3x3x8x128 : Shape := ⟨6, ![2, 4096, 3, 3, 8, 128]⟩
abbrev S2x4096x1x1x8x128 : Shape := ⟨6, ![2, 4096, 1, 1, 8, 128]⟩
abbrev S2x4096x8x128 : Shape := ⟨4, ![2, 4096, 8, 128]⟩
abbrev S2x256x16x8x128 : Shape := ⟨5, ![2, 256, 16, 8, 128]⟩
abbrev S2x16x256x8x128 : Shape := ⟨5, ![2, 16, 256, 8, 128]⟩
abbrev S2x16x2x128x8x128 : Shape := ⟨6, ![2, 16, 2, 128, 8, 128]⟩
abbrev S_ : Shape := ⟨0, ![]⟩
abbrev S2x16x384x8x128 : Shape := ⟨5, ![2, 16, 384, 8, 128]⟩
abbrev S2x16x3x128x8x128 : Shape := ⟨6, ![2, 16, 3, 128, 8, 128]⟩
abbrev S2x16x2x256x8x128 : Shape := ⟨6, ![2, 16, 2, 256, 8, 128]⟩
abbrev S2x16x2x8x128x256 : Shape := ⟨6, ![2, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x1x2x1x128x256 : Shape := ⟨6, ![1, 1, 2, 1, 128, 256]⟩
abbrev S2x16x2x8x128 : Shape := ⟨5, ![2, 16, 2, 8, 128]⟩
abbrev S2x16x2x8x128x1 : Shape := ⟨6, ![2, 16, 2, 8, 128, 1]⟩
abbrev S2x16x2x8x128x128 : Shape := ⟨6, ![2, 16, 2, 8, 128, 128]⟩
abbrev S2x16x2x128x8 : Shape := ⟨5, ![2, 16, 2, 128, 8]⟩
abbrev S2x16x2x128x8x1 : Shape := ⟨6, ![2, 16, 2, 128, 8, 1]⟩
abbrev S2x16x256x8 : Shape := ⟨4, ![2, 16, 256, 8]⟩
abbrev S2x256x16x8 : Shape := ⟨4, ![2, 256, 16, 8]⟩
abbrev S2x4096x8 : Shape := ⟨3, ![2, 4096, 8]⟩
abbrev S2x4096x8x1 : Shape := ⟨4, ![2, 4096, 8, 1]⟩
abbrev S512x16384 : Shape := ⟨2, ![512, 16384]⟩
abbrev S544x16384 : Shape := ⟨2, ![544, 16384]⟩

abbrev nBuf : Space → Nat
  | .hbm => 111
  | .vmem => 0
  | .smem => 0
  | _ => 0

abbrev bufTy : (tb : Table) → Fin (tcTables nBuf tb) → BufTy
  | .hbm, ⟨0, _⟩ => ⟨S8704x9216, .f32⟩
  | .hbm, ⟨1, _⟩ => ⟨S8192x9216, .f32⟩
  | .hbm, ⟨2, _⟩ => ⟨S2x4096x3x3x8x128, .f32⟩
  | .hbm, ⟨3, _⟩ => ⟨S2x4096x1x1x8x128, .f32⟩
  | .hbm, ⟨4, _⟩ => ⟨S2x4096x8x128, .f32⟩
  | .hbm, ⟨5, _⟩ => ⟨S2x4096x1x1x8x128, .f32⟩
  | .hbm, ⟨6, _⟩ => ⟨S2x4096x8x128, .f32⟩
  | .hbm, ⟨7, _⟩ => ⟨S2x4096x1x1x8x128, .f32⟩
  | .hbm, ⟨8, _⟩ => ⟨S2x4096x8x128, .f32⟩
  | .hbm, ⟨9, _⟩ => ⟨S2x256x16x8x128, .f32⟩
  | .hbm, ⟨10, _⟩ => ⟨S2x16x256x8x128, .f32⟩
  | .hbm, ⟨11, _⟩ => ⟨S2x16x2x128x8x128, .f32⟩
  | .hbm, ⟨12, _⟩ => ⟨S2x256x16x8x128, .f32⟩
  | .hbm, ⟨13, _⟩ => ⟨S2x16x256x8x128, .f32⟩
  | .hbm, ⟨14, _⟩ => ⟨S_, .i32⟩
  | .hbm, ⟨15, _⟩ => ⟨S_, .f32⟩
  | .hbm, ⟨16, _⟩ => ⟨S2x16x384x8x128, .f32⟩
  | .hbm, ⟨17, _⟩ => ⟨S2x16x3x128x8x128, .f32⟩
  | .hbm, ⟨18, _⟩ => ⟨S2x16x2x128x8x128, .f32⟩
  | .hbm, ⟨19, _⟩ => ⟨S2x16x2x128x8x128, .f32⟩
  | .hbm, ⟨20, _⟩ => ⟨S2x16x2x256x8x128, .f32⟩
  | .hbm, ⟨21, _⟩ => ⟨S2x256x16x8x128, .f32⟩
  | .hbm, ⟨22, _⟩ => ⟨S2x16x256x8x128, .f32⟩
  | .hbm, ⟨23, _⟩ => ⟨S_, .i32⟩
  | .hbm, ⟨24, _⟩ => ⟨S_, .f32⟩
  | .hbm, ⟨25, _⟩ => ⟨S2x16x384x8x128, .f32⟩
  | .hbm, ⟨26, _⟩ => ⟨S2x16x3x128x8x128, .f32⟩
  | .hbm, ⟨27, _⟩ => ⟨S2x16x2x128x8x128, .f32⟩
  | .hbm, ⟨28, _⟩ => ⟨S2x16x2x128x8x128, .f32⟩
  | .hbm, ⟨29, _⟩ => ⟨S2x16x2x256x8x128, .f32⟩
  | .hbm, ⟨30, _⟩ => ⟨S2x16x2x8x128x256, .f32⟩
  | .hbm, ⟨31, _⟩ => ⟨S_, .f32⟩
  | .hbm, ⟨32, _⟩ => ⟨S_, .f32⟩
  | .hbm, ⟨33, _⟩ => ⟨S2x16x2x8x128x256, .f32⟩
  | .hbm, ⟨34, _⟩ => ⟨S2x16x2x8x128x256, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S2, .i32⟩
  | .hbm, ⟨46, _⟩ => ⟨S2x1x1, .i32⟩
  | .hbm, ⟨47, _⟩ => ⟨S_, .i32⟩
  | .hbm, ⟨48, _⟩ => ⟨S2x1x1, .i32⟩
  | .hbm, ⟨49, _⟩ => ⟨S2x1x1, .i32⟩
  | .hbm, ⟨50, _⟩ => ⟨S1x1x256, .i32⟩
  | .hbm, ⟨51, _⟩ => ⟨S2x1x256, .i32⟩
  | .hbm, ⟨52, _⟩ => ⟨S2x1x256, .i32⟩
  | .hbm, ⟨53, _⟩ => ⟨S2x1x256, .i32⟩
  | .hbm, ⟨54, _⟩ => ⟨S_, .i32⟩
  | .hbm, ⟨55, _⟩ => ⟨S2x1x256, .i32⟩
  | .hbm, ⟨56, _⟩ => ⟨S2x1x256, .i32⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i1⟩
  | .hbm, ⟨64, _⟩ => ⟨S_, .i32⟩
  | .hbm, ⟨65, _⟩ => ⟨S2x1x256, .i32⟩
  | .hbm, ⟨66, _⟩ => ⟨S2x1x256, .i1⟩
  | .hbm, ⟨67, _⟩ => ⟨S1x128x256, .i1⟩
  | .hbm, ⟨68, _⟩ => ⟨S2x128x256, .i1⟩
  | .hbm, ⟨69, _⟩ => ⟨S2x128x256, .i1⟩
  | .hbm, ⟨70, _⟩ => ⟨S2x128x256, .i1⟩
  | .hbm, ⟨71, _⟩ => ⟨S1x1x2x1x128x256, .i1⟩
  | .hbm, ⟨72, _⟩ => ⟨S_, .f32⟩
  | .hbm, ⟨73, _⟩ => ⟨S_, .f32⟩
  | .hbm, ⟨74, _⟩ => ⟨S2x16x2x8x128x256, .i1⟩
  | .hbm, ⟨75, _⟩ => ⟨S2x16x2x8x128x256, .f32⟩
  | .hbm, ⟨76, _⟩ => ⟨S2x16x2x8x128x256, .f32⟩
  | .hbm, ⟨77, _⟩ => ⟨S_, .f32⟩
  | .hbm, ⟨78, _⟩ => ⟨S2x16x2x8x128, .f32⟩
  | .hbm, ⟨79, _⟩ => ⟨S2x16x2x8x128x1, .f32⟩
  | .hbm, ⟨80, _⟩ => ⟨S2x16x2x8x128x256, .f32⟩
  | .hbm, ⟨81, _⟩ => ⟨S2x16x2x8x128x256, .f32⟩
  | .hbm, ⟨82, _⟩ => ⟨S2x16x2x8x128x256, .f32⟩
  | .hbm, ⟨83, _⟩ => ⟨S_, .f32⟩
  | .hbm, ⟨84, _⟩ => ⟨S2x16x2x8x128, .f32⟩
  | .hbm, ⟨85, _⟩ => ⟨S2x16x2x8x128x128, .f32⟩
  | .hbm, ⟨86, _⟩ => ⟨S2x16x2x128x8x128, .f32⟩
  | .hbm, ⟨87, _⟩ => ⟨S2x16x2x128x8, .f32⟩
  | .hbm, ⟨88, _⟩ => ⟨S2x16x2x128x8x1, .f32⟩
  | .hbm, ⟨89, _⟩ => ⟨S2x16x2x128x8x128, .f32⟩
  | .hbm, ⟨90, _⟩ => ⟨S2x16x2x128x8x128, .f32⟩
  | .hbm, ⟨91, _⟩ => ⟨S2x16x2x8x128, .f32⟩
  | .hbm, ⟨92, _⟩ => ⟨S2x16x2x8x128, .f32⟩
  | .hbm, ⟨93, _⟩ => ⟨S2x16x2x8x128, .f32⟩
  | .hbm, ⟨94, _⟩ => ⟨S2x16x2x128x8, .f32⟩
  | .hbm, ⟨95, _⟩ => ⟨S2x16x256x8x128, .f32⟩
  | .hbm, ⟨96, _⟩ => ⟨S2x256x16x8x128, .f32⟩
  | .hbm, ⟨97, _⟩ => ⟨S2x4096x8x128, .f32⟩
  | .hbm, ⟨98, _⟩ => ⟨S2x16x256x8, .f32⟩
  | .hbm, ⟨99, _⟩ => ⟨S2x256x16x8, .f32⟩
  | .hbm, ⟨100, _⟩ => ⟨S2x4096x8, .f32⟩
  | .hbm, ⟨101, _⟩ => ⟨S2x4096x8x1, .f32⟩
  | .hbm, ⟨102, _⟩ => ⟨S2x4096x8x128, .f32⟩
  | .hbm, ⟨103, _⟩ => ⟨S512x16384, .f32⟩
  | .hbm, ⟨104, _⟩ => ⟨S_, .i32⟩
  | .hbm, ⟨105, _⟩ => ⟨S_, .f32⟩
  | .hbm, ⟨106, _⟩ => ⟨S544x16384, .f32⟩
  | .hbm, ⟨107, _⟩ => ⟨S512x16384, .f32⟩
  | .hbm, ⟨108, _⟩ => ⟨S_, .i32⟩
  | .hbm, ⟨109, _⟩ => ⟨S_, .f32⟩
  | .hbm, ⟨110, _⟩ => ⟨S544x16384, .f32⟩
  | _, _ => ⟨S8704x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_call0_v0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_call1_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_10 : Ref sig .tc := ⟨.hbm, 104, rfl⟩
abbrev main_call3_v0 : Ref sig .tc := ⟨.hbm, 105, rfl⟩
abbrev main_v86 : Ref sig .tc := ⟨.hbm, 106, rfl⟩
abbrev main_v87 : Ref sig .tc := ⟨.hbm, 107, rfl⟩
abbrev main_c_11 : Ref sig .tc := ⟨.hbm, 108, rfl⟩
abbrev main_call4_v0 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== OutA.lean ====
abbrev S8704x1024 : Shape := ⟨2, ![8704, 1024]⟩
abbrev S1024x2048 : Shape := ⟨2, ![1024, 2048]⟩
abbrev S8704x2048 : Shape := ⟨2, ![8704, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x1024, .bf16⟩
  | .hbm, ⟨1, _⟩ => ⟨S1024x2048, .f32⟩
  | .hbm, ⟨2, _⟩ => ⟨S8704x2048, .f32⟩
  | .hbm, ⟨3, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutAIdeal.lean ====
abbrev S8704x1024 : Shape := ⟨2, ![8704, 1024]⟩
abbrev S1024x2048 : Shape := ⟨2, ![1024, 2048]⟩
abbrev S8704x2048 : Shape := ⟨2, ![8704, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x1024, .bf16⟩
  | .hbm, ⟨1, _⟩ => ⟨S1024x2048, .f32⟩
  | .hbm, ⟨2, _⟩ => ⟨S8704x2048, .f32⟩
  | .hbm, ⟨3, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutARefIdeal.lean ====
abbrev S8704x1024 : Shape := ⟨2, ![8704, 1024]⟩
abbrev S1024x2048 : Shape := ⟨2, ![1024, 2048]⟩
abbrev S8704x2048 : Shape := ⟨2, ![8704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x2048, .f32⟩
  | .hbm, ⟨2, _⟩ => ⟨S8704x2048, .f32⟩
  | .hbm, ⟨3, _⟩ => ⟨S8704x1024, .f32⟩
  | .hbm, ⟨4, _⟩ => ⟨S8704x2048, .f32⟩
  | .hbm, ⟨5, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutB.lean ====
abbrev S8704x2048 : Shape := ⟨2, ![8704, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutBRefIdeal.lean ====
abbrev S8704x2048 : Shape := ⟨2, ![8704, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | .hbm, ⟨5, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S8704x2048 : Shape := ⟨2, ![8704, 2048]⟩
abbrev S8704x256 : Shape := ⟨2, ![8704, 256]⟩
abbrev S256x2048 : Shape := ⟨2, ![256, 2048]⟩
abbrev S2048x2048 : Shape := ⟨2, ![2048, 2048]⟩
abbrev S512x512 : Shape := ⟨2, ![512, 512]⟩
abbrev S512x256 : Shape := ⟨2, ![512, 256]⟩
abbrev S512x2048 : Shape := ⟨2, ![512, 2048]⟩
abbrev S256x512 : Shape := ⟨2, ![256, 512]⟩
abbrev S2048x512 : Shape := ⟨2, ![2048, 512]⟩

abbrev nBuf : Space → Nat
  | .hbm => 6
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S8704x256, .f32⟩
  | .hbm, ⟨2, _⟩ => ⟨S8704x2048, .bf16⟩
  | .hbm, ⟨3, _⟩ => ⟨S256x2048, .f32⟩
  | .hbm, ⟨4, _⟩ => ⟨S2048x2048, .f32⟩
  | .hbm, ⟨5, _⟩ => ⟨S8704x2048, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x2048, .bf16⟩
  | .local _ .vmem, ⟨5, _⟩ => ⟨S512x2048, .bf16⟩
  | .local _ .vmem, ⟨6, _⟩ => ⟨S256x512, .f32⟩
  | .local _ .vmem, ⟨7, _⟩ => ⟨S256x512, .f32⟩
  | .local _ .vmem, ⟨8, _⟩ => ⟨S2048x512, .f32⟩
  | .local _ .vmem, ⟨9, _⟩ => ⟨S2048x512, .f32⟩
  | .local _ .vmem, ⟨10, _⟩ => ⟨S512x512, .f32⟩
  | .local _ .vmem, ⟨11, _⟩ => ⟨S512x512, .f32⟩
  | .local _ .vmem, ⟨12, _⟩ => ⟨S2048x512, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8704x2048 : Shape := ⟨2, ![8704, 2048]⟩
abbrev S8704x256 : Shape := ⟨2, ![8704, 256]⟩
abbrev S256x2048 : Shape := ⟨2, ![256, 2048]⟩
abbrev S2048x2048 : Shape := ⟨2, ![2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x256, .f32⟩
  | .hbm, ⟨2, _⟩ => ⟨S8704x2048, .bf16⟩
  | .hbm, ⟨3, _⟩ => ⟨S256x2048, .f32⟩
  | .hbm, ⟨4, _⟩ => ⟨S2048x2048, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S_, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704x2048, .f32⟩
  | .hbm, ⟨14, _⟩ => ⟨S8704x2048, .f32⟩
  | .hbm, ⟨15, _⟩ => ⟨S8704x2048, .f32⟩
  | .hbm, ⟨16, _⟩ => ⟨S8704x2048, .f32⟩
  | .hbm, ⟨17, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== ProjQ.lean ====
abbrev S8704x2048 : Shape := ⟨2, ![8704, 2048]⟩
abbrev S2048x2048 : Shape := ⟨2, ![2048, 2048]⟩
abbrev S8704 : Shape := ⟨1, ![8704]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x96 : Shape := ⟨2, ![8704, 96]⟩
abbrev S8704x384 : Shape := ⟨2, ![8704, 384]⟩
abbrev S512x2048 : Shape := ⟨2, ![512, 2048]⟩
abbrev S2048x512 : Shape := ⟨2, ![2048, 512]⟩
abbrev S512x384 : Shape := ⟨2, ![512, 384]⟩
abbrev S512x512 : Shape := ⟨2, ![512, 512]⟩
abbrev S512x128 : Shape := ⟨2, ![512, 128]⟩

abbrev nBuf : Space → Nat
  | .hbm => 28
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S8704, .f32⟩
  | .hbm, ⟨12, _⟩ => ⟨S8704x1, .f32⟩
  | .hbm, ⟨13, _⟩ => ⟨S1x16, .f32⟩
  | .hbm, ⟨14, _⟩ => ⟨S8704x16, .f32⟩
  | .hbm, ⟨15, _⟩ => ⟨S8704x16, .f32⟩
  | .hbm, ⟨16, _⟩ => ⟨S8704x16, .f32⟩
  | .hbm, ⟨17, _⟩ => ⟨S8704x16, .f32⟩
  | .hbm, ⟨18, _⟩ => ⟨S8704x16, .f32⟩
  | .hbm, ⟨19, _⟩ => ⟨S_, .f32⟩
  | .hbm, ⟨20, _⟩ => ⟨S8704x96, .f32⟩
  | .hbm, ⟨21, _⟩ => ⟨S_, .f32⟩
  | .hbm, ⟨22, _⟩ => ⟨S8704x96, .f32⟩
  | .hbm, ⟨23, _⟩ => ⟨S_, .f32⟩
  | .hbm, ⟨24, _⟩ => ⟨S8704x16, .f32⟩
  | .hbm, ⟨25, _⟩ => ⟨S8704x16, .f32⟩
  | .hbm, ⟨26, _⟩ => ⟨S8704x384, .f32⟩
  | .hbm, ⟨27, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S512x384, .f32⟩
  | .local _ .vmem, ⟨5, _⟩ => ⟨S512x384, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg0 : BitVec 32 := BitVec.ofNat 32 (i 0).val
  let c512_i32 : BitVec 32 := 512#32
  let v6 : BitVec 32 := Scalar.muli arg0 c512_i32
  let c0_i32_4 : BitVec 32 := 0#32
  let v7 : BitVec 1 := Scalar.cmpi .sge v6 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg0 : BitVec 32 := BitVec.ofNat 32 (i 0).val
  let c512_i32 : BitVec 32 := 512#32
  let v6 : BitVec 32 := Scalar.muli arg0 c512_i32
  let c0_i32_4 : BitVec 32 := 0#32
  let v7 : BitVec 1 := Scalar.cmpi .sge v6 c0_i32_4
  let v_true : BitVec 1 := 1#1
  let v10 : BitVec 1 := Scalar.xori v7 v_true
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQRefIdeal.lean ====
abbrev S8704x2048 : Shape := ⟨2, ![8704, 2048]⟩
abbrev S2048x2048 : Shape := ⟨2, ![2048, 2048]⟩
abbrev S8704 : Shape := ⟨1, ![8704]⟩
abbrev S1x8704x8x2x128 : Shape := ⟨5, ![1, 8704, 8, 2, 128]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S1x8704x1x1x16 : Shape := ⟨5, ![1, 8704, 1, 1, 16]⟩
abbrev S1x8704x8x2x16 : Shape := ⟨5, ![1, 8704, 8, 2, 16]⟩
abbrev S1x8704x8x2x96 : Shape := ⟨5, ![1, 8704, 8, 2, 96]⟩

abbrev nBuf : Space → Nat
  | .hbm => 39
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704, .i32⟩
  | .hbm, ⟨3, _⟩ => ⟨S8704x2048, .f32⟩
  | .hbm, ⟨4, _⟩ => ⟨S8704x2048, .f32⟩
  | .hbm, ⟨5, _⟩ => ⟨S1x8704x8x2x128, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S8704, .f32⟩
  | .hbm, ⟨15, _⟩ => ⟨S8704x1, .f32⟩
  | .hbm, ⟨16, _⟩ => ⟨S1x16, .f32⟩
  | .hbm, ⟨17, _⟩ => ⟨S8704x16, .f32⟩
  | .hbm, ⟨18, _⟩ => ⟨S8704x16, .f32⟩
  | .hbm, ⟨19, _⟩ => ⟨S8704x16, .f32⟩
  | .hbm, ⟨20, _⟩ => ⟨S8704x16, .f32⟩
  | .hbm, ⟨21, _⟩ => ⟨S1x8704x1x1x16, .f32⟩
  | .hbm, ⟨22, _⟩ => ⟨S8704x16, .f32⟩
  | .hbm, ⟨23, _⟩ => ⟨S1x8704x1x1x16, .f32⟩
  | .hbm, ⟨24, _⟩ => ⟨S1x8704x8x2x16, .f32⟩
  | .hbm, ⟨25, _⟩ => ⟨S1x8704x8x2x16, .f32⟩
  | .hbm, ⟨26, _⟩ => ⟨S1x8704x8x2x16, .f32⟩
  | .hbm, ⟨27, _⟩ => ⟨S1x8704x8x2x16, .f32⟩
  | .hbm, ⟨28, _⟩ => ⟨S1x8704x8x2x16, .f32⟩
  | .hbm, ⟨29, _⟩ => ⟨S1x8704x8x2x16, .f32⟩
  | .hbm, ⟨30, _⟩ => ⟨S1x8704x8x2x16, .f32⟩
  | .hbm, ⟨31, _⟩ => ⟨S1x8704x8x2x16, .f32⟩
  | .hbm, ⟨32, _⟩ => ⟨S1x8704x8x2x16, .f32⟩
  | .hbm, ⟨33, _⟩ => ⟨S1x8704x8x2x16, .f32⟩
  | .hbm, ⟨34, _⟩ => ⟨S1x8704x8x2x16, .f32⟩
  | .hbm, ⟨35, _⟩ => ⟨S1x8704x8x2x16, .f32⟩
  | .hbm, ⟨36, _⟩ => ⟨S1x8704x8x2x96, .f32⟩
  | .hbm, ⟨37, _⟩ => ⟨S1x8704x8x2x128, .f32⟩
  | .hbm, ⟨38, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== ProjKV.lean ====
abbrev S8704x2048 : Shape := ⟨2, ![8704, 2048]⟩
abbrev S2048x4096 : Shape := ⟨2, ![2048, 4096]⟩
abbrev S8704 : Shape := ⟨1, ![8704]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x96 : Shape := ⟨2, ![8704, 96]⟩
abbrev S8704x384 : Shape := ⟨2, ![8704, 384]⟩
abbrev S8704x4096 : Shape := ⟨2, ![8704, 4096]⟩
abbrev S512x2048 : Shape := ⟨2, ![512, 2048]⟩
abbrev S2048x512 : Shape := ⟨2, ![2048, 512]⟩
abbrev S512x384 : Shape := ⟨2, ![512, 384]⟩
abbrev S512x512 : Shape := ⟨2, ![512, 512]⟩
abbrev S512x128 : Shape := ⟨2, ![512, 128]⟩

abbrev nBuf : Space → Nat
  | .hbm => 28
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x4096, .f32⟩
  | .hbm, ⟨2, _⟩ => ⟨S8704, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S8704, .f32⟩
  | .hbm, ⟨12, _⟩ => ⟨S8704x1, .f32⟩
  | .hbm, ⟨13, _⟩ => ⟨S1x16, .f32⟩
  | .hbm, ⟨14, _⟩ => ⟨S8704x16, .f32⟩
  | .hbm, ⟨15, _⟩ => ⟨S8704x16, .f32⟩
  | .hbm, ⟨16, _⟩ => ⟨S8704x16, .f32⟩
  | .hbm, ⟨17, _⟩ => ⟨S8704x16, .f32⟩
  | .hbm, ⟨18, _⟩ => ⟨S8704x16, .f32⟩
  | .hbm, ⟨19, _⟩ => ⟨S_, .f32⟩
  | .hbm, ⟨20, _⟩ => ⟨S8704x96, .f32⟩
  | .hbm, ⟨21, _⟩ => ⟨S_, .f32⟩
  | .hbm, ⟨22, _⟩ => ⟨S8704x96, .f32⟩
  | .hbm, ⟨23, _⟩ => ⟨S_, .f32⟩
  | .hbm, ⟨24, _⟩ => ⟨S8704x16, .f32⟩
  | .hbm, ⟨25, _⟩ => ⟨S8704x16, .f32⟩
  | .hbm, ⟨26, _⟩ => ⟨S8704x384, .f32⟩
  | .hbm, ⟨27, _⟩ => ⟨S8704x4096, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S512x384, .f32⟩
  | .local _ .vmem, ⟨5, _⟩ => ⟨S512x384, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg0 : BitVec 32 := BitVec.ofNat 32 (i 0).val
  let c512_i32 : BitVec 32 := 512#32
  let v6 : BitVec 32 := Scalar.muli arg0 c512_i32
  let c2048_i32 : BitVec 32 := 2048#32
  let v7 : BitVec 1 := Scalar.cmpi .slt v6 c2048_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c512_i32 : BitVec 32 := 512#32
  let v6 : BitVec 32 := Scalar.muli arg0 c512_i32
  let c2048_i32 : BitVec 32 := 2048#32
  let v7 : BitVec 1 := Scalar.cmpi .slt v6 c2048_i32
  let v_true : BitVec 1 := 1#1
  let v10 : BitVec 1 := Scalar.xori v7 v_true
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjKVRefIdeal.lean ====
abbrev S8704x2048 : Shape := ⟨2, ![8704, 2048]⟩
abbrev S2048x4096 : Shape := ⟨2, ![2048, 4096]⟩
abbrev S8704 : Shape := ⟨1, ![8704]⟩
abbrev S8704x4096 : Shape := ⟨2, ![8704, 4096]⟩
abbrev S1x8704x8x2x128 : Shape := ⟨5, ![1, 8704, 8, 2, 128]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S1x8704x1x1x16 : Shape := ⟨5, ![1, 8704, 1, 1, 16]⟩
abbrev S1x8704x8x2x16 : Shape := ⟨5, ![1, 8704, 8, 2, 16]⟩
abbrev S1x8704x8x2x96 : Shape := ⟨5, ![1, 8704, 8, 2, 96]⟩

abbrev nBuf : Space → Nat
  | .hbm => 42
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x4096, .f32⟩
  | .hbm, ⟨2, _⟩ => ⟨S8704, .i32⟩
  | .hbm, ⟨3, _⟩ => ⟨S8704x2048, .f32⟩
  | .hbm, ⟨4, _⟩ => ⟨S8704x4096, .f32⟩
  | .hbm, ⟨5, _⟩ => ⟨S8704x2048, .f32⟩
  | .hbm, ⟨6, _⟩ => ⟨S1x8704x8x2x128, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8704, .f32⟩
  | .hbm, ⟨16, _⟩ => ⟨S8704x1, .f32⟩
  | .hbm, ⟨17, _⟩ => ⟨S1x16, .f32⟩
  | .hbm, ⟨18, _⟩ => ⟨S8704x16, .f32⟩
  | .hbm, ⟨19, _⟩ => ⟨S8704x16, .f32⟩
  | .hbm, ⟨20, _⟩ => ⟨S8704x16, .f32⟩
  | .hbm, ⟨21, _⟩ => ⟨S8704x16, .f32⟩
  | .hbm, ⟨22, _⟩ => ⟨S1x8704x1x1x16, .f32⟩
  | .hbm, ⟨23, _⟩ => ⟨S8704x16, .f32⟩
  | .hbm, ⟨24, _⟩ => ⟨S1x8704x1x1x16, .f32⟩
  | .hbm, ⟨25, _⟩ => ⟨S1x8704x8x2x16, .f32⟩
  | .hbm, ⟨26, _⟩ => ⟨S1x8704x8x2x16, .f32⟩
  | .hbm, ⟨27, _⟩ => ⟨S1x8704x8x2x16, .f32⟩
  | .hbm, ⟨28, _⟩ => ⟨S1x8704x8x2x16, .f32⟩
  | .hbm, ⟨29, _⟩ => ⟨S1x8704x8x2x16, .f32⟩
  | .hbm, ⟨30, _⟩ => ⟨S1x8704x8x2x16, .f32⟩
  | .hbm, ⟨31, _⟩ => ⟨S1x8704x8x2x16, .f32⟩
  | .hbm, ⟨32, _⟩ => ⟨S1x8704x8x2x16, .f32⟩
  | .hbm, ⟨33, _⟩ => ⟨S1x8704x8x2x16, .f32⟩
  | .hbm, ⟨34, _⟩ => ⟨S1x8704x8x2x16, .f32⟩
  | .hbm, ⟨35, _⟩ => ⟨S1x8704x8x2x16, .f32⟩
  | .hbm, ⟨36, _⟩ => ⟨S1x8704x8x2x16, .f32⟩
  | .hbm, ⟨37, _⟩ => ⟨S1x8704x8x2x96, .f32⟩
  | .hbm, ⟨38, _⟩ => ⟨S1x8704x8x2x128, .f32⟩
  | .hbm, ⟨39, _⟩ => ⟨S8704x2048, .f32⟩
  | .hbm, ⟨40, _⟩ => ⟨S8704x2048, .f32⟩
  | .hbm, ⟨41, _⟩ => ⟨S8704x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== ProjA.lean ====
abbrev S8704x2048 : Shape := ⟨2, ![8704, 2048]⟩
abbrev S2048x9216 : Shape := ⟨2, ![2048, 9216]⟩
abbrev S8704 : Shape := ⟨1, ![8704]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x96 : Shape := ⟨2, ![8704, 96]⟩
abbrev S8704x384 : Shape := ⟨2, ![8704, 384]⟩
abbrev S8704x9216 : Shape := ⟨2, ![8704, 9216]⟩
abbrev S512x2048 : Shape := ⟨2, ![512, 2048]⟩
abbrev S2048x512 : Shape := ⟨2, ![2048, 512]⟩
abbrev S512x384 : Shape := ⟨2, ![512, 384]⟩
abbrev S512x512 : Shape := ⟨2, ![512, 512]⟩
abbrev S512x128 : Shape := ⟨2, ![512, 128]⟩

abbrev nBuf : Space → Nat
  | .hbm => 28
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x9216, .f32⟩
  | .hbm, ⟨2, _⟩ => ⟨S8704, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S8704, .f32⟩
  | .hbm, ⟨12, _⟩ => ⟨S8704x1, .f32⟩
  | .hbm, ⟨13, _⟩ => ⟨S1x16, .f32⟩
  | .hbm, ⟨14, _⟩ => ⟨S8704x16, .f32⟩
  | .hbm, ⟨15, _⟩ => ⟨S8704x16, .f32⟩
  | .hbm, ⟨16, _⟩ => ⟨S8704x16, .f32⟩
  | .hbm, ⟨17, _⟩ => ⟨S8704x16, .f32⟩
  | .hbm, ⟨18, _⟩ => ⟨S8704x16, .f32⟩
  | .hbm, ⟨19, _⟩ => ⟨S_, .f32⟩
  | .hbm, ⟨20, _⟩ => ⟨S8704x96, .f32⟩
  | .hbm, ⟨21, _⟩ => ⟨S_, .f32⟩
  | .hbm, ⟨22, _⟩ => ⟨S8704x96, .f32⟩
  | .hbm, ⟨23, _⟩ => ⟨S_, .f32⟩
  | .hbm, ⟨24, _⟩ => ⟨S8704x16, .f32⟩
  | .hbm, ⟨25, _⟩ => ⟨S8704x16, .f32⟩
  | .hbm, ⟨26, _⟩ => ⟨S8704x384, .f32⟩
  | .hbm, ⟨27, _⟩ => ⟨S8704x9216, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S512x384, .f32⟩
  | .local _ .vmem, ⟨5, _⟩ => ⟨S512x384, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 17], ![false, false]⟩

def k0_cond2 (i : grid0.Coords) : BitVec 1 :=
  let arg0 : BitVec 32 := BitVec.ofNat 32 (i 0).val
  let c512_i32 : BitVec 32 := 512#32
  let v6 : BitVec 32 := Scalar.muli arg0 c512_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c1024_i32 : BitVec 32 := 1024#32
  let c0_i32_6 : BitVec 32 := 0#32
  let v13 : BitVec 1 := Scalar.cmpi .sgt c1024_i32 c0_i32_6
  let v14 : BitVec 32 := Scalar.extui v13
  let c0_i32_7 : BitVec 32 := 0#32
  let v15 : BitVec 1 := Scalar.cmpi .slt c1024_i32 c0_i32_7
  let v16 : BitVec 32 := Scalar.extui v15
  let v17 : BitVec 32 := Scalar.subi v14 v16
  let v18 : BitVec 1 := Scalar.cmpi .ne v12 v17
  let v19 : BitVec 32 := Scalar.remsi v6 c1024_i32
  let c0_i32_8 : BitVec 32 := 0#32
  let v20 : BitVec 1 := Scalar.cmpi .ne v19 c0_i32_8
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let c3_i32 : BitVec 32 := 3#32
  let c0_i32_9 : BitVec 32 := 0#32
  let v24 : BitVec 1 := Scalar.cmpi .eq c3_i32 c0_i32_9
  let c1_i32_10 : BitVec 32 := 1#32
  let v25 : BitVec 32 := Scalar.select v24 c1_i32_10 c3_i32
  let v26 : BitVec 32 := Scalar.remsi v23 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2_i32 : BitVec 32 := 2#32
  let v34 : BitVec 1 := Scalar.cmpi .ne v33 c2_i32
  let v35 : BitVec 32 := Scalar.extui v34
  let c0_i32_14 : BitVec 32 := 0#32
  let v36 : BitVec 1 := Scalar.cmpi .ne v35 c0_i32_14
  v36

def k0_cond3 (i : grid0.Coords) : BitVec 1 :=
  let arg0 : BitVec 32 := BitVec.ofNat 32 (i 0).val
  let c512_i32 : BitVec 32 := 512#32
  let v6 : BitVec 32 := Scalar.muli arg0 c512_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c1024_i32 : BitVec 32 := 1024#32
  let c0_i32_6 : BitVec 32 := 0#32
  let v13 : BitVec 1 := Scalar.cmpi .sgt c1024_i32 c0_i32_6
  let v14 : BitVec 32 := Scalar.extui v13
  let c0_i32_7 : BitVec 32 := 0#32
  let v15 : BitVec 1 := Scalar.cmpi .slt c1024_i32 c0_i32_7
  let v16 : BitVec 32 := Scalar.extui v15
  let v17 : BitVec 32 := Scalar.subi v14 v16
  let v18 : BitVec 1 := Scalar.cmpi .ne v12 v17
  let v19 : BitVec 32 := Scalar.remsi v6 c1024_i32
  let c0_i32_8 : BitVec 32 := 0#32
  let v20 : BitVec 1 := Scalar.cmpi .ne v19 c0_i32_8
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let c3_i32 : BitVec 32 := 3#32
  let c0_i32_9 : BitVec 32 := 0#32
  let v24 : BitVec 1 := Scalar.cmpi .eq c3_i32 c0_i32_9
  let c1_i32_10 : BitVec 32 := 1#32
  let v25 : BitVec 32 := Scalar.select v24 c1_i32_10 c3_i32
  let v26 : BitVec 32 := Scalar.remsi v23 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2_i32 : BitVec 32 := 2#32
  let v34 : BitVec 1 := Scalar.cmpi .ne v33 c2_i32
  let v_true : BitVec 1 := 1#1
  let v37 : BitVec 1 := Scalar.xori v34 v_true
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S8704x2048 : Shape := ⟨2, ![8704, 2048]⟩
abbrev S2048x9216 : Shape := ⟨2, ![2048, 9216]⟩
abbrev S8704 : Shape := ⟨1, ![8704]⟩
abbrev S8704x9216 : Shape := ⟨2, ![8704, 9216]⟩
abbrev S1x8704x3x3x8x128 : Shape := ⟨6, ![1, 8704, 3, 3, 8, 128]⟩
abbrev S1x8704x3x1x8x128 : Shape := ⟨6, ![1, 8704, 3, 1, 8, 128]⟩
abbrev S1x8704x3x8x128 : Shape := ⟨5, ![1, 8704, 3, 8, 128]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S1x8704x1x1x16 : Shape := ⟨5, ![1, 8704, 1, 1, 16]⟩
abbrev S1x8704x3x8x16 : Shape := ⟨5, ![1, 8704, 3, 8, 16]⟩
abbrev S1x8704x3x8x96 : Shape := ⟨5, ![1, 8704, 3, 8, 96]⟩

abbrev nBuf : Space → Nat
  | .hbm => 81
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x9216, .f32⟩
  | .hbm, ⟨2, _⟩ => ⟨S8704, .i32⟩
  | .hbm, ⟨3, _⟩ => ⟨S8704x2048, .f32⟩
  | .hbm, ⟨4, _⟩ => ⟨S8704x9216, .f32⟩
  | .hbm, ⟨5, _⟩ => ⟨S1x8704x3x3x8x128, .f32⟩
  | .hbm, ⟨6, _⟩ => ⟨S1x8704x3x1x8x128, .f32⟩
  | .hbm, ⟨7, _⟩ => ⟨S1x8704x3x8x128, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S8704, .f32⟩
  | .hbm, ⟨17, _⟩ => ⟨S8704x1, .f32⟩
  | .hbm, ⟨18, _⟩ => ⟨S1x16, .f32⟩
  | .hbm, ⟨19, _⟩ => ⟨S8704x16, .f32⟩
  | .hbm, ⟨20, _⟩ => ⟨S8704x16, .f32⟩
  | .hbm, ⟨21, _⟩ => ⟨S8704x16, .f32⟩
  | .hbm, ⟨22, _⟩ => ⟨S8704x16, .f32⟩
  | .hbm, ⟨23, _⟩ => ⟨S1x8704x1x1x16, .f32⟩
  | .hbm, ⟨24, _⟩ => ⟨S8704x16, .f32⟩
  | .hbm, ⟨25, _⟩ => ⟨S1x8704x1x1x16, .f32⟩
  | .hbm, ⟨26, _⟩ => ⟨S1x8704x3x8x16, .f32⟩
  | .hbm, ⟨27, _⟩ => ⟨S1x8704x3x8x16, .f32⟩
  | .hbm, ⟨28, _⟩ => ⟨S1x8704x3x8x16, .f32⟩
  | .hbm, ⟨29, _⟩ => ⟨S1x8704x3x8x16, .f32⟩
  | .hbm, ⟨30, _⟩ => ⟨S1x8704x3x8x16, .f32⟩
  | .hbm, ⟨31, _⟩ => ⟨S1x8704x3x8x16, .f32⟩
  | .hbm, ⟨32, _⟩ => ⟨S1x8704x3x8x16, .f32⟩
  | .hbm, ⟨33, _⟩ => ⟨S1x8704x3x8x16, .f32⟩
  | .hbm, ⟨34, _⟩ => ⟨S1x8704x3x8x16, .f32⟩
  | .hbm, ⟨35, _⟩ => ⟨S1x8704x3x8x16, .f32⟩
  | .hbm, ⟨36, _⟩ => ⟨S1x8704x3x8x16, .f32⟩
  | .hbm, ⟨37, _⟩ => ⟨S1x8704x3x8x16, .f32⟩
  | .hbm, ⟨38, _⟩ => ⟨S1x8704x3x8x96, .f32⟩
  | .hbm, ⟨39, _⟩ => ⟨S1x8704x3x8x128, .f32⟩
  | .hbm, ⟨40, _⟩ => ⟨S1x8704x3x1x8x128, .f32⟩
  | .hbm, ⟨41, _⟩ => ⟨S1x8704x3x8x128, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S8704, .f32⟩
  | .hbm, ⟨51, _⟩ => ⟨S8704x1, .f32⟩
  | .hbm, ⟨52, _⟩ => ⟨S1x16, .f32⟩
  | .hbm, ⟨53, _⟩ => ⟨S8704x16, .f32⟩
  | .hbm, ⟨54, _⟩ => ⟨S8704x16, .f32⟩
  | .hbm, ⟨55, _⟩ => ⟨S8704x16, .f32⟩
  | .hbm, ⟨56, _⟩ => ⟨S8704x16, .f32⟩
  | .hbm, ⟨57, _⟩ => ⟨S1x8704x1x1x16, .f32⟩
  | .hbm, ⟨58, _⟩ => ⟨S8704x16, .f32⟩
  | .hbm, ⟨59, _⟩ => ⟨S1x8704x1x1x16, .f32⟩
  | .hbm, ⟨60, _⟩ => ⟨S1x8704x3x8x16, .f32⟩
  | .hbm, ⟨61, _⟩ => ⟨S1x8704x3x8x16, .f32⟩
  | .hbm, ⟨62, _⟩ => ⟨S1x8704x3x8x16, .f32⟩
  | .hbm, ⟨63, _⟩ => ⟨S1x8704x3x8x16, .f32⟩
  | .hbm, ⟨64, _⟩ => ⟨S1x8704x3x8x16, .f32⟩
  | .hbm, ⟨65, _⟩ => ⟨S1x8704x3x8x16, .f32⟩
  | .hbm, ⟨66, _⟩ => ⟨S1x8704x3x8x16, .f32⟩
  | .hbm, ⟨67, _⟩ => ⟨S1x8704x3x8x16, .f32⟩
  | .hbm, ⟨68, _⟩ => ⟨S1x8704x3x8x16, .f32⟩
  | .hbm, ⟨69, _⟩ => ⟨S1x8704x3x8x16, .f32⟩
  | .hbm, ⟨70, _⟩ => ⟨S1x8704x3x8x16, .f32⟩
  | .hbm, ⟨71, _⟩ => ⟨S1x8704x3x8x16, .f32⟩
  | .hbm, ⟨72, _⟩ => ⟨S1x8704x3x8x96, .f32⟩
  | .hbm, ⟨73, _⟩ => ⟨S1x8704x3x8x128, .f32⟩
  | .hbm, ⟨74, _⟩ => ⟨S1x8704x3x1x8x128, .f32⟩
  | .hbm, ⟨75, _⟩ => ⟨S1x8704x3x8x128, .f32⟩
  | .hbm, ⟨76, _⟩ => ⟨S1x8704x3x1x8x128, .f32⟩
  | .hbm, ⟨77, _⟩ => ⟨S1x8704x3x1x8x128, .f32⟩
  | .hbm, ⟨78, _⟩ => ⟨S1x8704x3x1x8x128, .f32⟩
  | .hbm, ⟨79, _⟩ => ⟨S1x8704x3x3x8x128, .f32⟩
  | .hbm, ⟨80, _⟩ => ⟨S8704x9216, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩

abbrev nD : Nat := 1
abbrev τ : Topo := Topo.v7x

variable {F : FTy → Type} [FloatOps F]
-- ==== NormH.lean ====
abbrev S8704x2048 : Shape := ⟨2, ![8704, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormHRefIdeal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | .hbm, ⟨18, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormY.lean ====
abbrev S8704x2048 : Shape := ⟨2, ![8704, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormYRefIdeal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormT.lean ====
abbrev S8704x2048 : Shape := ⟨2, ![8704, 2048]⟩
abbrev S2048 : Shape := ⟨1, ![2048]⟩
abbrev S1x2048 : Shape := ⟨2, ![1, 2048]⟩
abbrev S2048x8704 : Shape := ⟨2, ![2048, 8704]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S2048x8704, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormTRefIdeal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048x8704 : Shape := ⟨2, ![2048, 8704]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | .hbm, ⟨18, _⟩ => ⟨S8704x2048, .bf16⟩
  | .hbm, ⟨19, _⟩ => ⟨S2048x8704, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormX.lean ====
abbrev S8704x2048 : Shape := ⟨2, ![8704, 2048]⟩
abbrev S2048 : Shape := ⟨1, ![2048]⟩
abbrev S2048x8704 : Shape := ⟨2, ![2048, 8704]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x8704, .f32⟩
  | .hbm, ⟨3, _⟩ => ⟨S1x2048, .f32⟩
  | .hbm, ⟨4, _⟩ => ⟨S8704x2048, .f32⟩
  | .hbm, ⟨5, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormXRefIdeal.lean ====
abbrev S8704x2048 : Shape := ⟨2, ![8704, 2048]⟩
abbrev S2048 : Shape := ⟨1, ![2048]⟩
abbrev S2048x8704 : Shape := ⟨2, ![2048, 8704]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x8704, .f32⟩
  | .hbm, ⟨3, _⟩ => ⟨S8704x2048, .f32⟩
  | .hbm, ⟨4, _⟩ => ⟨S8704x2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S8704x2048, .f32⟩
  | .hbm, ⟨20, _⟩ => ⟨S8704x2048, .f32⟩
  | .hbm, ⟨21, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Window.lean ====
/- The mathematics of one query of the dilated sliding window, free of any program: a softmax over two halves of
   128 keys, the same softmax over the 256 keys at once, and the elements of the projected stream it is taken of. -/
module
public import Idealize.ShloMosaic.Lib.Pointwise
public import Idealize.ShloMosaic.PureOps.IdealRules
public import Idealize.ShloMosaic.Lib.WordCmp

@[expose] public section

set_option maxRecDepth 16384

noncomputable section

namespace Cert.Window

open Idealize.ShloMosaic Idealize.ShloMosaic.TcCoe Idealize.SL.Sem

/-- Element `(row, col)` of the projected stream, at natural numbers; outside the array it is 0. -/
def rd (X : FVec Ideal ⟨2, ![8704, 9216]⟩ .f32) (row col : ℕ) : EReal :=
  if h : row < 8704 ∧ col < 9216 then X (ix2 ⟨row, h.1⟩ ⟨col, h.2⟩) else 0

/-- A read at an index is `rd` at its coordinates. -/
theorem rd_eq (X : FVec Ideal ⟨2, ![8704, 9216]⟩ .f32) (i : Fin 8704) (j : Fin 9216) : X (ix2 i j) = rd X i j := by
  rw [rd, dif_pos ⟨i.isLt, j.isLt⟩]

/-- A read at an index whose coordinates are `row` and `col`. -/
theorem rd_of (X : FVec Ideal ⟨2, ![8704, 9216]⟩ .f32) (i : (⟨2, ![8704, 9216]⟩ : Shape).Idx) (row col : ℕ)
    (h0 : (i 0).val = row) (h1 : (i 1).val = col) : X i = rd X row col := by
  subst h0 h1
  rw [rd, dif_pos ⟨(i 0).isLt, (i 1).isLt⟩]
  exact congrArg X (funext fun a => by match a with | ⟨0, _⟩ => rfl | ⟨1, _⟩ => rfl)

/-- The largest of the two halves' scores. -/
def pmax (a b : Fin 128 → EReal) : EReal := max (Finset.univ.fold max ⊥ a) (Finset.univ.fold max ⊥ b)

/-- The softmax's denominator over the two halves. -/
def pden (a b : Fin 128 → EReal) : EReal :=
  (∑ x, Ideal.exp (a x - pmax a b)) + ∑ x, Ideal.exp (b x - pmax a b)

/-- The softmax-weighted mean of the values over the two halves. -/
def pout (a b v w : Fin 128 → EReal) : EReal :=
  Ideal.div ((∑ x, Ideal.exp (a x - pmax a b) * v x) + ∑ x, Ideal.exp (b x - pmax a b) * w x) (pden a b)

/-- The log-sum-exp over the two halves. -/
def plse (a b : Fin 128 → EReal) : EReal := pmax a b + Ideal.log (pden a b)

/-- The first half of 256 positions. -/
abbrev lo (s : Fin 256 → EReal) (x : Fin 128) : EReal := s ⟨x, by omega⟩
/-- The second half of 256 positions. -/
abbrev hi (s : Fin 256 → EReal) (x : Fin 128) : EReal := s ⟨128 + x, by omega⟩

/-- A sum over the 256 positions is the sum over the halves. -/
theorem sum_halves (s : Fin 256 → EReal) : ∑ x, s x = (∑ x, lo s x) + ∑ x, hi s x := by
  exact Fin.sum_univ_add (a := 128) (b := 128) s

/-- The largest of the 256 positions is the larger of the halves' largest. -/
theorem max_halves (s : Fin 256 → EReal) : Finset.univ.fold max ⊥ s = pmax (lo s) (hi s) := by
  have e : ∀ {n : ℕ} (f : Fin n → EReal), Finset.univ.fold max ⊥ f = Finset.univ.sup f := fun f => rfl
  rw [pmax, e, e, e]
  apply le_antisymm
  · refine Finset.sup_le fun x _ => ?_
    by_cases hx : (x : ℕ) < 128
    · exact le_max_of_le_left (show lo s ⟨x, hx⟩ ≤ _ from Finset.le_sup (f := lo s) (Finset.mem_univ (⟨x, hx⟩ : Fin 128)))
    · refine le_max_of_le_right (le_trans (le_of_eq ?_) (Finset.le_sup (f := hi s) (Finset.mem_univ ⟨x - 128, by omega⟩)))
      exact congrArg s (Fin.ext (by show (x : ℕ) = 128 + (x - 128); omega))
  · refine max_le (Finset.sup_le fun x _ => ?_) (Finset.sup_le fun x _ => ?_)
    · exact Finset.le_sup (f := s) (Finset.mem_univ _)
    · exact Finset.le_sup (f := s) (Finset.mem_univ _)

/-- The softmax over 256 positions is the one over the halves; a value whose score is −∞ does not matter. -/
theorem out_halves (s v : Fin 256 → EReal) (a b va vb : Fin 128 → EReal) (ha : ∀ x, lo s x = a x) (hb : ∀ x, hi s x = b x)
    (hva : ∀ x, a x ≠ ⊥ → lo v x = va x) (hvb : ∀ x, b x ≠ ⊥ → hi v x = vb x) :
    Ideal.div (∑ x, v x * Ideal.exp (s x - Finset.univ.fold max ⊥ s)) (∑ x, Ideal.exp (s x - Finset.univ.fold max ⊥ s))
      = pout a b va vb := by
  obtain rfl : lo s = a := funext ha
  obtain rfl : hi s = b := funext hb
  have key : ∀ (z : EReal) (p q m : EReal), (z ≠ ⊥ → p = q) → p * Ideal.exp (z - m) = Ideal.exp (z - m) * q := by
    intro z p q m h
    by_cases hz : z = ⊥
    · subst hz; rw [EReal.bot_sub]; simp
    · rw [h hz, mul_comm]
  rw [pout, pden, sum_halves, sum_halves (fun x => Ideal.exp _), max_halves]
  refine congrArg₂ _ (congrArg₂ _ (Finset.sum_congr rfl fun x _ => ?_) (Finset.sum_congr rfl fun x _ => ?_)) rfl
  · exact key _ _ _ _ (hva x)
  · exact key _ _ _ _ (hvb x)

/-- The log-sum-exp over 256 positions is the one over the halves. -/
theorem lse_halves (s : Fin 256 → EReal) (a b : Fin 128 → EReal) (ha : ∀ x, lo s x = a x) (hb : ∀ x, hi s x = b x) :
    Finset.univ.fold max ⊥ s + Ideal.log (∑ x, Ideal.exp (s x - Finset.univ.fold max ⊥ s)) = plse a b := by
  obtain rfl : lo s = a := funext ha
  obtain rfl : hi s = b := funext hb
  rw [plse, pden, sum_halves (fun x => Ideal.exp _), max_halves]

/-- The scale: the inverse of the square root of the head's width. -/
def scale : EReal := (((Real.sqrt 128)⁻¹ : ℝ) : EReal)

/-- Dividing by the square root of the width is multiplying by the scale. -/
theorem div_root (x : EReal) : Ideal.div x (Ideal.sqrt (Ideal.ofBits .f32 0x43000000#32)) = x * scale := by
  have h : Ideal.ofBits .f32 0x43000000#32 = ((128 : ℝ) : EReal) := by
    simp [Ideal.ofBits, Ideal.ieee]; rw [← EReal.coe_mul]; norm_num
  rw [h, Ideal.sqrt_coe, if_neg (by norm_num), Ideal.div_coe (by positivity), one_div]
  rfl

/-- The pattern of −∞ is the least extended real. -/
theorem ninf : Ideal.ofBits .f32 0xFF800000#32 = ⊥ := by simp [Ideal.ofBits, Ideal.ieee]

section Head
variable (n i : ℕ) (q kp kc vp vc : Fin 128 → Fin 128 → EReal) (h : i < 128)

/-- One head's scores against the block before, from the blocks' queries and keys. -/
def headP (x : Fin 128) : EReal := if i ≤ x ∧ 0 < n then (∑ d, q ⟨i, h⟩ d * kp x d) * scale else ⊥

/-- One head's scores against the query's own block. -/
def headC (x : Fin 128) : EReal := if x ≤ i then (∑ d, q ⟨i, h⟩ d * kc x d) * scale else ⊥

/-- One head's output at query `i` and lane `d`. -/
def headOut (d : Fin 128) : EReal := pout (headP n i q kp h) (headC i q kc h) (fun x => vp x d) (fun x => vc x d)

/-- One head's log-sum-exp at query `i`. -/
def headLse : EReal := plse (headP n i q kp h) (headC i q kc h)

end Head

section Stream
variable (X : FVec Ideal ⟨2, ![8704, 9216]⟩ .f32) (dil g b r n qi h : ℕ)

/-- The row of token `u` of stream `r` of sequence `b`. -/
def tok (u : ℕ) : ℕ := b * 4096 + u * dil + r

/-- The query's product with a key of the block before its own. -/
def prevDot (x : Fin 128) : EReal :=
  ∑ d : Fin 128, rd X (tok dil b r (n * 128 + qi)) (g * 3072 + h * 128 + d) * rd X (tok dil b r ((n - 1) * 128 + x)) (g * 3072 + 1024 + h * 128 + d)

/-- The query's product with a key of its own block. -/
def curDot (x : Fin 128) : EReal :=
  ∑ d : Fin 128, rd X (tok dil b r (n * 128 + qi)) (g * 3072 + h * 128 + d) * rd X (tok dil b r (n * 128 + x)) (g * 3072 + 1024 + h * 128 + d)

/-- The scores against the block before the query's own. -/
def sP (x : Fin 128) : EReal := if qi ≤ x ∧ 0 < n then prevDot X dil g b r n qi h x * scale else ⊥

/-- The scores against the query's own block. -/
def sC (x : Fin 128) : EReal := if x ≤ qi then curDot X dil g b r n qi h x * scale else ⊥

/-- The attention's output at lane `d` of head `h`, query `qi` of block `n`. -/
def outAt (d : ℕ) : EReal :=
  pout (sP X dil g b r n qi h) (sC X dil g b r n qi h)
    (fun x => rd X (tok dil b r ((n - 1) * 128 + x)) (g * 3072 + 2048 + h * 128 + d))
    (fun x => rd X (tok dil b r (n * 128 + x)) (g * 3072 + 2048 + h * 128 + d))

/-- The log-sum-exp of the query's scores. -/
def lseAt : EReal := plse (sP X dil g b r n qi h) (sC X dil g b r n qi h)

end Stream

/-- Signed words far from the ends add as integers. -/
theorem add_int {x y : BitVec 32} {a b : ℤ} (hx : x.toInt = a) (hy : y.toInt = b) (h : -2000000000 ≤ a + b) (h' : a + b ≤ 2000000000) :
    (IntOp.addi x y).toInt = a + b := by
  rw [IntOp.addi, BitVec.toInt_add, hx, hy]; exact Int.bmod_eq_of_le (by omega) (by omega)

/-- Signed words far from the ends subtract as integers. -/
theorem sub_int {x y : BitVec 32} {a b : ℤ} (hx : x.toInt = a) (hy : y.toInt = b) (h : -2000000000 ≤ a - b) (h' : a - b ≤ 2000000000) :
    (IntOp.subi x y).toInt = a - b := by
  rw [IntOp.subi, BitVec.toInt_sub, hx, hy]; exact Int.bmod_eq_of_le (by omega) (by omega)

/-- Signed words far from the ends multiply as integers. -/
theorem mul_int {x y : BitVec 32} {a b : ℤ} (hx : x.toInt = a) (hy : y.toInt = b) (h : -2000000000 ≤ a * b) (h' : a * b ≤ 2000000000) :
    (IntOp.muli x y).toInt = a * b := by
  rw [IntOp.muli, BitVec.toInt_mul, hx, hy]; exact Int.bmod_eq_of_le (by omega) (by omega)

/-- A small natural number as a signed word. -/
theorem nat_int (k : ℕ) (h : k < 100000) : (BitVec.ofNat 32 k).toInt = k := by
  rw [BitVec.toInt_ofNat']; exact Int.bmod_eq_of_le (by omega) (by omega)

/-- The word 128. -/
theorem int_128 : (128#32 : BitVec 32).toInt = 128 := by decide
/-- The word 0. -/
theorem int_0 : (0#32 : BitVec 32).toInt = 0 := by decide

/-- How far a key lies before a query, as a word. -/
theorem band_word (i y : ℕ) (hi : i < 128) (hy : y < 256) :
    (IntOp.subi (IntOp.addi (BitVec.ofNat 32 i) 128#32) (BitVec.ofNat 32 y)).toInt = (i : ℤ) + 128 - y :=
  sub_int (add_int (nat_int i (by omega)) int_128 (by omega) (by omega)) (nat_int y (by omega)) (by omega) (by omega)

/-- A key's place in its stream, as a word. -/
theorem key_word (n y : ℕ) (hn : n < 32) (hy : y < 256) :
    (IntOp.subi (IntOp.addi (IntOp.muli (BitVec.ofNat 32 n) 128#32) (BitVec.ofNat 32 y)) 128#32).toInt = (n : ℤ) * 128 + y - 128 :=
  sub_int (add_int (mul_int (nat_int n (by omega)) int_128 (by omega) (by omega)) (nat_int y (by omega)) (by omega) (by omega))
    int_128 (by omega) (by omega)

/-- The reference's mask, at a place of the band: at most 128 before the query, not after it, and not before the start. -/
theorem mask_band (n i y : ℕ) (hn : n < 32) (hi : i < 128) (hy : y < 256) (p q : EReal) :
    Scalar.select (IntOp.andi (IntOp.andi
        (IntOp.cmpi CmpIPredicate.sge (IntOp.subi (IntOp.addi (BitVec.ofNat 32 i) 128#32) (BitVec.ofNat 32 y)) 0#32)
        (IntOp.cmpi CmpIPredicate.sle (IntOp.subi (IntOp.addi (BitVec.ofNat 32 i) 128#32) (BitVec.ofNat 32 y)) 128#32))
      (IntOp.cmpi CmpIPredicate.sge (IntOp.subi (IntOp.addi (IntOp.muli (BitVec.ofNat 32 n) 128#32) (BitVec.ofNat 32 y)) 128#32) 0#32)) p q
      = if (y ≤ i + 128 ∧ i ≤ y) ∧ 128 ≤ n * 128 + y then p else q := by
  have e : ∀ a b c : Bool, IntOp.andi (IntOp.andi (BitVec.ofBool a) (BitVec.ofBool b)) (BitVec.ofBool c) = BitVec.ofBool ((a && b) && c) := by decide
  have f : ∀ b : Bool, (BitVec.ofBool b = 1) ↔ b = true := by decide
  simp only [IntOp.cmpi, BitVec.sle, e, band_word i y hi hy, key_word n y hn hy, int_0, int_128, Scalar.select]
  simp only [f, Bool.and_eq_true, decide_eq_true_eq]
  refine if_congr ?_ rfl rfl
  omega

/-- The reference's mask on the first half of the band: at or after the query's own place, and not before the start. -/
theorem mask_lo (n i x : ℕ) (hn : n < 32) (hi : i < 128) (hx : x < 128) (p q : EReal) :
    (if (x ≤ i + 128 ∧ i ≤ x) ∧ 128 ≤ n * 128 + x then p else q) = if i ≤ x ∧ 0 < n then p else q :=
  if_congr (by omega) rfl rfl

/-- The reference's mask on the second half of the band: at or before the query's own place. -/
theorem mask_hi (n i x : ℕ) (hn : n < 32) (hi : i < 128) (hx : x < 128) (p q : EReal) :
    (if (128 + x ≤ i + 128 ∧ i ≤ 128 + x) ∧ 128 ≤ n * 128 + (128 + x) then p else q) = if x ≤ i then p else q :=
  if_congr (by omega) rfl rfl

/-- The kernel's mask on the block before: at or after the query's own place, and there is a block before. -/
theorem mask_prev (n i x : ℕ) (hn : n < 32) (hi : i < 128) (hx : x < 128) (p q : EReal) :
    Scalar.select (IntOp.andi (IntOp.cmpi CmpIPredicate.sge (BitVec.ofNat 32 x) (BitVec.ofNat 32 i))
      (Scalar.cmpi CmpIPredicate.sgt (BitVec.ofNat 32 n) 0#32)) p q = if i ≤ x ∧ 0 < n then p else q := by
  have e : ∀ a b : Bool, (IntOp.andi (BitVec.ofBool a) (BitVec.ofBool b)) = BitVec.ofBool (a && b) := by decide
  have f : ∀ b : Bool, (BitVec.ofBool b = 1) ↔ b = true := by decide
  simp only [IntOp.cmpi, Scalar.cmpi, BitVec.sle, BitVec.slt, e, nat_int x (by omega), nat_int i (by omega), nat_int n (by omega),
    int_0, Scalar.select, f, Bool.and_eq_true, decide_eq_true_eq]
  refine if_congr ?_ rfl rfl
  omega

/-- The kernel's mask on the query's own block: at or before the query's own place. -/
theorem mask_cur (i x : ℕ) (hi : i < 128) (hx : x < 128) (p q : EReal) :
    Scalar.select (IntOp.cmpi CmpIPredicate.sle (BitVec.ofNat 32 x) (BitVec.ofNat 32 i)) p q = if x ≤ i then p else q := by
  have f : ∀ b : Bool, (BitVec.ofBool b = 1) ↔ b = true := by decide
  simp only [IntOp.cmpi, BitVec.sle, nat_int x (by omega), nat_int i (by omega), Scalar.select, f, decide_eq_true_eq]
  refine if_congr ?_ rfl rfl
  omega

section Raw
variable (n i : ℕ) (N : EReal) (A B : Fin 128 → EReal)

/-- A score against the block before, as the kernel computes it. -/
def rawP (x : Fin 128) : EReal :=
  Scalar.select (IntOp.andi (IntOp.cmpi CmpIPredicate.sge (BitVec.ofNat 32 x) (BitVec.ofNat 32 i))
    (Scalar.cmpi CmpIPredicate.sgt (BitVec.ofNat 32 n) 0#32)) (A x * N) (Ideal.ofBits .f32 0xFF800000#32)

/-- A score against the query's own block, as the kernel computes it. -/
def rawC (x : Fin 128) : EReal :=
  Scalar.select (IntOp.cmpi CmpIPredicate.sle (BitVec.ofNat 32 x) (BitVec.ofNat 32 i)) (B x * N) (Ideal.ofBits .f32 0xFF800000#32)

/-- The larger of the two blocks' largest scores, as the kernel computes it. -/
def rawM : EReal := max (Finset.univ.fold max (Ideal.ofBits .f32 0xFF800000#32) (rawP n i N A)) (Finset.univ.fold max (Ideal.ofBits .f32 0xFF800000#32) (rawC i N B))

variable (hn : n < 32) (hi : i < 128) (hN : N = scale) (q kp kc vp vc : Fin 128 → Fin 128 → EReal)
  (hA : ∀ x, A x = ∑ d, q ⟨i, hi⟩ d * kp x d) (hB : ∀ x, B x = ∑ d, q ⟨i, hi⟩ d * kc x d)
include hn hN hA hB

/-- The kernel's scores against the block before are the head's. -/
theorem rawP_eq : rawP n i N A = headP n i q kp hi := by
  funext x
  rw [rawP, mask_prev n i x hn hi x.isLt, ninf, hN, hA, headP]

/-- The kernel's scores against the query's own block are the head's. -/
theorem rawC_eq : rawC i N B = headC i q kc hi := by
  funext x
  rw [rawC, mask_cur i x hi x.isLt, ninf, hN, hB, headC]

/-- The kernel's output for one query and lane is the head's. -/
theorem raw_out (va vb : Fin 128 → EReal) (d : Fin 128) (hva : ∀ x, va x = vp x d) (hvb : ∀ x, vb x = vc x d) :
    Ideal.div ((∑ x, Ideal.exp (rawP n i N A x - rawM n i N A B) * va x) + ∑ x, Ideal.exp (rawC i N B x - rawM n i N A B) * vb x)
      ((∑ x, Ideal.exp (rawP n i N A x - rawM n i N A B)) + ∑ x, Ideal.exp (rawC i N B x - rawM n i N A B))
      = headOut n i q kp kc vp vc hi d := by
  obtain rfl : va = fun x => vp x d := funext hva
  obtain rfl : vb = fun x => vc x d := funext hvb
  rw [rawM, rawP_eq n i N A B hn hi hN q kp kc hA hB, rawC_eq n i N A B hn hi hN q kp kc hA hB, ninf]
  rfl

/-- The kernel's log-sum-exp for one query is the head's. -/
theorem raw_lse :
    rawM n i N A B + Ideal.log ((∑ x, Ideal.exp (rawP n i N A x - rawM n i N A B)) + ∑ x, Ideal.exp (rawC i N B x - rawM n i N A B))
      = headLse n i q kp kc hi := by
  rw [rawM, rawP_eq n i N A B hn hi hN q kp kc hA hB, rawC_eq n i N A B hn hi hN q kp kc hA hB, ninf]
  rfl

end Raw

section Rank6
variable {n0 n1 n2 n3 n4 n5 : Nat}

/-- The indices of a rank-6 array that drop to `j` are the ones with `j`'s coordinates and any last one. -/
theorem fiber6 (h : (⟨6, ![n0, n1, n2, n3, n4, n5]⟩ : Shape).ReducesTo [5] ⟨5, ![n0, n1, n2, n3, n4]⟩)
    (j : (⟨5, ![n0, n1, n2, n3, n4]⟩ : Shape).Idx) (i : (⟨6, ![n0, n1, n2, n3, n4, n5]⟩ : Shape).Idx) :
    h.drop i = j ↔ ∃ k : Fin n5, (ix6 (j 0) (j 1) (j 2) (j 3) (j 4) k : (⟨6, ![n0, n1, n2, n3, n4, n5]⟩ : Shape).Idx) = i := by
  constructor
  · intro e
    refine ⟨i 5, ?_⟩
    funext a; apply Fin.ext
    match a with
    | ⟨0, _⟩ => exact (congrArg Fin.val (congrFun e (0 : Fin 5))).symm
    | ⟨1, _⟩ => exact (congrArg Fin.val (congrFun e (1 : Fin 5))).symm
    | ⟨2, _⟩ => exact (congrArg Fin.val (congrFun e (2 : Fin 5))).symm
    | ⟨3, _⟩ => exact (congrArg Fin.val (congrFun e (3 : Fin 5))).symm
    | ⟨4, _⟩ => exact (congrArg Fin.val (congrFun e (4 : Fin 5))).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A largest element along the last axis of a rank-6 array. -/
@[pointwise] theorem fold6 (h : (⟨6, ![n0, n1, n2, n3, n4, n5]⟩ : Shape).ReducesTo [5] ⟨5, ![n0, n1, n2, n3, n4]⟩)
    (j : (⟨5, ![n0, n1, n2, n3, n4]⟩ : Shape).Idx) {α : Type*} (op : α → α → α)
    [Std.Commutative op] [Std.Associative op] (b : α) (v : (⟨6, ![n0, n1, n2, n3, n4, n5]⟩ : Shape).Idx → α) :
    (Finset.univ.filter (fun i => h.drop i = j)).fold op b v
      = (Finset.univ : Finset (Fin n5)).fold op b (fun k => v (ix6 (j 0) (j 1) (j 2) (j 3) (j 4) k)) :=
  Finset.fold_filter_eq_fold_of_fiber op _ (fun k : Fin n5 => (ix6 (j 0) (j 1) (j 2) (j 3) (j 4) k : (⟨6, ![n0, n1, n2, n3, n4, n5]⟩ : Shape).Idx))
    (fun _ _ e => congrFun e 5) (fiber6 h j) b v

/-- A sum along the last axis of a rank-6 array. -/
@[pointwise] theorem sum6 (h : (⟨6, ![n0, n1, n2, n3, n4, n5]⟩ : Shape).ReducesTo [5] ⟨5, ![n0, n1, n2, n3, n4]⟩)
    (j : (⟨5, ![n0, n1, n2, n3, n4]⟩ : Shape).Idx) (v : (⟨6, ![n0, n1, n2, n3, n4, n5]⟩ : Shape).Idx → EReal) (init : EReal) :
    Ideal.hostReduceAdd h v init j = init + ∑ k : Fin n5, v (ix6 (j 0) (j 1) (j 2) (j 3) (j 4) k) := by
  exact congrArg (init + ·) (Finset.sum_filter_eq_sum_of_fiber _
    (fun k : Fin n5 => (ix6 (j 0) (j 1) (j 2) (j 3) (j 4) k : (⟨6, ![n0, n1, n2, n3, n4, n5]⟩ : Shape).Idx))
    (fun _ _ e => congrFun e 5) (fiber6 h j) v)

/-- A largest element along the last axis of a rank-6 array, as the program reduces it. -/
theorem max6 {u : Shape} (h : (⟨6, ![n0, n1, n2, n3, n4, n5]⟩ : Shape).ReducesTo [5] ⟨5, ![n0, n1, n2, n3, n4]⟩) (hu : 0 < u.numel)
    (v : FVec Ideal ⟨6, ![n0, n1, n2, n3, n4, n5]⟩ .f32) (init : FVec Ideal u .f32) (j0 : Fin n0) (j1 : Fin n1) (j2 : Fin n2) (j3 : Fin n3) (j4 : Fin n4)
    (e : init (Shape.Idx.first hu) = ⊥) :
    Host.reduce FloatOps.maximumf v init h hu (ix5 j0 j1 j2 j3 j4)
      = Finset.univ.fold max ⊥ (fun k => v (ix6 j0 j1 j2 j3 j4 k)) := by
  rw [← e]
  simp only [pointwise]

end Rank6

end Cert.Window

end
-- ==== Proof.Ker0.lean ====
/- What the window of dilation 1 writes back at a grid point, head by head. -/
module
public import proofs.«01_k».proof.Proof.Window
public import proofs.«01_k».proof.Proof.Gen.Dil0Ideal.Value
public import Idealize.ShloMosaic.Lib.Pipeline.ValueKit

@[expose] public section

set_option maxRecDepth 16384

noncomputable section

namespace Cert.Dil0Ideal.At

open Idealize.ShloMosaic Idealize.ShloMosaic.TcCoe Idealize.SL.Sem
open Cert.Dil0Ideal Cert.Dil0Ideal.Gen Cert.Window

variable (t : grid0.Coords) (x0 x1 x2 x3 x4 : Vec Ideal S128x1024 .f32)

/-- Head `h` of a block: its 128 columns. -/
def hd (x : Vec Ideal S128x1024 .f32) (h : ℕ) (hh : h < 8) (a b : Fin 128) : EReal :=
  x (ix2 a (⟨h * 128 + b, by omega⟩ : Fin 1024))

/-- A head's element is the block's at an index with those coordinates. -/
theorem at_hd (x : Vec Ideal S128x1024 .f32) (h : ℕ) (hh : h < 8) (a b : Fin 128) (j : S128x1024.Idx)
    (h0 : (j 0).val = a.val) (h1 : (j 1).val = h * 128 + b.val) : x j = hd x h hh a b :=
  congrArg x (funext fun c => Fin.ext (by match c with | ⟨0, _⟩ => exact h0 | ⟨1, _⟩ => exact h1))

set_option maxHeartbeats 2000000 in
/-- The output block at one element. -/
theorem out5 (y : S128x1024.Idx) (i k : ℕ) (d : Fin 128) (hi : i < 128) (hk : k < 8) (e0 : (y 0).val = i) (e1 : (y 1).val = k * 128 + d.val) :
    out0_5 (F := Ideal) t x0 x1 x2 x3 x4 y
      = headOut (t 2).val i (hd x0 k hk) (hd x2 k hk) (hd x1 k hk) (hd x4 k hk) (hd x3 k hk) hi d := by
  have hn : (t 2).val < 32 := lt_of_lt_of_le (t 2).isLt (by decide)
  unfold_out out0_5
  canon_tiles x h
  all_goals
    obtain rfl : i = (x 0).val := by omega
    obtain rfl : d = x 1 := Fin.ext (by omega)
    open_payloads
    pointwise
    refine raw_out _ _ _ _ _ hn hi (IdealRules.named_const.ideal_named_scalar _ _ _ _ rfl) _ _ _ _ _ (fun x => Finset.sum_congr rfl fun b _ => ?_)
      (fun x => Finset.sum_congr rfl fun b _ => ?_) _ _ _ (fun x => ?_) (fun x => ?_)
    · exact congrArg₂ (· * ·) (at_hd _ _ _ _ _ _ rfl (by dsimp; omega)) (at_hd _ _ _ _ _ _ rfl (by dsimp; omega))
    · exact congrArg₂ (· * ·) (at_hd _ _ _ _ _ _ rfl (by dsimp; omega)) (at_hd _ _ _ _ _ _ rfl (by dsimp; omega))
    · exact at_hd _ _ _ _ _ _ rfl (by dsimp; omega)
    · exact at_hd _ _ _ _ _ _ rfl (by dsimp; omega)

set_option maxHeartbeats 2000000 in
/-- The log-sum-exp block at one element: the same in every lane of its head. -/
theorem out6 (y : S128x1024.Idx) (i k : ℕ) (d : Fin 128) (hi : i < 128) (hk : k < 8) (e0 : (y 0).val = i) (e1 : (y 1).val = k * 128 + d.val) :
    out0_6 (F := Ideal) t x0 x1 x2 x3 x4 y
      = headLse (t 2).val i (hd x0 k hk) (hd x2 k hk) (hd x1 k hk) hi := by
  have hn : (t 2).val < 32 := lt_of_lt_of_le (t 2).isLt (by decide)
  unfold_out out0_6
  canon_tiles x h
  all_goals
    obtain rfl : i = (x 0).val := by omega
    obtain rfl : d = x 1 := Fin.ext (by omega)
    open_payloads
    pointwise
    refine raw_lse _ _ _ _ _ hn hi (IdealRules.named_const.ideal_named_scalar _ _ _ _ rfl) _ _ _ (fun x => Finset.sum_congr rfl fun b _ => ?_)
      (fun x => Finset.sum_congr rfl fun b _ => ?_)
    · exact congrArg₂ (· * ·) (at_hd _ _ _ _ _ _ rfl (by dsimp; omega)) (at_hd _ _ _ _ _ _ rfl (by dsimp; omega))
    · exact congrArg₂ (· * ·) (at_hd _ _ _ _ _ _ rfl (by dsimp; omega)) (at_hd _ _ _ _ _ _ rfl (by dsimp; omega))

end Cert.Dil0Ideal.At

end
-- ==== Proof.Head.lean ====
/- A head over the blocks of a query is the attention at that query. -/
module
public import proofs.«01_k».proof.Proof.Window
@[expose] public section
namespace Cert.Window
open Idealize.ShloMosaic
/-- A head's output over the blocks of a query is the attention's output for that query. -/
theorem head_out_at (X : FVec Ideal ⟨2, ![8704, 9216]⟩ .f32) (dil g b r n i k : ℕ) (hi : i < 128) (q kp kc vp vc : Fin 128 → Fin 128 → EReal) (d : Fin 128)
    (hq : ∀ a d : Fin 128, q a d = rd X (tok dil b r (n * 128 + a)) (g * 3072 + k * 128 + d))
    (hkp : ∀ a d : Fin 128, kp a d = rd X (tok dil b r ((n - 1) * 128 + a)) (g * 3072 + 1024 + k * 128 + d))
    (hkc : ∀ a d : Fin 128, kc a d = rd X (tok dil b r (n * 128 + a)) (g * 3072 + 1024 + k * 128 + d))
    (hvp : ∀ a d : Fin 128, vp a d = rd X (tok dil b r ((n - 1) * 128 + a)) (g * 3072 + 2048 + k * 128 + d))
    (hvc : ∀ a d : Fin 128, vc a d = rd X (tok dil b r (n * 128 + a)) (g * 3072 + 2048 + k * 128 + d)) :
    headOut n i q kp kc vp vc hi d = outAt X dil g b r n i k d := by
  unfold headOut outAt headP headC sP sC prevDot curDot
  simp only [hq, hkp, hkc, hvp, hvc]

/-- A head's log-sum-exp over the blocks of a query is the one for that query. -/
theorem head_lse_at (X : FVec Ideal ⟨2, ![8704, 9216]⟩ .f32) (dil g b r n i k : ℕ) (hi : i < 128) (q kp kc : Fin 128 → Fin 128 → EReal)
    (hq : ∀ a d : Fin 128, q a d = rd X (tok dil b r (n * 128 + a)) (g * 3072 + k * 128 + d))
    (hkp : ∀ a d : Fin 128, kp a d = rd X (tok dil b r ((n - 1) * 128 + a)) (g * 3072 + 1024 + k * 128 + d))
    (hkc : ∀ a d : Fin 128, kc a d = rd X (tok dil b r (n * 128 + a)) (g * 3072 + 1024 + k * 128 + d)) :
    headLse n i q kp kc hi = lseAt X dil g b r n i k := by
  unfold headLse lseAt headP headC sP sC prevDot curDot
  simp only [hq, hkp, hkc]

end Cert.Window
-- ==== Proof.Out0.lean ====
/- The two arrays the window of dilation 1 leaves, at every element of a token's row. -/
module
public import proofs.«01_k».proof.Proof.Ker0
public import proofs.«01_k».proof.Proof.Head

@[expose] public section

set_option maxRecDepth 16384

noncomputable section

namespace Cert.Dil0Ideal.At

open Idealize.ShloMosaic Idealize.ShloMosaic.TcCoe Idealize.SL.Sem
open Cert.Dil0Ideal Cert.Dil0Ideal.Gen Cert.Window

variable (m : (ℓ : Loc nD τ sig) → Buf (Elt Ideal) ℓ) (c : Dev nD) (t : Fin cfg0.N)

/-- Where each window stands at a grid point, and the block of queries there. -/
theorem idx : ∀ t : Fin cfg0.N, win0_0.index t = ![t.val / 32 * 32 + t.val % 32, t.val % 32 / 32 * 9 + 0]
    ∧ win0_1.index t = ![t.val / 32 * 32 + t.val % 32, t.val % 32 / 32 * 9 + 1]
    ∧ win0_2.index t = ![t.val / 32 * 32 + (t.val % 32 - 1), t.val % 32 / 32 * 9 + 1]
    ∧ win0_3.index t = ![t.val / 32 * 32 + t.val % 32, t.val % 32 / 32 * 9 + 2]
    ∧ win0_4.index t = ![t.val / 32 * 32 + (t.val % 32 - 1), t.val % 32 / 32 * 9 + 2]
    ∧ win0_5.index t = ![t.val / 32 * 32 + t.val % 32, t.val % 32 / 32]
    ∧ win0_6.index t = ![t.val / 32 * 32 + t.val % 32, t.val % 32 / 32] :=
  (by decide +kernel : ∀ t : Fin grid0.N, _)

/-- The block of queries at a grid point, within its stream. -/
theorem coord : ∀ t : Fin cfg0.N, (grid0.coords t 2).val = t.val % 32 :=
  (by decide +kernel : ∀ t : Fin grid0.N, _)

/-- The array the windows read, at an index. -/
theorem V_at (j : S8704x9216.Idx) : V m c main_arg0 j = rd (m ((c.tc : Thread nD τ).loc main_arg0)) ((j 0).val * 1 + (j 1).val / 9216) ((j 1).val % 9216) := by
  have h0 : (j 0).val < 8704 := (j 0).isLt
  have h1 : (j 1).val < 9216 := (j 1).isLt
  rw [V_main_arg0]; exact rd_of _ _ _ _ (by omega) (by omega)

/-- The queries of a point's block. -/
theorem q_at (k : ℕ) (hk : k < 8) (a b : Fin 128) : hd (iblk m c 0 t) k hk a b
    = rd (m ((c.tc : Thread nD τ).loc main_arg0)) (tok 1 (t.val / 32) (t.val % 32 / 32) ((t.val % 32) * 128 + a)) (0 * 3072 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The keys of the queries' own block. -/
theorem kc_at (k : ℕ) (hk : k < 8) (a b : Fin 128) : hd (iblk m c 1 t) k hk a b
    = rd (m ((c.tc : Thread nD τ).loc main_arg0)) (tok 1 (t.val / 32) (t.val % 32 / 32) ((t.val % 32) * 128 + a)) (0 * 3072 + 1024 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The keys of the block before. -/
theorem kp_at (k : ℕ) (hk : k < 8) (a b : Fin 128) : hd (iblk m c 2 t) k hk a b
    = rd (m ((c.tc : Thread nD τ).loc main_arg0)) (tok 1 (t.val / 32) (t.val % 32 / 32) (((t.val % 32) - 1) * 128 + a)) (0 * 3072 + 1024 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The values of the queries' own block. -/
theorem vc_at (k : ℕ) (hk : k < 8) (a b : Fin 128) : hd (iblk m c 3 t) k hk a b
    = rd (m ((c.tc : Thread nD τ).loc main_arg0)) (tok 1 (t.val / 32) (t.val % 32 / 32) ((t.val % 32) * 128 + a)) (0 * 3072 + 2048 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The values of the block before. -/
theorem vp_at (k : ℕ) (hk : k < 8) (a b : Fin 128) : hd (iblk m c 4 t) k hk a b
    = rd (m ((c.tc : Thread nD τ).loc main_arg0)) (tok 1 (t.val / 32) (t.val % 32 / 32) (((t.val % 32) - 1) * 128 + a)) (0 * 3072 + 2048 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The attention's outputs, in every row of a token. -/
theorem final5 (i : S8704x1024.Idx) (hi : (i 0).val < 8192) : (dats m 0 c).arrAt 5 cfg0.N i
    = outAt (m ((c.tc : Thread nD τ).loc main_arg0)) 1 0 ((i 0).val / 4096) ((i 1).val / 1024) ((i 0).val % 4096 / 128) ((i 0).val % 128) ((i 1).val / 128 % 8) ((i 1).val % 128) := by
  refine ((dats m 0 c).arrAt_apply_of_coversWhere 5 (fun i => outAt (m ((c.tc : Thread nD τ).loc main_arg0)) 1 0 ((i 0).val / 4096) ((i 1).val / 1024) ((i 0).val % 4096 / 128) ((i 0).val % 128) ((i 1).val / 128 % 8) ((i 1).val % 128))
    (P := fun i => (i 0).val < 8192) (fun β => β 0 < 64) (by decide +kernel) (fun t hf y => ?_)
    (fun j => by blk_simp [Pipeline.Window.cell_apply]; omega) i).trans (if_pos hi)
  have ht : t.val < 64 := lt_of_lt_of_eq t.isLt N_0
  blk_simp
  rw [after0_5]
  have y0 : (y 0).val < 128 := (y 0).isLt
  have y1 : (y 1).val < 1024 := (y 1).isLt
  obtain ⟨d, hd⟩ : ∃ d : Fin 128, d.val = (y 1).val % 128 := ⟨⟨_, Nat.mod_lt _ (by decide)⟩, rfl⟩
  refine (out5 (grid0.coords t) _ _ _ _ _ y (y 0).val ((y 1).val / 128) d y0 (by omega) rfl (by omega)).trans ?_
  rw [coord t]
  refine (head_out_at (m ((c.tc : Thread nD τ).loc main_arg0)) 1 0 (t.val / 32) (t.val % 32 / 32) (t.val % 32) (y 0).val ((y 1).val / 128) y0 _ _ _ _ _ _ (q_at m c t _ _) (kp_at m c t _ _) (kc_at m c t _ _) (vp_at m c t _ _) (vc_at m c t _ _)).trans ?_
  congr 1 <;> blk_simp [idx t] <;> omega

/-- The log-sum-exps, in every row of a token. -/
theorem final6 (i : S8704x1024.Idx) (hi : (i 0).val < 8192) : (dats m 0 c).arrAt 6 cfg0.N i
    = lseAt (m ((c.tc : Thread nD τ).loc main_arg0)) 1 0 ((i 0).val / 4096) ((i 1).val / 1024) ((i 0).val % 4096 / 128) ((i 0).val % 128) ((i 1).val / 128 % 8) := by
  refine ((dats m 0 c).arrAt_apply_of_coversWhere 6 (fun i => lseAt (m ((c.tc : Thread nD τ).loc main_arg0)) 1 0 ((i 0).val / 4096) ((i 1).val / 1024) ((i 0).val % 4096 / 128) ((i 0).val % 128) ((i 1).val / 128 % 8))
    (P := fun i => (i 0).val < 8192) (fun β => β 0 < 64) (by decide +kernel) (fun t hf y => ?_)
    (fun j => by blk_simp [Pipeline.Window.cell_apply]; omega) i).trans (if_pos hi)
  have ht : t.val < 64 := lt_of_lt_of_eq t.isLt N_0
  blk_simp
  rw [after0_6]
  have y0 : (y 0).val < 128 := (y 0).isLt
  have y1 : (y 1).val < 1024 := (y 1).isLt
  obtain ⟨d, hd⟩ : ∃ d : Fin 128, d.val = (y 1).val % 128 := ⟨⟨_, Nat.mod_lt _ (by decide)⟩, rfl⟩
  refine (out6 (grid0.coords t) _ _ _ _ _ y (y 0).val ((y 1).val / 128) d y0 (by omega) rfl (by omega)).trans ?_
  rw [coord t]
  refine (head_lse_at (m ((c.tc : Thread nD τ).loc main_arg0)) 1 0 (t.val / 32) (t.val % 32 / 32) (t.val % 32) (y 0).val ((y 1).val / 128) y0 _ _ _ (q_at m c t _ _) (kp_at m c t _ _) (kc_at m c t _ _)).trans ?_
  congr 1 <;> blk_simp [idx t] <;> omega

end Cert.Dil0Ideal.At

end
-- ==== Proof.Ref0.lean ====
/- The reference of the window of dilation 1, read at an index: its queries, keys and values, its scores, and its two
   results. The `val_` terms are the program's operations, one at a time. -/
module
public import proofs.«01_k».proof.Proof.Window
public import proofs.«01_k».proof.Proof.Gen.Dil0RefIdeal.Run

@[expose] public section

set_option maxRecDepth 16384

noncomputable section

namespace Cert.Dil0RefIdeal.At

open Idealize.ShloMosaic Idealize.ShloMosaic.TcCoe Idealize.SL.Sem
open Cert.Dil0RefIdeal Cert.Dil0RefIdeal.Gen Cert.Dil0RefIdeal.Value Cert.Window

section Terms
variable {F : FTy → Type} [FloatOps F]

def val_main_v0 (x0 : (⟨S8704x9216, .f32⟩ : BufTy).Contents (Elt F)) : (⟨S8192x9216, .f32⟩ : BufTy).Contents (Elt F) :=
  extractStridedSlice S8192x9216 ![0, 0] (x0) slices_S8704x9216_S8192x9216_0_0
def val_main_v1 (x0 : (⟨S8704x9216, .f32⟩ : BufTy).Contents (Elt F)) : (⟨S2x4096x3x3x8x128, .f32⟩ : BufTy).Contents (Elt F) :=
  shapeCast _ (val_main_v0 (F := F) x0) shapeCasts_S8192x9216_S2x4096x3x3x8x128

def val_main_v2 (x0 : (⟨S8704x9216, .f32⟩ : BufTy).Contents (Elt F)) : (⟨S2x4096x1x1x8x128, .f32⟩ : BufTy).Contents (Elt F) :=
  extractStridedSlice S2x4096x1x1x8x128 ![0, 0, 0, 0, 0, 0] (val_main_v1 (F := F) x0) slices_S2x4096x3x3x8x128_S2x4096x1x1x8x128_0_0_0_0_0_0
def val_main_v3 (x0 : (⟨S8704x9216, .f32⟩ : BufTy).Contents (Elt F)) : (⟨S2x4096x8x128, .f32⟩ : BufTy).Contents (Elt F) :=
  shapeCast _ (val_main_v2 (F := F) x0) shapeCasts_S2x4096x1x1x8x128_S2x4096x8x128

def val_main_v4 (x0 : (⟨S8704x9216, .f32⟩ : BufTy).Contents (Elt F)) : (⟨S2x4096x1x1x8x128, .f32⟩ : BufTy).Contents (Elt F) :=
  extractStridedSlice S2x4096x1x1x8x128 ![0, 0, 0, 1, 0, 0] (val_main_v1 (F := F) x0) slices_S2x4096x3x3x8x128_S2x4096x1x1x8x128_0_0_0_1_0_0
def val_main_v5 (x0 : (⟨S8704x9216, .f32⟩ : BufTy).Contents (Elt F)) : (⟨S2x4096x8x128, .f32⟩ : BufTy).Contents (Elt F) :=
  shapeCast _ (val_main_v4 (F := F) x0) shapeCasts_S2x4096x1x1x8x128_S2x4096x8x128

def val_main_v6 (x0 : (⟨S8704x9216, .f32⟩ : BufTy).Contents (Elt F)) : (⟨S2x4096x1x1x8x128, .f32⟩ : BufTy).Contents (Elt F) :=
  extractStridedSlice S2x4096x1x1x8x128 ![0, 0, 0, 2, 0, 0] (val_main_v1 (F := F) x0) slices_S2x4096x3x3x8x128_S2x4096x1x1x8x128_0_0_0_2_0_0
def val_main_v7 (x0 : (⟨S8704x9216, .f32⟩ : BufTy).Contents (Elt F)) : (⟨S2x4096x8x128, .f32⟩ : BufTy).Contents (Elt F) :=
  shapeCast _ (val_main_v6 (F := F) x0) shapeCasts_S2x4096x1x1x8x128_S2x4096x8x128

def val_main_v8 (x0 : (⟨S8704x9216, .f32⟩ : BufTy).Contents (Elt F)) : (⟨S2x4096x1x8x128, .f32⟩ : BufTy).Contents (Elt F) :=
  shapeCast _ (val_main_v3 (F := F) x0) shapeCasts_S2x4096x8x128_S2x4096x1x8x128
def val_main_v9 (x0 : (⟨S8704x9216, .f32⟩ : BufTy).Contents (Elt F)) : (⟨S2x1x4096x8x128, .f32⟩ : BufTy).Contents (Elt F) :=
  transpose S2x1x4096x8x128 [0, 2, 1, 3, 4] (val_main_v8 (F := F) x0) transposes_S2x4096x1x8x128_S2x1x4096x8x128_0_2_1_3_4
def val_main_v10 (x0 : (⟨S8704x9216, .f32⟩ : BufTy).Contents (Elt F)) : (⟨S2x1x32x128x8x128, .f32⟩ : BufTy).Contents (Elt F) :=
  shapeCast _ (val_main_v9 (F := F) x0) shapeCasts_S2x1x4096x8x128_S2x1x32x128x8x128

def val_main_v11 (x0 : (⟨S8704x9216, .f32⟩ : BufTy).Contents (Elt F)) : (⟨S2x4096x1x8x128, .f32⟩ : BufTy).Contents (Elt F) :=
  shapeCast _ (val_main_v5 (F := F) x0) shapeCasts_S2x4096x8x128_S2x4096x1x8x128
def val_main_v12 (x0 : (⟨S8704x9216, .f32⟩ : BufTy).Contents (Elt F)) : (⟨S2x1x4096x8x128, .f32⟩ : BufTy).Contents (Elt F) :=
  transpose S2x1x4096x8x128 [0, 2, 1, 3, 4] (val_main_v11 (F := F) x0) transposes_S2x4096x1x8x128_S2x1x4096x8x128_0_2_1_3_4
def val_main_c : (⟨S_, .i32⟩ : BufTy).Contents (Elt F) :=
  constantI S_ 32 0#32
def val_main_call0_v0 : (⟨S_, .f32⟩ : BufTy).Contents (Elt F) :=
  sitofp .f32 (val_main_c (F := F))
def val_main_v13 (x0 : (⟨S8704x9216, .f32⟩ : BufTy).Contents (Elt F)) : (⟨S2x1x4224x8x128, .f32⟩ : BufTy).Contents (Elt F) :=
  pad S2x1x4224x8x128 ![0, 0, 128, 0, 0] ![0, 0, 0, 0, 0] ![0, 0, 0, 0, 0] (val_main_v12 (F := F) x0) (val_main_call0_v0 (F := F)) pads_S2x1x4096x8x128_S2x1x4224x8x128_000_000_12800_000_000 h_S_

def val_main_v14 (x0 : (⟨S8704x9216, .f32⟩ : BufTy).Contents (Elt F)) : (⟨S2x1x33x128x8x128, .f32⟩ : BufTy).Contents (Elt F) :=
  shapeCast _ (val_main_v13 (F := F) x0) shapeCasts_S2x1x4224x8x128_S2x1x33x128x8x128

def val_main_v15 (x0 : (⟨S8704x9216, .f32⟩ : BufTy).Contents (Elt F)) : (⟨S2x1x32x128x8x128, .f32⟩ : BufTy).Contents (Elt F) :=
  extractStridedSlice S2x1x32x128x8x128 ![0, 0, 0, 0, 0, 0] (val_main_v14 (F := F) x0) slices_S2x1x33x128x8x128_S2x1x32x128x8x128_0_0_0_0_0_0
def val_main_v16 (x0 : (⟨S8704x9216, .f32⟩ : BufTy).Contents (Elt F)) : (⟨S2x1x32x128x8x128, .f32⟩ : BufTy).Contents (Elt F) :=
  extractStridedSlice S2x1x32x128x8x128 ![0, 0, 1, 0, 0, 0] (val_main_v14 (F := F) x0) slices_S2x1x33x128x8x128_S2x1x32x128x8x128_0_0_1_0_0_0
def val_main_v17 (x0 : (⟨S8704x9216, .f32⟩ : BufTy).Contents (Elt F)) : (⟨S2x1x32x256x8x128, .f32⟩ : BufTy).Contents (Elt F) :=
  concatenate S2x1x32x256x8x128 3 [⟨S2x1x32x128x8x128, (val_main_v15 (F := F) x0)⟩, ⟨S2x1x32x128x8x128, (val_main_v16 (F := F) x0)⟩] concatenates_S2x1x32x128x8x128_S2x1x32x128x8x128_S2x1x32x256x8x128_d3

def val_main_v18 (x0 : (⟨S8704x9216, .f32⟩ : BufTy).Contents (Elt F)) : (⟨S2x4096x1x8x128, .f32⟩ : BufTy).Contents (Elt F) :=
  shapeCast _ (val_main_v7 (F := F) x0) shapeCasts_S2x4096x8x128_S2x4096x1x8x128
def val_main_v19 (x0 : (⟨S8704x9216, .f32⟩ : BufTy).Contents (Elt F)) : (⟨S2x1x4096x8x128, .f32⟩ : BufTy).Contents (Elt F) :=
  transpose S2x1x4096x8x128 [0, 2, 1, 3, 4] (val_main_v18 (F := F) x0) transposes_S2x4096x1x8x128_S2x1x4096x8x128_0_2_1_3_4
def val_main_c_0 : (⟨S_, .i32⟩ : BufTy).Contents (Elt F) :=
  constantI S_ 32 0#32
def val_main_call1_v0 : (⟨S_, .f32⟩ : BufTy).Contents (Elt F) :=
  sitofp .f32 (val_main_c_0 (F := F))
def val_main_v20 (x0 : (⟨S8704x9216, .f32⟩ : BufTy).Contents (Elt F)) : (⟨S2x1x4224x8x128, .f32⟩ : BufTy).Contents (Elt F) :=
  pad S2x1x4224x8x128 ![0, 0, 128, 0, 0] ![0, 0, 0, 0, 0] ![0, 0, 0, 0, 0] (val_main_v19 (F := F) x0) (val_main_call1_v0 (F := F)) pads_S2x1x4096x8x128_S2x1x4224x8x128_000_000_12800_000_000 h_S_

def val_main_v21 (x0 : (⟨S8704x9216, .f32⟩ : BufTy).Contents (Elt F)) : (⟨S2x1x33x128x8x128, .f32⟩ : BufTy).Contents (Elt F) :=
  shapeCast _ (val_main_v20 (F := F) x0) shapeCasts_S2x1x4224x8x128_S2x1x33x128x8x128

def val_main_v22 (x0 : (⟨S8704x9216, .f32⟩ : BufTy).Contents (Elt F)) : (⟨S2x1x32x128x8x128, .f32⟩ : BufTy).Contents (Elt F) :=
  extractStridedSlice S2x1x32x128x8x128 ![0, 0, 0, 0, 0, 0] (val_main_v21 (F := F) x0) slices_S2x1x33x128x8x128_S2x1x32x128x8x128_0_0_0_0_0_0
def val_main_v23 (x0 : (⟨S8704x9216, .f32⟩ : BufTy).Contents (Elt F)) : (⟨S2x1x32x128x8x128, .f32⟩ : BufTy).Contents (Elt F) :=
  extractStridedSlice S2x1x32x128x8x128 ![0, 0, 1, 0, 0, 0] (val_main_v21 (F := F) x0) slices_S2x1x33x128x8x128_S2x1x32x128x8x128_0_0_1_0_0_0
def val_main_v24 (x0 : (⟨S8704x9216, .f32⟩ : BufTy).Contents (Elt F)) : (⟨S2x1x32x256x8x128, .f32⟩ : BufTy).Contents (Elt F) :=
  concatenate S2x1x32x256x8x128 3 [⟨S2x1x32x128x8x128, (val_main_v22 (F := F) x0)⟩, ⟨S2x1x32x128x8x128, (val_main_v23 (F := F) x0)⟩] concatenates_S2x1x32x128x8x128_S2x1x32x128x8x128_S2x1x32x256x8x128_d3

def val_main_v25 (x0 : (⟨S8704x9216, .f32⟩ : BufTy).Contents (Elt F)) : (⟨S2x1x32x8x128x256, .f32⟩ : BufTy).Contents (Elt F) :=
  Host.dotGeneral dot_S2x1x32x128x8x128_S2x1x32x256x8x128_S2x1x32x8x128x256_5_5_3_3_0124_0124 none (val_main_v10 (F := F) x0) (val_main_v17 (F := F) x0)
def val_main_cst : (⟨S_, .f32⟩ : BufTy).Contents (Elt F) :=
  constant S_ .f32 0x43000000#32
def val_main_v26 : (⟨S_, .f32⟩ : BufTy).Contents (Elt F) :=
  Host.sqrt (val_main_cst (F := F))
def val_main_v27 : (⟨S2x1x32x8x128x256, .f32⟩ : BufTy).Contents (Elt F) :=
  broadcastInDim S2x1x32x8x128x256 ![] bcast_S_S2x1x32x8x128x256 (val_main_v26 (F := F))
def val_main_v28 (x0 : (⟨S8704x9216, .f32⟩ : BufTy).Contents (Elt F)) : (⟨S2x1x32x8x128x256, .f32⟩ : BufTy).Contents (Elt F) :=
  Host.divf (val_main_v25 (F := F) x0) (val_main_v27 (F := F))
def val_main_v29 : (⟨S128, .i32⟩ : BufTy).Contents (Elt F) :=
  iotaInDim S128 32 0
def val_main_v30 : (⟨S128x1, .i32⟩ : BufTy).Contents (Elt F) :=
  broadcastInDim S128x1 ![0] bcast_S128_S128x1_0 (val_main_v29 (F := F))
def val_main_v31 : (⟨S256, .i32⟩ : BufTy).Contents (Elt F) :=
  iotaInDim S256 32 0
def val_main_v32 : (⟨S1x256, .i32⟩ : BufTy).Contents (Elt F) :=
  broadcastInDim S1x256 ![1] bcast_S256_S1x256_1 (val_main_v31 (F := F))
def val_main_c_1 : (⟨S_, .i32⟩ : BufTy).Contents (Elt F) :=
  constantI S_ 32 128#32
def val_main_v33 : (⟨S128x1, .i32⟩ : BufTy).Contents (Elt F) :=
  broadcastInDim S128x1 ![] bcast_S_S128x1 (val_main_c_1 (F := F))
def val_main_v34 : (⟨S128x1, .i32⟩ : BufTy).Contents (Elt F) :=
  addi (val_main_v30 (F := F)) (val_main_v33 (F := F))
def val_main_v35 : (⟨S128x256, .i32⟩ : BufTy).Contents (Elt F) :=
  broadcastInDim S128x256 ![0, 1] bcast_S128x1_S128x256_0_1 (val_main_v34 (F := F))
def val_main_v36 : (⟨S128x256, .i32⟩ : BufTy).Contents (Elt F) :=
  broadcastInDim S128x256 ![0, 1] bcast_S1x256_S128x256_0_1 (val_main_v32 (F := F))
def val_main_v37 : (⟨S128x256, .i32⟩ : BufTy).Contents (Elt F) :=
  subi (val_main_v35 (F := F)) (val_main_v36 (F := F))
def val_main_v38 : (⟨S32, .i32⟩ : BufTy).Contents (Elt F) :=
  iotaInDim S32 32 0
def val_main_v39 : (⟨S32x1x1, .i32⟩ : BufTy).Contents (Elt F) :=
  broadcastInDim S32x1x1 ![0] bcast_S32_S32x1x1_0 (val_main_v38 (F := F))
def val_main_c_2 : (⟨S_, .i32⟩ : BufTy).Contents (Elt F) :=
  constantI S_ 32 128#32
def val_main_v40 : (⟨S32x1x1, .i32⟩ : BufTy).Contents (Elt F) :=
  broadcastInDim S32x1x1 ![] bcast_S_S32x1x1 (val_main_c_2 (F := F))
def val_main_v41 : (⟨S32x1x1, .i32⟩ : BufTy).Contents (Elt F) :=
  muli (val_main_v39 (F := F)) (val_main_v40 (F := F))
def val_main_v42 : (⟨S1x1x256, .i32⟩ : BufTy).Contents (Elt F) :=
  broadcastInDim S1x1x256 ![1, 2] bcast_S1x256_S1x1x256_1_2 (val_main_v32 (F := F))
def val_main_v43 : (⟨S32x1x256, .i32⟩ : BufTy).Contents (Elt F) :=
  broadcastInDim S32x1x256 ![0, 1, 2] bcast_S32x1x1_S32x1x256_0_1_2 (val_main_v41 (F := F))
def val_main_v44 : (⟨S32x1x256, .i32⟩ : BufTy).Contents (Elt F) :=
  broadcastInDim S32x1x256 ![0, 1, 2] bcast_S1x1x256_S32x1x256_0_1_2 (val_main_v42 (F := F))
def val_main_v45 : (⟨S32x1x256, .i32⟩ : BufTy).Contents (Elt F) :=
  addi (val_main_v43 (F := F)) (val_main_v44 (F := F))
def val_main_c_3 : (⟨S_, .i32⟩ : BufTy).Contents (Elt F) :=
  constantI S_ 32 128#32
def val_main_v46 : (⟨S32x1x256, .i32⟩ : BufTy).Contents (Elt F) :=
  broadcastInDim S32x1x256 ![] bcast_S_S32x1x256 (val_main_c_3 (F := F))
def val_main_v47 : (⟨S32x1x256, .i32⟩ : BufTy).Contents (Elt F) :=
  subi (val_main_v45 (F := F)) (val_main_v46 (F := F))
def val_main_c_4 : (⟨S_, .i32⟩ : BufTy).Contents (Elt F) :=
  constantI S_ 32 0#32
def val_main_v48 : (⟨S128x256, .i32⟩ : BufTy).Contents (Elt F) :=
  broadcastInDim S128x256 ![] bcast_S_S128x256 (val_main_c_4 (F := F))
def val_main_v49 : (⟨S128x256, .i1⟩ : BufTy).Contents (Elt F) :=
  cmpi .sge (val_main_v37 (F := F)) (val_main_v48 (F := F))
def val_main_c_5 : (⟨S_, .i32⟩ : BufTy).Contents (Elt F) :=
  constantI S_ 32 128#32
def val_main_v50 : (⟨S128x256, .i32⟩ : BufTy).Contents (Elt F) :=
  broadcastInDim S128x256 ![] bcast_S_S128x256 (val_main_c_5 (F := F))
def val_main_v51 : (⟨S128x256, .i1⟩ : BufTy).Contents (Elt F) :=
  cmpi .sle (val_main_v37 (F := F)) (val_main_v50 (F := F))
def val_main_v52 : (⟨S128x256, .i1⟩ : BufTy).Contents (Elt F) :=
  andi (val_main_v49 (F := F)) (val_main_v51 (F := F))
def val_main_c_6 : (⟨S_, .i32⟩ : BufTy).Contents (Elt F) :=
  constantI S_ 32 0#32
def val_main_v53 : (⟨S32x1x256, .i32⟩ : BufTy).Contents (Elt F) :=
  broadcastInDim S32x1x256 ![] bcast_S_S32x1x256 (val_main_c_6 (F := F))
def val_main_v54 : (⟨S32x1x256, .i1⟩ : BufTy).Contents (Elt F) :=
  cmpi .sge (val_main_v47 (F := F)) (val_main_v53 (F := F))
def val_main_v55 : (⟨S1x128x256, .i1⟩ : BufTy).Contents (Elt F) :=
  broadcastInDim S1x128x256 ![1, 2] bcast_S128x256_S1x128x256_1_2 (val_main_v52 (F := F))
def val_main_v56 : (⟨S32x128x256, .i1⟩ : BufTy).Contents (Elt F) :=
  broadcastInDim S32x128x256 ![0, 1, 2] bcast_S1x128x256_S32x128x256_0_1_2 (val_main_v55 (F := F))
def val_main_v57 : (⟨S32x128x256, .i1⟩ : BufTy).Contents (Elt F) :=
  broadcastInDim S32x128x256 ![0, 1, 2] bcast_S32x1x256_S32x128x256_0_1_2 (val_main_v54 (F := F))
def val_main_v58 : (⟨S32x128x256, .i1⟩ : BufTy).Contents (Elt F) :=
  andi (val_main_v56 (F := F)) (val_main_v57 (F := F))
def val_main_v59 : (⟨S1x1x32x1x128x256, .i1⟩ : BufTy).Contents (Elt F) :=
  broadcastInDim S1x1x32x1x128x256 ![2, 4, 5] bcast_S32x128x256_S1x1x32x1x128x256_2_4_5 (val_main_v58 (F := F))
def val_main_cst_7 : (⟨S_, .f32⟩ : BufTy).Contents (Elt F) :=
  constant S_ .f32 0xFF800000#32
def val_main_call2_v0 : (⟨S_, .f32⟩ : BufTy).Contents (Elt F) :=
  id (val_main_cst_7 (F := F))
def val_main_call2_v1 : (⟨S2x1x32x8x128x256, .i1⟩ : BufTy).Contents (Elt F) :=
  broadcastInDim S2x1x32x8x128x256 ![0, 1, 2, 3, 4, 5] bcast_S1x1x32x1x128x256_S2x1x32x8x128x256_0_1_2_3_4_5 (val_main_v59 (F := F))
def val_main_call2_v2 : (⟨S2x1x32x8x128x256, .f32⟩ : BufTy).Contents (Elt F) :=
  broadcastInDim S2x1x32x8x128x256 ![] bcast_S_S2x1x32x8x128x256 (val_main_call2_v0 (F := F))
def val_main_v60 (x0 : (⟨S8704x9216, .f32⟩ : BufTy).Contents (Elt F)) : (⟨S2x1x32x8x128x256, .f32⟩ : BufTy).Contents (Elt F) :=
  select (val_main_call2_v1 (F := F)) (val_main_v28 (F := F) x0) (val_main_call2_v2 (F := F))
def val_main_cst_8 : (⟨S_, .f32⟩ : BufTy).Contents (Elt F) :=
  constant S_ .f32 0xFF800000#32
def val_main_v61 (x0 : (⟨S8704x9216, .f32⟩ : BufTy).Contents (Elt F)) : (⟨S2x1x32x8x128, .f32⟩ : BufTy).Contents (Elt F) :=
  Host.reduce FloatOps.maximumf (val_main_v60 (F := F) x0) (val_main_cst_8 (F := F)) reducesTo_S2x1x32x8x128x256_S2x1x32x8x128_d5 h_S_

def val_main_v62 (x0 : (⟨S8704x9216, .f32⟩ : BufTy).Contents (Elt F)) : (⟨S2x1x32x8x128x1, .f32⟩ : BufTy).Contents (Elt F) :=
  broadcastInDim S2x1x32x8x128x1 ![0, 1, 2, 3, 4] bcast_S2x1x32x8x128_S2x1x32x8x128x1_0_1_2_3_4 (val_main_v61 (F := F) x0)
def val_main_v63 (x0 : (⟨S8704x9216, .f32⟩ : BufTy).Contents (Elt F)) : (⟨S2x1x32x8x128x256, .f32⟩ : BufTy).Contents (Elt F) :=
  broadcastInDim S2x1x32x8x128x256 ![0, 1, 2, 3, 4, 5] bcast_S2x1x32x8x128x1_S2x1x32x8x128x256_0_1_2_3_4_5 (val_main_v62 (F := F) x0)
def val_main_v64 (x0 : (⟨S8704x9216, .f32⟩ : BufTy).Contents (Elt F)) : (⟨S2x1x32x8x128x256, .f32⟩ : BufTy).Contents (Elt F) :=
  subf (val_main_v60 (F := F) x0) (val_main_v63 (F := F) x0)
def val_main_v65 (x0 : (⟨S8704x9216, .f32⟩ : BufTy).Contents (Elt F)) : (⟨S2x1x32x8x128x256, .f32⟩ : BufTy).Contents (Elt F) :=
  Host.exp (val_main_v64 (F := F) x0)
def val_main_cst_9 : (⟨S_, .f32⟩ : BufTy).Contents (Elt F) :=
  constant S_ .f32 0x00000000#32
def val_main_v66 (x0 : (⟨S8704x9216, .f32⟩ : BufTy).Contents (Elt F)) : (⟨S2x1x32x8x128, .f32⟩ : BufTy).Contents (Elt F) :=
  Host.reduceAdd (val_main_v65 (F := F) x0) (val_main_cst_9 (F := F)) reducesTo_S2x1x32x8x128x256_S2x1x32x8x128_d5 h_S_
def val_main_v67 (x0 : (⟨S8704x9216, .f32⟩ : BufTy).Contents (Elt F)) : (⟨S2x1x32x8x128x128, .f32⟩ : BufTy).Contents (Elt F) :=
  Host.dotGeneral dot_S2x1x32x256x8x128_S2x1x32x8x128x256_S2x1x32x8x128x128_3_5_5_4_0124_0123 none (val_main_v24 (F := F) x0) (val_main_v65 (F := F) x0)
def val_main_v68 (x0 : (⟨S8704x9216, .f32⟩ : BufTy).Contents (Elt F)) : (⟨S2x1x32x128x8x128, .f32⟩ : BufTy).Contents (Elt F) :=
  transpose S2x1x32x128x8x128 [0, 1, 2, 5, 3, 4] (val_main_v67 (F := F) x0) transposes_S2x1x32x8x128x128_S2x1x32x128x8x128_0_1_2_5_3_4
def val_main_v69 (x0 : (⟨S8704x9216, .f32⟩ : BufTy).Contents (Elt F)) : (⟨S2x1x32x128x8, .f32⟩ : BufTy).Contents (Elt F) :=
  transpose S2x1x32x128x8 [0, 1, 2, 4, 3] (val_main_v66 (F := F) x0) transposes_S2x1x32x8x128_S2x1x32x128x8_0_1_2_4_3
def val_main_v70 (x0 : (⟨S8704x9216, .f32⟩ : BufTy).Contents (Elt F)) : (⟨S2x1x32x128x8x1, .f32⟩ : BufTy).Contents (Elt F) :=
  broadcastInDim S2x1x32x128x8x1 ![0, 1, 2, 3, 4] bcast_S2x1x32x128x8_S2x1x32x128x8x1_0_1_2_3_4 (val_main_v69 (F := F) x0)
def val_main_v71 (x0 : (⟨S8704x9216, .f32⟩ : BufTy).Contents (Elt F)) : (⟨S2x1x32x128x8x128, .f32⟩ : BufTy).Contents (Elt F) :=
  broadcastInDim S2x1x32x128x8x128 ![0, 1, 2, 3, 4, 5] bcast_S2x1x32x128x8x1_S2x1x32x128x8x128_0_1_2_3_4_5 (val_main_v70 (F := F) x0)
def val_main_v72 (x0 : (⟨S8704x9216, .f32⟩ : BufTy).Contents (Elt F)) : (⟨S2x1x32x128x8x128, .f32⟩ : BufTy).Contents (Elt F) :=
  Host.divf (val_main_v68 (F := F) x0) (val_main_v71 (F := F) x0)
def val_main_v73 (x0 : (⟨S8704x9216, .f32⟩ : BufTy).Contents (Elt F)) : (⟨S2x1x32x8x128, .f32⟩ : BufTy).Contents (Elt F) :=
  shapeCast _ (val_main_v62 (F := F) x0) shapeCasts_S2x1x32x8x128x1_S2x1x32x8x128

def val_main_v74 (x0 : (⟨S8704x9216, .f32⟩ : BufTy).Contents (Elt F)) : (⟨S2x1x32x8x128, .f32⟩ : BufTy).Contents (Elt F) :=
  Host.log (val_main_v66 (F := F) x0)
def val_main_v75 (x0 : (⟨S8704x9216, .f32⟩ : BufTy).Contents (Elt F)) : (⟨S2x1x32x8x128, .f32⟩ : BufTy).Contents (Elt F) :=
  addf (val_main_v73 (F := F) x0) (val_main_v74 (F := F) x0)
def val_main_v76 (x0 : (⟨S8704x9216, .f32⟩ : BufTy).Contents (Elt F)) : (⟨S2x1x32x128x8, .f32⟩ : BufTy).Contents (Elt F) :=
  transpose S2x1x32x128x8 [0, 1, 2, 4, 3] (val_main_v75 (F := F) x0) transposes_S2x1x32x8x128_S2x1x32x128x8_0_1_2_4_3
def val_main_v77 (x0 : (⟨S8704x9216, .f32⟩ : BufTy).Contents (Elt F)) : (⟨S2x1x4096x8x128, .f32⟩ : BufTy).Contents (Elt F) :=
  shapeCast _ (val_main_v72 (F := F) x0) shapeCasts_S2x1x32x128x8x128_S2x1x4096x8x128

def val_main_v78 (x0 : (⟨S8704x9216, .f32⟩ : BufTy).Contents (Elt F)) : (⟨S2x4096x1x8x128, .f32⟩ : BufTy).Contents (Elt F) :=
  transpose S2x4096x1x8x128 [0, 2, 1, 3, 4] (val_main_v77 (F := F) x0) transposes_S2x1x4096x8x128_S2x4096x1x8x128_0_2_1_3_4
def val_main_v79 (x0 : (⟨S8704x9216, .f32⟩ : BufTy).Contents (Elt F)) : (⟨S2x4096x8x128, .f32⟩ : BufTy).Contents (Elt F) :=
  shapeCast _ (val_main_v78 (F := F) x0) shapeCasts_S2x4096x1x8x128_S2x4096x8x128
def val_main_v80 (x0 : (⟨S8704x9216, .f32⟩ : BufTy).Contents (Elt F)) : (⟨S2x1x4096x8, .f32⟩ : BufTy).Contents (Elt F) :=
  shapeCast _ (val_main_v76 (F := F) x0) shapeCasts_S2x1x32x128x8_S2x1x4096x8
def val_main_v81 (x0 : (⟨S8704x9216, .f32⟩ : BufTy).Contents (Elt F)) : (⟨S2x4096x1x8, .f32⟩ : BufTy).Contents (Elt F) :=
  transpose S2x4096x1x8 [0, 2, 1, 3] (val_main_v80 (F := F) x0) transposes_S2x1x4096x8_S2x4096x1x8_0_2_1_3
def val_main_v82 (x0 : (⟨S8704x9216, .f32⟩ : BufTy).Contents (Elt F)) : (⟨S2x4096x8, .f32⟩ : BufTy).Contents (Elt F) :=
  shapeCast _ (val_main_v81 (F := F) x0) shapeCasts_S2x4096x1x8_S2x4096x8
def val_main_v83 (x0 : (⟨S8704x9216, .f32⟩ : BufTy).Contents (Elt F)) : (⟨S2x4096x8x1, .f32⟩ : BufTy).Contents (Elt F) :=
  broadcastInDim S2x4096x8x1 ![0, 1, 2] bcast_S2x4096x8_S2x4096x8x1_0_1_2 (val_main_v82 (F := F) x0)
def val_main_v84 (x0 : (⟨S8704x9216, .f32⟩ : BufTy).Contents (Elt F)) : (⟨S2x4096x8x128, .f32⟩ : BufTy).Contents (Elt F) :=
  broadcastInDim S2x4096x8x128 ![0, 1, 2, 3] bcast_S2x4096x8x1_S2x4096x8x128_0_1_2_3 (val_main_v83 (F := F) x0)
def val_main_v85 (x0 : (⟨S8704x9216, .f32⟩ : BufTy).Contents (Elt F)) : (⟨S8192x1024, .f32⟩ : BufTy).Contents (Elt F) :=
  shapeCast _ (val_main_v79 (F := F) x0) shapeCasts_S2x4096x8x128_S8192x1024
def val_main_c_10 : (⟨S_, .i32⟩ : BufTy).Contents (Elt F) :=
  constantI S_ 32 0#32
def val_main_call3_v0 : (⟨S_, .f32⟩ : BufTy).Contents (Elt F) :=
  sitofp .f32 (val_main_c_10 (F := F))
def val_main_v86 (x0 : (⟨S8704x9216, .f32⟩ : BufTy).Contents (Elt F)) : (⟨S8704x1024, .f32⟩ : BufTy).Contents (Elt F) :=
  pad S8704x1024 ![0, 0] ![512, 0] ![0, 0] (val_main_v85 (F := F) x0) (val_main_call3_v0 (F := F)) pads_S8192x1024_S8704x1024_05120_000 h_S_

def val_main_v87 (x0 : (⟨S8704x9216, .f32⟩ : BufTy).Contents (Elt F)) : (⟨S8192x1024, .f32⟩ : BufTy).Contents (Elt F) :=
  shapeCast _ (val_main_v84 (F := F) x0) shapeCasts_S2x4096x8x128_S8192x1024
def val_main_c_11 : (⟨S_, .i32⟩ : BufTy).Contents (Elt F) :=
  constantI S_ 32 0#32
def val_main_call4_v0 : (⟨S_, .f32⟩ : BufTy).Contents (Elt F) :=
  sitofp .f32 (val_main_c_11 (F := F))
def val_main_v88 (x0 : (⟨S8704x9216, .f32⟩ : BufTy).Contents (Elt F)) : (⟨S8704x1024, .f32⟩ : BufTy).Contents (Elt F) :=
  pad S8704x1024 ![0, 0] ![512, 0] ![0, 0] (val_main_v87 (F := F) x0) (val_main_call4_v0 (F := F)) pads_S8192x1024_S8704x1024_05120_000 h_S_

end Terms

variable (X : FVec Ideal S8704x9216 .f32)
variable (b : Fin 2) (r : Fin 1) (n : Fin 32) (h : Fin 8) (qi x d : Fin 128)

/-- A query. -/
theorem q_at : val_main_v10 (F := Ideal) X (ix6 b r n qi h d) = rd X (tok 1 b r (n * 128 + qi)) (0 * 3072 + h * 128 + d) := by
  pointwise [val_main_v0, val_main_v1, val_main_v2, val_main_v3, val_main_v4, val_main_v5, val_main_v6, val_main_v7, val_main_v8, val_main_v9, val_main_v10]
  exact rd_of _ _ _ _ (by simp [tok]; try omega) (by simp)

/-- A key of the block before the query's, where there is one. -/
theorem k_lo (hn : 0 < n.val) : val_main_v17 (F := Ideal) X (ix6 b r n (⟨x, by omega⟩ : Fin 256) h d)
    = rd X (tok 1 b r ((n - 1) * 128 + x)) (0 * 3072 + 1024 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17]
  rw [dif_pos (by omega)]
  exact rd_of _ _ _ _ (by simp [tok]; try omega) (by simp)

/-- A key of the query's own block. -/
theorem k_hi : val_main_v17 (F := Ideal) X (ix6 b r n (⟨128 + x, by omega⟩ : Fin 256) h d)
    = rd X (tok 1 b r (n * 128 + x)) (0 * 3072 + 1024 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17]
  rw [dif_pos (by omega)]
  exact rd_of _ _ _ _ (by simp [tok]; try omega) (by simp)

/-- A value of the block before the query's, where there is one. -/
theorem v_lo (hn : 0 < n.val) : val_main_v24 (F := Ideal) X (ix6 b r n (⟨x, by omega⟩ : Fin 256) h d)
    = rd X (tok 1 b r ((n - 1) * 128 + x)) (0 * 3072 + 2048 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17, val_main_v18, val_main_v19, val_main_c_0, val_main_call1_v0, val_main_v20, val_main_v21, val_main_v22, val_main_v23, val_main_v24]
  rw [dif_pos (by omega)]
  exact rd_of _ _ _ _ (by simp [tok]; try omega) (by simp)

/-- A value of the query's own block. -/
theorem v_hi : val_main_v24 (F := Ideal) X (ix6 b r n (⟨128 + x, by omega⟩ : Fin 256) h d)
    = rd X (tok 1 b r (n * 128 + x)) (0 * 3072 + 2048 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17, val_main_v18, val_main_v19, val_main_c_0, val_main_call1_v0, val_main_v20, val_main_v21, val_main_v22, val_main_v23, val_main_v24]
  rw [dif_pos (by omega)]
  exact rd_of _ _ _ _ (by simp [tok]; try omega) (by simp)

/-- A masked score. -/
theorem s_at (y : Fin 256) : val_main_v60 (F := Ideal) X (ix6 b r n h qi y)
    = if (y.val ≤ qi.val + 128 ∧ qi.val ≤ y.val) ∧ 128 ≤ n.val * 128 + y.val then
        (∑ d, val_main_v10 (F := Ideal) X (ix6 b r n qi h d) * val_main_v17 (F := Ideal) X (ix6 b r n y h d)) * scale
      else ⊥ := by
  pointwise [val_main_v25, val_main_cst, val_main_v26, val_main_v27, val_main_v28, val_main_v29, val_main_v30, val_main_v31, val_main_v32, val_main_c_1, val_main_v33, val_main_v34, val_main_v35, val_main_v36, val_main_v37, val_main_v38, val_main_v39, val_main_c_2, val_main_v40, val_main_v41, val_main_v42, val_main_v43, val_main_v44, val_main_v45, val_main_c_3, val_main_v46, val_main_v47, val_main_c_4, val_main_v48, val_main_v49, val_main_c_5, val_main_v50, val_main_v51, val_main_v52, val_main_c_6, val_main_v53, val_main_v54, val_main_v55, val_main_v56, val_main_v57, val_main_v58, val_main_v59, val_main_cst_7, val_main_call2_v0, val_main_call2_v1, val_main_call2_v2, val_main_v60]
  exact (mask_band n qi y (by omega) (by omega) (by omega) _ _).trans (if_congr Iff.rfl (div_root _) ninf)

/-- A score against the block before the query's. -/
theorem s_lo : val_main_v60 (F := Ideal) X (ix6 b r n h qi (⟨x, by omega⟩ : Fin 256)) = sP X 1 0 b r n qi h x := by
  rw [s_at, mask_lo n qi x (by omega) (by omega) (by omega), sP]
  split_ifs with hc
  · exact congrArg (· * scale) (Finset.sum_congr rfl fun d _ => congrArg₂ (· * ·) (q_at X b r n h qi d) (k_lo X b r n h x d hc.2))
  · rfl

/-- A score against the query's own block. -/
theorem s_hi : val_main_v60 (F := Ideal) X (ix6 b r n h qi (⟨128 + x, by omega⟩ : Fin 256)) = sC X 1 0 b r n qi h x := by
  rw [s_at, mask_hi n qi x (by omega) (by omega) (by omega), sC]
  split_ifs with hc
  · exact congrArg (· * scale) (Finset.sum_congr rfl fun d _ => congrArg₂ (· * ·) (q_at X b r n h qi d) (k_hi X b r n h x d))
  · rfl

end Cert.Dil0RefIdeal.At

end
-- ==== Proof.RefAt0.lean ====
/- The window of dilation 1: the reference at one query. -/
module
public import proofs.«01_k».proof.Proof.Ref0

@[expose] public section

set_option maxRecDepth 16384

noncomputable section

namespace Cert.Dil0RefIdeal.At

open Idealize.ShloMosaic Idealize.ShloMosaic.TcCoe Idealize.SL.Sem
open Cert.Dil0RefIdeal Cert.Dil0RefIdeal.Gen Cert.Dil0RefIdeal.Value Cert.Window

variable (X : FVec Ideal S8704x9216 .f32)
variable (b : Fin 2) (r : Fin 1) (n : Fin 32) (h : Fin 8) (qi x d : Fin 128)

attribute [local irreducible] val_main_v60 val_main_v24

/-- The attention's output. -/
theorem o_at : val_main_v72 (F := Ideal) X (ix6 b r n qi h d) = outAt X 1 0 b r n qi h d := by
  obtain rfl : r = 0 := Subsingleton.elim _ _
  pointwise [val_main_cst_8, val_main_v61, val_main_v62, val_main_v63, val_main_v64, val_main_v65, val_main_cst_9, val_main_v66, val_main_v67, val_main_v68, val_main_v69, val_main_v70, val_main_v71, val_main_v72]
  rw [ninf]
  exact out_halves (fun y => val_main_v60 (F := Ideal) X (ix6 b (0 : Fin 1) n h qi y)) (fun y => val_main_v24 (F := Ideal) X (ix6 b (0 : Fin 1) n y h d))
    (sP X 1 0 b (0 : Fin 1) n qi h) (sC X 1 0 b (0 : Fin 1) n qi h) _ _ (fun x => s_lo X b (0 : Fin 1) n h qi x) (fun x => s_hi X b (0 : Fin 1) n h qi x)
    (fun x hx => v_lo X b (0 : Fin 1) n h x d (by by_contra h0; exact hx (if_neg (fun e => h0 e.2)))) (fun x _ => v_hi X b (0 : Fin 1) n h x d)

/-- The largest score. -/
theorem m_at : val_main_v61 (F := Ideal) X (ix5 b r n h qi)
    = Finset.univ.fold max ⊥ (fun y => val_main_v60 (F := Ideal) X (ix6 b r n h qi y)) := by
  exact max6 reducesTo_S2x1x32x8x128x256_S2x1x32x8x128_d5 h_S_ (val_main_v60 (F := Ideal) X) (val_main_cst_8 (F := Ideal)) b r n h qi ninf

/-- The sum of the exponentials. -/
theorem d_at : val_main_v66 (F := Ideal) X (ix5 b r n h qi)
    = ∑ y, Ideal.exp (val_main_v60 (F := Ideal) X (ix6 b r n h qi y) - val_main_v61 (F := Ideal) X (ix5 b r n h qi)) := by
  pointwise [val_main_v62, val_main_v63, val_main_v64, val_main_v65, val_main_cst_9, val_main_v66]
  rw [show (0 : Fin 1) = r from Subsingleton.elim _ _]

/-- A maximum plus a logarithm, the maximum through its extra axis of one. -/
theorem l_gen (M D : FVec Ideal S2x1x32x8x128 .f32) :
    addf (shapeCast S2x1x32x8x128 (broadcastInDim S2x1x32x8x128x1 ![0, 1, 2, 3, 4] bcast_S2x1x32x8x128_S2x1x32x8x128x1_0_1_2_3_4 M)
        shapeCasts_S2x1x32x8x128x1_S2x1x32x8x128) (Host.log D) (ix5 b r n h qi)
      = M (ix5 b r n h qi) + Ideal.log (D (ix5 b r n h qi)) := by
  pointwise
  rw [show (0 : Fin 1) = r from Subsingleton.elim _ _]

/-- The log-sum-exp of the scores, from the largest and the sum. -/
theorem l_of : val_main_v75 (F := Ideal) X (ix5 b r n h qi)
    = val_main_v61 (F := Ideal) X (ix5 b r n h qi) + Ideal.log (val_main_v66 (F := Ideal) X (ix5 b r n h qi)) := by
  exact l_gen b r n h qi (val_main_v61 (F := Ideal) X) (val_main_v66 (F := Ideal) X)

/-- The log-sum-exp of the scores. -/
theorem l_at : val_main_v75 (F := Ideal) X (ix5 b r n h qi) = lseAt X 1 0 b r n qi h := by
  rw [l_of, d_at, m_at]
  exact lse_halves (fun y => val_main_v60 (F := Ideal) X (ix6 b r n h qi y)) (sP X 1 0 b r n qi h) (sC X 1 0 b r n qi h) (fun x => s_lo X b r n h qi x) (fun x => s_hi X b r n h qi x)

end Cert.Dil0RefIdeal.At

end
-- ==== Proof.RefOut0.lean ====
/- The window of dilation 1: the two results of the reference at an element. -/
module
public import proofs.«01_k».proof.Proof.RefAt0

@[expose] public section

set_option maxRecDepth 16384

noncomputable section

namespace Cert.Dil0RefIdeal.At

open Idealize.ShloMosaic Idealize.ShloMosaic.TcCoe Idealize.SL.Sem
open Cert.Dil0RefIdeal Cert.Dil0RefIdeal.Gen Cert.Dil0RefIdeal.Value Cert.Window

variable (X : FVec Ideal S8704x9216 .f32)
variable (b : Fin 2) (r : Fin 1) (n : Fin 32) (h : Fin 8) (qi x d : Fin 128)

attribute [local irreducible] val_main_v72 val_main_v75

/-- The first result, where its row is a token's. -/
theorem res_o (i : (⟨2, ![8704, 1024]⟩ : Shape).Idx) (hi : (i 0).val < 8192) : val_main_v86 (F := Ideal) X i
    = outAt X 1 0 ((i 0).val / 4096) ((i 1).val / 1024) ((i 0).val % 4096 / 128) ((i 0).val % 128) ((i 1).val / 128 % 8) ((i 1).val % 128) := by
  obtain ⟨R, C, rfl⟩ : ∃ R C, i = ix2 R C := ⟨i 0, i 1, funext fun a => by match a with | ⟨0, _⟩ => rfl | ⟨1, _⟩ => rfl⟩
  pointwise [val_main_v77, val_main_v78, val_main_v79, val_main_v85, val_main_c_10, val_main_call3_v0, val_main_v86]
  have hR : (R : ℕ) < 8192 := hi
  rw [dif_pos hR, o_at]
  show outAt X 1 0 _ _ _ _ _ _ = outAt X 1 0 ((R : ℕ) / 4096) ((C : ℕ) / 1024) ((R : ℕ) % 4096 / 128) ((R : ℕ) % 128) ((C : ℕ) / 128 % 8) ((C : ℕ) % 128)
  congr 1 <;> simp <;> omega

/-- The second result, where its row is a token's. -/
theorem res_l (i : (⟨2, ![8704, 1024]⟩ : Shape).Idx) (hi : (i 0).val < 8192) : val_main_v88 (F := Ideal) X i
    = lseAt X 1 0 ((i 0).val / 4096) ((i 1).val / 1024) ((i 0).val % 4096 / 128) ((i 0).val % 128) ((i 1).val / 128 % 8) := by
  obtain ⟨R, C, rfl⟩ : ∃ R C, i = ix2 R C := ⟨i 0, i 1, funext fun a => by match a with | ⟨0, _⟩ => rfl | ⟨1, _⟩ => rfl⟩
  pointwise [val_main_v76, val_main_v80, val_main_v81, val_main_v82, val_main_v83, val_main_v84, val_main_v87, val_main_c_11, val_main_call4_v0, val_main_v88]
  have hR : (R : ℕ) < 8192 := hi
  rw [dif_pos hR, l_at]
  show lseAt X 1 0 _ _ _ _ _ = lseAt X 1 0 ((R : ℕ) / 4096) ((C : ℕ) / 1024) ((R : ℕ) % 4096 / 128) ((R : ℕ) % 128) ((C : ℕ) / 128 % 8)
  congr 1 <;> simp <;> omega

end Cert.Dil0RefIdeal.At

end
-- ==== Proof.Claim0.lean ====
/- The claims about the window of dilation 1. -/
module
public import proofs.«01_k».proof.Defs
public import proofs.«01_k».proof.Proof.Gen.Dil0Ideal.Value
public import proofs.«01_k».proof.Proof.Gen.Dil0RefIdeal.Run
public import proofs.«01_k».proof.Proof.Gen.On_rows0
public import proofs.«01_k».proof.Proof.Out0
public import proofs.«01_k».proof.Proof.RefOut0
public import Idealize.ShloMosaic.Lib.Claim

@[expose] public section

set_option maxRecDepth 16384

noncomputable section

namespace Cert.Dil0RefIdeal.At

open Idealize.ShloMosaic Idealize.ShloMosaic.TcCoe Idealize.SL.Sem
open Cert.Dil0RefIdeal Cert.Dil0RefIdeal.Gen Cert.Dil0RefIdeal.Value Cert.Window

variable (m : (ℓ : Loc nD τ sig) → Buf (Elt Ideal) ℓ) (c : Dev nD)

/-- The first result is the named chain of operations. -/
theorem res_86 : res_main_v86 m c = val_main_v86 (F := Ideal) (m ((c.tc : Thread nD τ).loc main_arg0)) := by
  unfold res_main_v86
  rfl

/-- The second result is the named chain of operations. -/
theorem res_88 : res_main_v88 m c = val_main_v88 (F := Ideal) (m ((c.tc : Thread nD τ).loc main_arg0)) := by
  unfold res_main_v88
  rfl

/-- The reference runs and leaves its argument as it was; it has no semaphore. -/
theorem quiescent : Cert.quiescent_Dil0RefIdeal := by
  intro m g _
  haveI : IsEmpty (SemLoc sig) := Fintype.card_eq_zero_iff.mp (by decide)
  exact (θ_run _ _ _).mono (fun r h => ⟨fun c => (h c).2.2, funext fun s => isEmptyElim s.2⟩) (Cert.Dil0RefIdeal.Value.run m g)

/-- A row the mask takes is a row of a token. -/
theorem mask_row (i : Cert.On_rows0.S8704x1024.Idx)
    (h : cmpi .slt (iotaInDim Cert.On_rows0.S8704x1024 32 0)
      (broadcastInDim Cert.On_rows0.S8704x1024 ![] Cert.On_rows0.Gen.bcast_S_S8704x1024 (constantI Cert.On_rows0.S_ 32 8192#32)) i = 1#1) :
    (i 0).val < 8192 := by
  have hi : (i 0).val < 8704 := (i 0).isLt
  change IntOp.cmpi CmpIPredicate.slt (BitVec.ofNat 32 (i 0).val) 8192#32 = 1#1 at h
  have e : ∀ b : Bool, (BitVec.ofBool b = 1#1) ↔ b = true := by decide
  simp only [IntOp.cmpi, BitVec.slt, e, nat_int (i 0).val (by omega), decide_eq_true_eq] at h
  rw [show (8192#32 : BitVec 32).toInt = 8192 by decide] at h
  omega

/-- The kernel and the reference end with the same values in every row of a token. -/
theorem algebraic : Cert.algebraic_Dil0Ideal_Dil0RefIdeal_on_rows0 := by
  intro m g m' g' _ hagree
  refine ⟨fun c => (Cert.Dil0Ideal.Gen.dats m 0 c).arrAt 5 Cert.Dil0Ideal.cfg0.N,
    fun c => (Cert.Dil0Ideal.Gen.dats m 0 c).arrAt 6 Cert.Dil0Ideal.cfg0.N, ?_, ?_⟩
  · exact (θ_run _ _ _).mono (fun r h c => ⟨fun i _ => congrFun (h c).1 i, fun i _ => congrFun (h c).2.1 i, (h c).2.2⟩)
      (Cert.Dil0Ideal.Value.run_blocks m g)
  · refine (θ_run _ _ _).mono (fun r h c => ⟨fun i hi => ?_, fun i hi => ?_, (h c).2.2⟩) (Cert.Dil0RefIdeal.Value.run m' g')
    · have hrow := mask_row i hi
      rw [(h c).1, res_86, hagree c]
      exact (res_o _ i hrow).trans (Cert.Dil0Ideal.At.final5 m c i hrow).symm
    · have hrow := mask_row i hi
      rw [(h c).2.1, res_88, hagree c]
      exact (res_l _ i hrow).trans (Cert.Dil0Ideal.At.final6 m c i hrow).symm

end Cert.Dil0RefIdeal.At

end
-- ==== Proof.NormAt.lean ====
/- The norm of the residual stream: what its pipeline leaves at an element, as bf16 rows and as f32 rows. -/
module
public import proofs.«01_k».proof.Defs
public import proofs.«01_k».proof.Proof.Gen.NormHIdeal.Value
public import proofs.«01_k».proof.Proof.Gen.NormHRefIdeal.Run
public import proofs.«01_k».proof.Proof.Gen.NormYIdeal.Value
public import proofs.«01_k».proof.Proof.Gen.NormYRefIdeal.Run
public import Idealize.ShloMosaic.Lib.Pipeline.ValueKit

@[expose] public section

set_option maxRecDepth 16384

noncomputable section

namespace Cert.Norm

open Idealize.ShloMosaic

/-- Each row over the root of the mean of its squares and the norm's constant, times the gain. -/
def normed (x : (⟨2, ![8704, 2048]⟩ : Shape).Idx → EReal) (g : (⟨1, ![2048]⟩ : Shape).Idx → EReal) : (⟨2, ![8704, 2048]⟩ : Shape).Idx → EReal := fun i =>
  x i * Ideal.rsqrt (Ideal.div (∑ k : Fin 2048, x (ix2 (i 0) k) * x (ix2 (i 0) k)) (Ideal.ofBits .f32 0x45000000#32) + Ideal.ofBits .f32 0x358637BD#32) * g (ix1 (i 1))

end Cert.Norm

namespace Cert.NormHIdeal.At

open Idealize.ShloMosaic Idealize.ShloMosaic.TcCoe Idealize.SL.Sem
open Cert.NormHIdeal Cert.NormHIdeal.Gen Cert.Norm
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val, 0] ∧ win0_1.index t = ![0, 0] ∧ win0_2.index t = ![t.val, 0] :=
  (by decide +kernel : ∀ t : Fin grid0.N, _)

/-- The result: the normalised rows. -/
theorem final2 : (dats m 0 c).arrAt 2 cfg0.N = normed (m ((c.tc : Thread nD τ).loc main_arg0)) (m ((c.tc : Thread nD τ).loc main_arg1)) := by
  refine (dats m 0 c).arrAt_eq_of_covers 2 _ (by decide +kernel) fun t hf y => ?_
  have ht : t.val < 34 := lt_of_lt_of_eq t.isLt N_0
  blk_simp
  rw [after0_2]
  frame_out
  pointwise [k0_pay1, normed]
  blk_point [iblk, V, idx t]

end Cert.NormHIdeal.At

namespace Cert.NormHRefIdeal.At

open Idealize.ShloMosaic Idealize.ShloMosaic.TcCoe Idealize.SL.Sem
open Cert.NormHRefIdeal Cert.NormHRefIdeal.Gen Cert.Norm

/-- The reference's result is the same normalised rows. -/
theorem val_eq (x : FVec Ideal S8704x2048 .f32) (g : FVec Ideal S2048 .f32) :
    truncf .bf16 (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g))) bitsLt_bf16_f32 = normed x g := by
  funext i
  pointwise [normed]

/-- The reference runs and leaves its arguments as they were; it has no semaphore. -/
theorem quiescent : Cert.quiescent_NormHRefIdeal := by
  intro m g _
  haveI : IsEmpty (SemLoc sig) := Fintype.card_eq_zero_iff.mp (by decide)
  exact (θ_run _ _ _).mono (fun r h => ⟨fun c => (h c).2, funext fun s => isEmptyElim s.2⟩) (Cert.NormHRefIdeal.Value.run m g)

/-- The kernel and the reference end with the same values. -/
theorem algebraic : Cert.algebraic_NormHIdeal_NormHRefIdeal := by
  intro m g m' g' _ hagree
  refine ⟨fun c => (Cert.NormHIdeal.Gen.dats m 0 c).arrAt 2 Cert.NormHIdeal.cfg0.N, Cert.NormHIdeal.Value.run_blocks m g, ?_⟩
  refine (θ_run _ _ _).mono (fun r h c => ⟨?_, (h c).2⟩) (Cert.NormHRefIdeal.Value.run m' g')
  rw [(h c).1, (hagree c).1, (hagree c).2]
  exact (val_eq _ _).trans (Cert.NormHIdeal.At.final2 m c).symm

end Cert.NormHRefIdeal.At

namespace Cert.NormYIdeal.At

open Idealize.ShloMosaic Idealize.ShloMosaic.TcCoe Idealize.SL.Sem
open Cert.NormYIdeal Cert.NormYIdeal.Gen Cert.Norm
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val, 0] ∧ win0_1.index t = ![0, 0] ∧ win0_2.index t = ![t.val, 0] :=
  (by decide +kernel : ∀ t : Fin grid0.N, _)

/-- The result: the normalised rows. -/
theorem final2 : (dats m 0 c).arrAt 2 cfg0.N = normed (m ((c.tc : Thread nD τ).loc main_arg0)) (m ((c.tc : Thread nD τ).loc main_arg1)) := by
  refine (dats m 0 c).arrAt_eq_of_covers 2 _ (by decide +kernel) fun t hf y => ?_
  have ht : t.val < 34 := lt_of_lt_of_eq t.isLt N_0
  blk_simp
  rw [after0_2]
  frame_out
  pointwise [k0_pay1, normed]
  blk_point [iblk, V, idx t]

end Cert.NormYIdeal.At

namespace Cert.NormYRefIdeal.At

open Idealize.ShloMosaic Idealize.ShloMosaic.TcCoe Idealize.SL.Sem
open Cert.NormYRefIdeal Cert.NormYRefIdeal.Gen Cert.Norm

/-- The reference's result is the same normalised rows. -/
theorem val_eq (x : FVec Ideal S8704x2048 .f32) (g : FVec Ideal S2048 .f32) :
    mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g)) = normed x g := by
  funext i
  pointwise [normed]

/-- The reference runs and leaves its arguments as they were; it has no semaphore. -/
theorem quiescent : Cert.quiescent_NormYRefIdeal := by
  intro m g _
  haveI : IsEmpty (SemLoc sig) := Fintype.card_eq_zero_iff.mp (by decide)
  exact (θ_run _ _ _).mono (fun r h => ⟨fun c => (h c).2, funext fun s => isEmptyElim s.2⟩) (Cert.NormYRefIdeal.Value.run m g)

/-- The kernel and the reference end with the same values. -/
theorem algebraic : Cert.algebraic_NormYIdeal_NormYRefIdeal := by
  intro m g m' g' _ hagree
  refine ⟨fun c => (Cert.NormYIdeal.Gen.dats m 0 c).arrAt 2 Cert.NormYIdeal.cfg0.N, Cert.NormYIdeal.Value.run_blocks m g, ?_⟩
  refine (θ_run _ _ _).mono (fun r h c => ⟨?_, (h c).2⟩) (Cert.NormYRefIdeal.Value.run m' g')
  rw [(h c).1, (hagree c).1, (hagree c).2]
  exact (val_eq _ _).trans (Cert.NormYIdeal.At.final2 m c).symm

end Cert.NormYRefIdeal.At

end
-- ==== Proof.NormMore.lean ====
/- The norm before the PEER mixer, a token to a column, and the norm after it, with the mixer's output added. -/
module
public import proofs.«01_k».proof.Defs
public import proofs.«01_k».proof.Proof.Gen.NormTIdeal.Value
public import proofs.«01_k».proof.Proof.Gen.NormTRefIdeal.Run
public import proofs.«01_k».proof.Proof.Gen.NormXIdeal.Value
public import proofs.«01_k».proof.Proof.Gen.NormXRefIdeal.Run
public import proofs.«01_k».proof.Proof.NormAt
public import Idealize.ShloMosaic.Lib.Pipeline.ValueKit

@[expose] public section

set_option maxRecDepth 16384

noncomputable section

namespace Cert.Norm

open Idealize.ShloMosaic

/-- The normalised rows, a row to a column. -/
def turned (x : (⟨2, ![8704, 2048]⟩ : Shape).Idx → EReal) (g : (⟨1, ![2048]⟩ : Shape).Idx → EReal) : (⟨2, ![2048, 8704]⟩ : Shape).Idx → EReal := fun i =>
  normed x g (ix2 (i 1) (i 0))

/-- Rows and the columns of another array added. -/
def added (x : (⟨2, ![8704, 2048]⟩ : Shape).Idx → EReal) (t : (⟨2, ![2048, 8704]⟩ : Shape).Idx → EReal) : (⟨2, ![8704, 2048]⟩ : Shape).Idx → EReal := fun i =>
  x i + t (ix2 (i 1) (i 0))

end Cert.Norm

namespace Cert.NormTIdeal.At

open Idealize.ShloMosaic Idealize.ShloMosaic.TcCoe Idealize.SL.Sem
open Cert.NormTIdeal Cert.NormTIdeal.Gen Cert.Norm
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val, 0] ∧ win0_1.index t = ![0, 0] ∧ win0_2.index t = ![0, t.val] :=
  (by decide +kernel : ∀ t : Fin grid0.N, _)

/-- The result: the normalised rows, as columns. -/
theorem final2 : (dats m 0 c).arrAt 2 cfg0.N = turned (m ((c.tc : Thread nD τ).loc main_arg0)) (m ((c.tc : Thread nD τ).loc main_arg1)) := by
  refine (dats m 0 c).arrAt_eq_of_covers 2 _ (by decide +kernel) fun t hf y => ?_
  have ht : t.val < 34 := lt_of_lt_of_eq t.isLt N_0
  blk_simp
  rw [after0_2]
  frame_out
  pointwise [k0_pay1, turned, normed]
  blk_point [iblk, V, idx t]

end Cert.NormTIdeal.At

namespace Cert.NormTRefIdeal.At

open Idealize.ShloMosaic Idealize.ShloMosaic.TcCoe Idealize.SL.Sem
open Cert.NormTRefIdeal Cert.NormTRefIdeal.Gen Cert.Norm

/-- The reference's result is the same columns. -/
theorem val_eq (x : FVec Ideal S8704x2048 .f32) (g : FVec Ideal S2048 .f32) :
    transpose S2048x8704 [1, 0] (truncf .bf16 (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g))) bitsLt_bf16_f32) transposes_S8704x2048_S2048x8704_1_0
      = turned x g := by
  funext i
  pointwise [turned, normed]

/-- The reference runs and leaves its arguments as they were; it has no semaphore. -/
theorem quiescent : Cert.quiescent_NormTRefIdeal := by
  intro m g _
  haveI : IsEmpty (SemLoc sig) := Fintype.card_eq_zero_iff.mp (by decide)
  exact (θ_run _ _ _).mono (fun r h => ⟨fun c => (h c).2, funext fun s => isEmptyElim s.2⟩) (Cert.NormTRefIdeal.Value.run m g)

/-- The kernel and the reference end with the same values. -/
theorem algebraic : Cert.algebraic_NormTIdeal_NormTRefIdeal := by
  intro m g m' g' _ hagree
  refine ⟨fun c => (Cert.NormTIdeal.Gen.dats m 0 c).arrAt 2 Cert.NormTIdeal.cfg0.N, Cert.NormTIdeal.Value.run_blocks m g, ?_⟩
  refine (θ_run _ _ _).mono (fun r h c => ⟨?_, (h c).2⟩) (Cert.NormTRefIdeal.Value.run m' g')
  rw [(h c).1, (hagree c).1, (hagree c).2]
  exact (val_eq _ _).trans (Cert.NormTIdeal.At.final2 m c).symm

end Cert.NormTRefIdeal.At

namespace Cert.NormXIdeal.At

open Idealize.ShloMosaic Idealize.ShloMosaic.TcCoe Idealize.SL.Sem
open Cert.NormXIdeal Cert.NormXIdeal.Gen Cert.Norm
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val, 0] ∧ win0_1.index t = ![0, t.val] ∧ win0_2.index t = ![0, 0]
    ∧ win0_3.index t = ![t.val, 0] ∧ win0_4.index t = ![t.val, 0] :=
  (by decide +kernel : ∀ t : Fin grid0.N, _)

/-- The first result: the rows with the mixer's output added. -/
theorem final3 : (dats m 0 c).arrAt 3 cfg0.N = added (m ((c.tc : Thread nD τ).loc main_arg0)) (m ((c.tc : Thread nD τ).loc main_arg2)) := by
  refine (dats m 0 c).arrAt_eq_of_covers 3 _ (by decide +kernel) fun t hf y => ?_
  have ht : t.val < 34 := lt_of_lt_of_eq t.isLt N_0
  blk_simp
  rw [after0_3]
  frame_out
  pointwise [k0_pay1, added]
  blk_point [iblk, V, idx t]

/-- The second result: those rows, normalised. -/
theorem final4 : (dats m 0 c).arrAt 4 cfg0.N = normed (added (m ((c.tc : Thread nD τ).loc main_arg0)) (m ((c.tc : Thread nD τ).loc main_arg2))) (m ((c.tc : Thread nD τ).loc main_arg1)) := by
  refine (dats m 0 c).arrAt_eq_of_covers 4 _ (by decide +kernel) fun t hf y => ?_
  have ht : t.val < 34 := lt_of_lt_of_eq t.isLt N_0
  blk_simp
  rw [after0_4]
  frame_out
  pointwise [k0_pay2, k0_pay1, normed, added]
  blk_point [iblk, V, idx t]

end Cert.NormXIdeal.At

namespace Cert.NormXRefIdeal.At

open Idealize.ShloMosaic Idealize.ShloMosaic.TcCoe Idealize.SL.Sem
open Cert.NormXRefIdeal Cert.NormXRefIdeal.Gen Cert.Norm

/-- The reference's first result is the same rows. -/
theorem sum_eq (x : FVec Ideal S8704x2048 .f32) (t : FVec Ideal S2048x8704 .f32) :
    addf x (transpose S8704x2048 [1, 0] t transposes_S2048x8704_S8704x2048_1_0) = added x t := by
  funext i
  pointwise [added]

/-- The reference's second result is the same normalised rows. -/
theorem val_eq (x : FVec Ideal S8704x2048 .f32) (g : FVec Ideal S2048 .f32) :
    truncf .bf16 (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g))) bitsLt_bf16_f32
      = normed x g := by
  funext i
  pointwise [normed]

/-- The reference runs and leaves its arguments as they were; it has no semaphore. -/
theorem quiescent : Cert.quiescent_NormXRefIdeal := by
  intro m g _
  haveI : IsEmpty (SemLoc sig) := Fintype.card_eq_zero_iff.mp (by decide)
  exact (θ_run _ _ _).mono (fun r h => ⟨fun c => (h c).2.2, funext fun s => isEmptyElim s.2⟩) (Cert.NormXRefIdeal.Value.run m g)

/-- The kernel and the reference end with the same values. -/
theorem algebraic : Cert.algebraic_NormXIdeal_NormXRefIdeal := by
  intro m g m' g' _ hagree
  refine ⟨fun c => (Cert.NormXIdeal.Gen.dats m 0 c).arrAt 3 Cert.NormXIdeal.cfg0.N, fun c => (Cert.NormXIdeal.Gen.dats m 0 c).arrAt 4 Cert.NormXIdeal.cfg0.N,
    Cert.NormXIdeal.Value.run_blocks m g, ?_⟩
  refine (θ_run _ _ _).mono (fun r h c => ⟨?_, ?_, (h c).2.2⟩) (Cert.NormXRefIdeal.Value.run m' g')
  · rw [(h c).1, (hagree c).1, (hagree c).2.2]
    exact (sum_eq _ _).trans (Cert.NormXIdeal.At.final3 m c).symm
  · rw [(h c).2.1, (hagree c).1, (hagree c).2.1, (hagree c).2.2]
    exact (val_eq _ _).trans ((congrArg (normed · _) (sum_eq _ _)).trans (Cert.NormXIdeal.At.final4 m c).symm)

end Cert.NormXRefIdeal.At

end
-- ==== Proof.Ker1.lean ====
/- What the window of dilation 4 writes back at a grid point, head by head. -/
module
public import proofs.«01_k».proof.Proof.Window
public import proofs.«01_k».proof.Proof.Gen.Dil1Ideal.Value
public import Idealize.ShloMosaic.Lib.Pipeline.ValueKit

@[expose] public section

set_option maxRecDepth 16384

noncomputable section

namespace Cert.Dil1Ideal.At

open Idealize.ShloMosaic Idealize.ShloMosaic.TcCoe Idealize.SL.Sem
open Cert.Dil1Ideal Cert.Dil1Ideal.Gen Cert.Window

variable (t : grid0.Coords) (x0 x1 x2 x3 x4 : Vec Ideal S128x1024 .f32)

/-- Head `h` of a block: its 128 columns. -/
def hd (x : Vec Ideal S128x1024 .f32) (h : ℕ) (hh : h < 8) (a b : Fin 128) : EReal :=
  x (ix2 a (⟨h * 128 + b, by omega⟩ : Fin 1024))

/-- A head's element is the block's at an index with those coordinates. -/
theorem at_hd (x : Vec Ideal S128x1024 .f32) (h : ℕ) (hh : h < 8) (a b : Fin 128) (j : S128x1024.Idx)
    (h0 : (j 0).val = a.val) (h1 : (j 1).val = h * 128 + b.val) : x j = hd x h hh a b :=
  congrArg x (funext fun c => Fin.ext (by match c with | ⟨0, _⟩ => exact h0 | ⟨1, _⟩ => exact h1))

set_option maxHeartbeats 2000000 in
/-- The output block at one element. -/
theorem out5 (y : S128x1024.Idx) (i k : ℕ) (d : Fin 128) (hi : i < 128) (hk : k < 8) (e0 : (y 0).val = i) (e1 : (y 1).val = k * 128 + d.val) :
    out0_5 (F := Ideal) t x0 x1 x2 x3 x4 y
      = headOut (t 2).val i (hd x0 k hk) (hd x2 k hk) (hd x1 k hk) (hd x4 k hk) (hd x3 k hk) hi d := by
  have hn : (t 2).val < 32 := lt_of_lt_of_le (t 2).isLt (by decide)
  unfold_out out0_5
  canon_tiles x h
  all_goals
    obtain rfl : i = (x 0).val := by omega
    obtain rfl : d = x 1 := Fin.ext (by omega)
    open_payloads
    pointwise
    refine raw_out _ _ _ _ _ hn hi (IdealRules.named_const.ideal_named_scalar _ _ _ _ rfl) _ _ _ _ _ (fun x => Finset.sum_congr rfl fun b _ => ?_)
      (fun x => Finset.sum_congr rfl fun b _ => ?_) _ _ _ (fun x => ?_) (fun x => ?_)
    · exact congrArg₂ (· * ·) (at_hd _ _ _ _ _ _ rfl (by dsimp; omega)) (at_hd _ _ _ _ _ _ rfl (by dsimp; omega))
    · exact congrArg₂ (· * ·) (at_hd _ _ _ _ _ _ rfl (by dsimp; omega)) (at_hd _ _ _ _ _ _ rfl (by dsimp; omega))
    · exact at_hd _ _ _ _ _ _ rfl (by dsimp; omega)
    · exact at_hd _ _ _ _ _ _ rfl (by dsimp; omega)

set_option maxHeartbeats 2000000 in
/-- The log-sum-exp block at one element: the same in every lane of its head. -/
theorem out6 (y : S128x1024.Idx) (i k : ℕ) (d : Fin 128) (hi : i < 128) (hk : k < 8) (e0 : (y 0).val = i) (e1 : (y 1).val = k * 128 + d.val) :
    out0_6 (F := Ideal) t x0 x1 x2 x3 x4 y
      = headLse (t 2).val i (hd x0 k hk) (hd x2 k hk) (hd x1 k hk) hi := by
  have hn : (t 2).val < 32 := lt_of_lt_of_le (t 2).isLt (by decide)
  unfold_out out0_6
  canon_tiles x h
  all_goals
    obtain rfl : i = (x 0).val := by omega
    obtain rfl : d = x 1 := Fin.ext (by omega)
    open_payloads
    pointwise
    refine raw_lse _ _ _ _ _ hn hi (IdealRules.named_const.ideal_named_scalar _ _ _ _ rfl) _ _ _ (fun x => Finset.sum_congr rfl fun b _ => ?_)
      (fun x => Finset.sum_congr rfl fun b _ => ?_)
    · exact congrArg₂ (· * ·) (at_hd _ _ _ _ _ _ rfl (by dsimp; omega)) (at_hd _ _ _ _ _ _ rfl (by dsimp; omega))
    · exact congrArg₂ (· * ·) (at_hd _ _ _ _ _ _ rfl (by dsimp; omega)) (at_hd _ _ _ _ _ _ rfl (by dsimp; omega))

end Cert.Dil1Ideal.At

end
-- ==== Proof.Out1.lean ====
/- The two arrays the window of dilation 4 leaves, at every element of a token's row. -/
module
public import proofs.«01_k».proof.Proof.Ker1
public import proofs.«01_k».proof.Proof.Head

@[expose] public section

set_option maxRecDepth 16384

noncomputable section

namespace Cert.Dil1Ideal.At

open Idealize.ShloMosaic Idealize.ShloMosaic.TcCoe Idealize.SL.Sem
open Cert.Dil1Ideal Cert.Dil1Ideal.Gen Cert.Window

variable (m : (ℓ : Loc nD τ sig) → Buf (Elt Ideal) ℓ) (c : Dev nD) (t : Fin cfg0.N)

/-- Where each window stands at a grid point, and the block of queries there. -/
theorem idx : ∀ t : Fin cfg0.N, win0_0.index t = ![t.val / 32 * 8 + t.val % 8, t.val % 32 / 8 * 9 + 3]
    ∧ win0_1.index t = ![t.val / 32 * 8 + t.val % 8, t.val % 32 / 8 * 9 + 4]
    ∧ win0_2.index t = ![t.val / 32 * 8 + (t.val % 8 - 1), t.val % 32 / 8 * 9 + 4]
    ∧ win0_3.index t = ![t.val / 32 * 8 + t.val % 8, t.val % 32 / 8 * 9 + 5]
    ∧ win0_4.index t = ![t.val / 32 * 8 + (t.val % 8 - 1), t.val % 32 / 8 * 9 + 5]
    ∧ win0_5.index t = ![t.val / 32 * 8 + t.val % 8, t.val % 32 / 8]
    ∧ win0_6.index t = ![t.val / 32 * 8 + t.val % 8, t.val % 32 / 8] :=
  (by decide +kernel : ∀ t : Fin grid0.N, _)

/-- The block of queries at a grid point, within its stream. -/
theorem coord : ∀ t : Fin cfg0.N, (grid0.coords t 2).val = t.val % 8 :=
  (by decide +kernel : ∀ t : Fin grid0.N, _)

/-- Rows regrouped, at an index. -/
theorem regroup (X : FVec Ideal S8704x9216 .f32) (j : S2176x36864.Idx) :
    shapeCast S2176x36864 X shapeCasts_S8704x9216_S2176x36864 j = rd X ((j 0).val * 4 + (j 1).val / 9216) ((j 1).val % 9216) := by
  have h0 : (j 0).val < 2176 := (j 0).isLt
  have h1 : (j 1).val < 36864 := (j 1).isLt
  pointwise
  exact rd_of _ _ _ _ (by simp; try omega) (by simp; try omega)

/-- The array the windows read is the argument, its rows regrouped. -/
theorem V_main_v0 : V m c main_v0 = shapeCast _ (m ((c.tc : Thread nD τ).loc main_arg0)) shapeCasts_S8704x9216_S2176x36864 := by
  unfold V; after_results; try rfl

/-- The array the windows read, at an index. -/
theorem V_at (j : S2176x36864.Idx) : V m c main_v0 j = rd (m ((c.tc : Thread nD τ).loc main_arg0)) ((j 0).val * 4 + (j 1).val / 9216) ((j 1).val % 9216) := by
  have h0 : (j 0).val < 2176 := (j 0).isLt
  have h1 : (j 1).val < 36864 := (j 1).isLt
  rw [V_main_v0]; exact regroup _ j

/-- The queries of a point's block. -/
theorem q_at (k : ℕ) (hk : k < 8) (a b : Fin 128) : hd (iblk m c 0 t) k hk a b
    = rd (m ((c.tc : Thread nD τ).loc main_arg0)) (tok 4 (t.val / 32) (t.val % 32 / 8) ((t.val % 8) * 128 + a)) (1 * 3072 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The keys of the queries' own block. -/
theorem kc_at (k : ℕ) (hk : k < 8) (a b : Fin 128) : hd (iblk m c 1 t) k hk a b
    = rd (m ((c.tc : Thread nD τ).loc main_arg0)) (tok 4 (t.val / 32) (t.val % 32 / 8) ((t.val % 8) * 128 + a)) (1 * 3072 + 1024 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The keys of the block before. -/
theorem kp_at (k : ℕ) (hk : k < 8) (a b : Fin 128) : hd (iblk m c 2 t) k hk a b
    = rd (m ((c.tc : Thread nD τ).loc main_arg0)) (tok 4 (t.val / 32) (t.val % 32 / 8) (((t.val % 8) - 1) * 128 + a)) (1 * 3072 + 1024 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The values of the queries' own block. -/
theorem vc_at (k : ℕ) (hk : k < 8) (a b : Fin 128) : hd (iblk m c 3 t) k hk a b
    = rd (m ((c.tc : Thread nD τ).loc main_arg0)) (tok 4 (t.val / 32) (t.val % 32 / 8) ((t.val % 8) * 128 + a)) (1 * 3072 + 2048 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The values of the block before. -/
theorem vp_at (k : ℕ) (hk : k < 8) (a b : Fin 128) : hd (iblk m c 4 t) k hk a b
    = rd (m ((c.tc : Thread nD τ).loc main_arg0)) (tok 4 (t.val / 32) (t.val % 32 / 8) (((t.val % 8) - 1) * 128 + a)) (1 * 3072 + 2048 + k * 128 + b) := by
  have ht : t.val < 64 := lt_of_lt_of_eq t.isLt N_0
  unfold hd
  generalize hq : (⟨k * 128 + b, by omega⟩ : Fin 1024) = q
  have hq' : q.val = k * 128 + b := by rw [← hq]
  blk_simp [iblk]
  rw [V_at]
  congr 1 <;> blk_simp [idx t, tok] <;> omega

/-- The attention's outputs, in every row of a token. -/
theorem final5 (i : S2176x4096.Idx) (hi : (i 0).val < 2048) : (dats m 0 c).arrAt 5 cfg0.N i
    = outAt (m ((c.tc : Thread nD τ).loc main_arg0)) 4 1 ((i 0).val / 1024) ((i 1).val / 1024) ((i 0).val % 1024 / 128) ((i 0).val % 128) ((i 1).val / 128 % 8) ((i 1).val % 128) := by
  refine ((dats m 0 c).arrAt_apply_of_coversWhere 5 (fun i => outAt (m ((c.tc : Thread nD τ).loc main_arg0)) 4 1 ((i 0).val / 1024) ((i 1).val / 1024) ((i 0).val % 1024 / 128) ((i 0).val % 128) ((i 1).val / 128 % 8) ((i 1).val % 128))
    (P := fun i => (i 0).val < 2048) (fun β => β 0 < 16) (by decide +kernel) (fun t hf y => ?_)
    (fun j => by blk_simp [Pipeline.Window.cell_apply]; omega) i).trans (if_pos hi)
  have ht : t.val < 64 := lt_of_lt_of_eq t.isLt N_0
  blk_simp
  rw [after0_5]
  have y0 : (y 0).val < 128 := (y 0).isLt
  have y1 : (y 1).val < 1024 := (y 1).isLt
  obtain ⟨d, hd⟩ : ∃ d : Fin 128, d.val = (y 1).val % 128 := ⟨⟨_, Nat.mod_lt _ (by decide)⟩, rfl⟩
  refine (out5 (grid0.coords t) _ _ _ _ _ y (y 0).val ((y 1).val / 128) d y0 (by omega) rfl (by omega)).trans ?_
  rw [coord t]
  refine (head_out_at (m ((c.tc : Thread nD τ).loc main_arg0)) 4 1 (t.val / 32) (t.val % 32 / 8) (t.val % 8) (y 0).val ((y 1).val / 128) y0 _ _ _ _ _ _ (q_at m c t _ _) (kp_at m c t _ _) (kc_at m c t _ _) (vp_at m c t _ _) (vc_at m c t _ _)).trans ?_
  congr 1 <;> blk_simp [idx t] <;> omega

/-- The log-sum-exps, in every row of a token. -/
theorem final6 (i : S2176x4096.Idx) (hi : (i 0).val < 2048) : (dats m 0 c).arrAt 6 cfg0.N i
    = lseAt (m ((c.tc : Thread nD τ).loc main_arg0)) 4 1 ((i 0).val / 1024) ((i 1).val / 1024) ((i 0).val % 1024 / 128) ((i 0).val % 128) ((i 1).val / 128 % 8) := by
  refine ((dats m 0 c).arrAt_apply_of_coversWhere 6 (fun i => lseAt (m ((c.tc : Thread nD τ).loc main_arg0)) 4 1 ((i 0).val / 1024) ((i 1).val / 1024) ((i 0).val % 1024 / 128) ((i 0).val % 128) ((i 1).val / 128 % 8))
    (P := fun i => (i 0).val < 2048) (fun β => β 0 < 16) (by decide +kernel) (fun t hf y => ?_)
    (fun j => by blk_simp [Pipeline.Window.cell_apply]; omega) i).trans (if_pos hi)
  have ht : t.val < 64 := lt_of_lt_of_eq t.isLt N_0
  blk_simp
  rw [after0_6]
  have y0 : (y 0).val < 128 := (y 0).isLt
  have y1 : (y 1).val < 1024 := (y 1).isLt
  obtain ⟨d, hd⟩ : ∃ d : Fin 128, d.val = (y 1).val % 128 := ⟨⟨_, Nat.mod_lt _ (by decide)⟩, rfl⟩
  refine (out6 (grid0.coords t) _ _ _ _ _ y (y 0).val ((y 1).val / 128) d y0 (by omega) rfl (by omega)).trans ?_
  rw [coord t]
  refine (head_lse_at (m ((c.tc : Thread nD τ).loc main_arg0)) 4 1 (t.val / 32) (t.val % 32 / 8) (t.val % 8) (y 0).val ((y 1).val / 128) y0 _ _ _ (q_at m c t _ _) (kp_at m c t _ _) (kc_at m c t _ _)).trans ?_
  congr 1 <;> blk_simp [idx t] <;> omega

end Cert.Dil1Ideal.At

end
-- ==== Proof.Ref1.lean ====
/- The reference of the window of dilation 4, read at an index: its queries, keys and values, its scores, and its two
   results. The `val_` terms are the program's operations, one at a time. -/
module
public import proofs.«01_k».proof.Proof.Window
public import proofs.«01_k».proof.Proof.Gen.Dil1RefIdeal.Run

@[expose] public section

set_option maxRecDepth 16384

noncomputable section

namespace Cert.Dil1RefIdeal.At

open Idealize.ShloMosaic Idealize.ShloMosaic.TcCoe Idealize.SL.Sem
open Cert.Dil1RefIdeal Cert.Dil1RefIdeal.Gen Cert.Dil1RefIdeal.Value Cert.Window

section Terms
variable {F : FTy → Type} [FloatOps F]

def val_main_v0 (x0 : (⟨S8704x9216, .f32⟩ : BufTy).Contents (Elt F)) : (⟨S8192x9216, .f32⟩ : BufTy).Contents (Elt F) :=
  extractStridedSlice S8192x9216 ![0, 0] (x0) slices_S8704x9216_S8192x9216_0_0
def val_main_v1 (x0 : (⟨S8704x9216, .f32⟩ : BufTy).Contents (Elt F)) : (⟨S2x4096x3x3x8x128, .f32⟩ : BufTy).Contents (Elt F) :=
  shapeCast _ (val_main_v0 (F := F) x0) shapeCasts_S8192x9216_S2x4096x3x3x8x128

def val_main_v2 (x0 : (⟨S8704x9216, .f32⟩ : BufTy).Contents (Elt F)) : (⟨S2x4096x1x1x8x128, .f32⟩ : BufTy).Contents (Elt F) :=
  extractStridedSlice S2x4096x1x1x8x128 ![0, 0, 1, 0, 0, 0] (val_main_v1 (F := F) x0) slices_S2x4096x3x3x8x128_S2x4096x1x1x8x128_0_0_1_0_0_0
def val_main_v3 (x0 : (⟨S8704x9216, .f32⟩ : BufTy).Contents (Elt F)) : (⟨S2x4096x8x128, .f32⟩ : BufTy).Contents (Elt F) :=
  shapeCast _ (val_main_v2 (F := F) x0) shapeCasts_S2x4096x1x1x8x128_S2x4096x8x128

def val_main_v4 (x0 : (⟨S8704x9216, .f32⟩ : BufTy).Contents (Elt F)) : (⟨S2x4096x1x1x8x128, .f32⟩ : BufTy).Contents (Elt F) :=
  extractStridedSlice S2x4096x1x1x8x128 ![0, 0, 1, 1, 0, 0] (val_main_v1 (F := F) x0) slices_S2x4096x3x3x8x128_S2x4096x1x1x8x128_0_0_1_1_0_0
def val_main_v5 (x0 : (⟨S8704x9216, .f32⟩ : BufTy).Contents (Elt F)) : (⟨S2x4096x8x128, .f32⟩ : BufTy).Contents (Elt F) :=
  shapeCast _ (val_main_v4 (F := F) x0) shapeCasts_S2x4096x1x1x8x128_S2x4096x8x128

def val_main_v6 (x0 : (⟨S8704x9216, .f32⟩ : BufTy).Contents (Elt F)) : (⟨S2x4096x1x1x8x128, .f32⟩ : BufTy).Contents (Elt F) :=
  extractStridedSlice S2x4096x1x1x8x128 ![0, 0, 1, 2, 0, 0] (val_main_v1 (F := F) x0) slices_S2x4096x3x3x8x128_S2x4096x1x1x8x128_0_0_1_2_0_0
def val_main_v7 (x0 : (⟨S8704x9216, .f32⟩ : BufTy).Contents (Elt F)) : (⟨S2x4096x8x128, .f32⟩ : BufTy).Contents (Elt F) :=
  shapeCast _ (val_main_v6 (F := F) x0) shapeCasts_S2x4096x1x1x8x128_S2x4096x8x128

def val_main_v8 (x0 : (⟨S8704x9216, .f32⟩ : BufTy).Contents (Elt F)) : (⟨S2x1024x4x8x128, .f32⟩ : BufTy).Contents (Elt F) :=
  shapeCast _ (val_main_v3 (F := F) x0) shapeCasts_S2x4096x8x128_S2x1024x4x8x128
def val_main_v9 (x0 : (⟨S8704x9216, .f32⟩ : BufTy).Contents (Elt F)) : (⟨S2x4x1024x8x128, .f32⟩ : BufTy).Contents (Elt F) :=
  transpose S2x4x1024x8x128 [0, 2, 1, 3, 4] (val_main_v8 (F := F) x0) transposes_S2x1024x4x8x128_S2x4x1024x8x128_0_2_1_3_4
def val_main_v10 (x0 : (⟨S8704x9216, .f32⟩ : BufTy).Contents (Elt F)) : (⟨S2x4x8x128x8x128, .f32⟩ : BufTy).Contents (Elt F) :=
  shapeCast _ (val_main_v9 (F := F) x0) shapeCasts_S2x4x1024x8x128_S2x4x8x128x8x128

def val_main_v11 (x0 : (⟨S8704x9216, .f32⟩ : BufTy).Contents (Elt F)) : (⟨S2x1024x4x8x128, .f32⟩ : BufTy).Contents (Elt F) :=
  shapeCast _ (val_main_v5 (F := F) x0) shapeCasts_S2x4096x8x128_S2x1024x4x8x128
def val_main_v12 (x0 : (⟨S8704x9216, .f32⟩ : BufTy).Contents (Elt F)) : (⟨S2x4x1024x8x128, .f32⟩ : BufTy).Contents (Elt F) :=
  transpose S2x4x1024x8x128 [0, 2, 1, 3, 4] (val_main_v11 (F := F) x0) transposes_S2x1024x4x8x128_S2x4x1024x8x128_0_2_1_3_4
def val_main_c : (⟨S_, .i32⟩ : BufTy).Contents (Elt F) :=
  constantI S_ 32 0#32
def val_main_call0_v0 : (⟨S_, .f32⟩ : BufTy).Contents (Elt F) :=
  sitofp .f32 (val_main_c (F := F))
def val_main_v13 (x0 : (⟨S8704x9216, .f32⟩ : BufTy).Contents (Elt F)) : (⟨S2x4x1152x8x128, .f32⟩ : BufTy).Contents (Elt F) :=
  pad S2x4x1152x8x128 ![0, 0, 128, 0, 0] ![0, 0, 0, 0, 0] ![0, 0, 0, 0, 0] (val_main_v12 (F := F) x0) (val_main_call0_v0 (F := F)) pads_S2x4x1024x8x128_S2x4x1152x8x128_000_000_12800_000_000 h_S_

def val_main_v14 (x0 : (⟨S8704x9216, .f32⟩ : BufTy).Contents (Elt F)) : (⟨S2x4x9x128x8x128, .f32⟩ : BufTy).Contents (Elt F) :=
  shapeCast _ (val_main_v13 (F := F) x0) shapeCasts_S2x4x1152x8x128_S2x4x9x128x8x128

def val_main_v15 (x0 : (⟨S8704x9216, .f32⟩ : BufTy).Contents (Elt F)) : (⟨S2x4x8x128x8x128, .f32⟩ : BufTy).Contents (Elt F) :=
  extractStridedSlice S2x4x8x128x8x128 ![0, 0, 0, 0, 0, 0] (val_main_v14 (F := F) x0) slices_S2x4x9x128x8x128_S2x4x8x128x8x128_0_0_0_0_0_0
def val_main_v16 (x0 : (⟨S8704x9216, .f32⟩ : BufTy).Contents (Elt F)) : (⟨S2x4x8x128x8x128, .f32⟩ : BufTy).Contents (Elt F) :=
  extractStridedSlice S2x4x8x128x8x128 ![0, 0, 1, 0, 0, 0] (val_main_v14 (F := F) x0) slices_S2x4x9x128x8x128_S2x4x8x128x8x128_0_0_1_0_0_0
def val_main_v17 (x0 : (⟨S8704x9216, .f32⟩ : BufTy).Contents (Elt F)) : (⟨S2x4x8x256x8x128, .f32⟩ : BufTy).Contents (Elt F) :=
  concatenate S2x4x8x256x8x128 3 [⟨S2x4x8x128x8x128, (val_main_v15 (F := F) x0)⟩, ⟨S2x4x8x128x8x128, (val_main_v16 (F := F) x0)⟩] concatenates_S2x4x8x128x8x128_S2x4x8x128x8x128_S2x4x8x256x8x128_d3

def val_main_v18 (x0 : (⟨S8704x9216, .f32⟩ : BufTy).Contents (Elt F)) : (⟨S2x1024x4x8x128, .f32⟩ : BufTy).Contents (Elt F) :=
  shapeCast _ (val_main_v7 (F := F) x0) shapeCasts_S2x4096x8x128_S2x1024x4x8x128
def val_main_v19 (x0 : (⟨S8704x9216, .f32⟩ : BufTy).Contents (Elt F)) : (⟨S2x4x1024x8x128, .f32⟩ : BufTy).Contents (Elt F) :=
  transpose S2x4x1024x8x128 [0, 2, 1, 3, 4] (val_main_v18 (F := F) x0) transposes_S2x1024x4x8x128_S2x4x1024x8x128_0_2_1_3_4
def val_main_c_0 : (⟨S_, .i32⟩ : BufTy).Contents (Elt F) :=
  constantI S_ 32 0#32
def val_main_call1_v0 : (⟨S_, .f32⟩ : BufTy).Contents (Elt F) :=
  sitofp .f32 (val_main_c_0 (F := F))
def val_main_v20 (x0 : (⟨S8704x9216, .f32⟩ : BufTy).Contents (Elt F)) : (⟨S2x4x1152x8x128, .f32⟩ : BufTy).Contents (Elt F) :=
  pad S2x4x1152x8x128 ![0, 0, 128, 0, 0] ![0, 0, 0, 0, 0] ![0, 0, 0, 0, 0] (val_main_v19 (F := F) x0) (val_main_call1_v0 (F := F)) pads_S2x4x1024x8x128_S2x4x1152x8x128_000_000_12800_000_000 h_S_

def val_main_v21 (x0 : (⟨S8704x9216, .f32⟩ : BufTy).Contents (Elt F)) : (⟨S2x4x9x128x8x128, .f32⟩ : BufTy).Contents (Elt F) :=
  shapeCast _ (val_main_v20 (F := F) x0) shapeCasts_S2x4x1152x8x128_S2x4x9x128x8x128

def val_main_v22 (x0 : (⟨S8704x9216, .f32⟩ : BufTy).Contents (Elt F)) : (⟨S2x4x8x128x8x128, .f32⟩ : BufTy).Contents (Elt F) :=
  extractStridedSlice S2x4x8x128x8x128 ![0, 0, 0, 0, 0, 0] (val_main_v21 (F := F) x0) slices_S2x4x9x128x8x128_S2x4x8x128x8x128_0_0_0_0_0_0
def val_main_v23 (x0 : (⟨S8704x9216, .f32⟩ : BufTy).Contents (Elt F)) : (⟨S2x4x8x128x8x128, .f32⟩ : BufTy).Contents (Elt F) :=
  extractStridedSlice S2x4x8x128x8x128 ![0, 0, 1, 0, 0, 0] (val_main_v21 (F := F) x0) slices_S2x4x9x128x8x128_S2x4x8x128x8x128_0_0_1_0_0_0
def val_main_v24 (x0 : (⟨S8704x9216, .f32⟩ : BufTy).Contents (Elt F)) : (⟨S2x4x8x256x8x128, .f32⟩ : BufTy).Contents (Elt F) :=
  concatenate S2x4x8x256x8x128 3 [⟨S2x4x8x128x8x128, (val_main_v22 (F := F) x0)⟩, ⟨S2x4x8x128x8x128, (val_main_v23 (F := F) x0)⟩] concatenates_S2x4x8x128x8x128_S2x4x8x128x8x128_S2x4x8x256x8x128_d3

def val_main_v25 (x0 : (⟨S8704x9216, .f32⟩ : BufTy).Contents (Elt F)) : (⟨S2x4x8x8x128x256, .f32⟩ : BufTy).Contents (Elt F) :=
  Host.dotGeneral dot_S2x4x8x128x8x128_S2x4x8x256x8x128_S2x4x8x8x128x256_5_5_3_3_0124_0124 none (val_main_v10 (F := F) x0) (val_main_v17 (F := F) x0)
def val_main_cst : (⟨S_, .f32⟩ : BufTy).Contents (Elt F) :=
  constant S_ .f32 0x43000000#32
def val_main_v26 : (⟨S_, .f32⟩ : BufTy).Contents (Elt F) :=
  Host.sqrt (val_main_cst (F := F))
def val_main_v27 : (⟨S2x4x8x8x128x256, .f32⟩ : BufTy).Contents (Elt F) :=
  broadcastInDim S2x4x8x8x128x256 ![] bcast_S_S2x4x8x8x128x256 (val_main_v26 (F := F))
def val_main_v28 (x0 : (⟨S8704x9216, .f32⟩ : BufTy).Contents (Elt F)) : (⟨S2x4x8x8x128x256, .f32⟩ : BufTy).Contents (Elt F) :=
  Host.divf (val_main_v25 (F := F) x0) (val_main_v27 (F := F))
def val_main_v29 : (⟨S128, .i32⟩ : BufTy).Contents (Elt F) :=
  iotaInDim S128 32 0
def val_main_v30 : (⟨S128x1, .i32⟩ : BufTy).Contents (Elt F) :=
  broadcastInDim S128x1 ![0] bcast_S128_S128x1_0 (val_main_v29 (F := F))
def val_main_v31 : (⟨S256, .i32⟩ : BufTy).Contents (Elt F) :=
  iotaInDim S256 32 0
def val_main_v32 : (⟨S1x256, .i32⟩ : BufTy).Contents (Elt F) :=
  broadcastInDim S1x256 ![1] bcast_S256_S1x256_1 (val_main_v31 (F := F))
def val_main_c_1 : (⟨S_, .i32⟩ : BufTy).Contents (Elt F) :=
  constantI S_ 32 128#32
def val_main_v33 : (⟨S128x1, .i32⟩ : BufTy).Contents (Elt F) :=
  broadcastInDim S128x1 ![] bcast_S_S128x1 (val_main_c_1 (F := F))
def val_main_v34 : (⟨S128x1, .i32⟩ : BufTy).Contents (Elt F) :=
  addi (val_main_v30 (F := F)) (val_main_v33 (F := F))
def val_main_v35 : (⟨S128x256, .i32⟩ : BufTy).Contents (Elt F) :=
  broadcastInDim S128x256 ![0, 1] bcast_S128x1_S128x256_0_1 (val_main_v34 (F := F))
def val_main_v36 : (⟨S128x256, .i32⟩ : BufTy).Contents (Elt F) :=
  broadcastInDim S128x256 ![0, 1] bcast_S1x256_S128x256_0_1 (val_main_v32 (F := F))
def val_main_v37 : (⟨S128x256, .i32⟩ : BufTy).Contents (Elt F) :=
  subi (val_main_v35 (F := F)) (val_main_v36 (F := F))
def val_main_v38 : (⟨S8, .i32⟩ : BufTy).Contents (Elt F) :=
  iotaInDim S8 32 0
def val_main_v39 : (⟨S8x1x1, .i32⟩ : BufTy).Contents (Elt F) :=
  broadcastInDim S8x1x1 ![0] bcast_S8_S8x1x1_0 (val_main_v38 (F := F))
def val_main_c_2 : (⟨S_, .i32⟩ : BufTy).Contents (Elt F) :=
  constantI S_ 32 128#32
def val_main_v40 : (⟨S8x1x1, .i32⟩ : BufTy).Contents (Elt F) :=
  broadcastInDim S8x1x1 ![] bcast_S_S8x1x1 (val_main_c_2 (F := F))
def val_main_v41 : (⟨S8x1x1, .i32⟩ : BufTy).Contents (Elt F) :=
  muli (val_main_v39 (F := F)) (val_main_v40 (F := F))
def val_main_v42 : (⟨S1x1x256, .i32⟩ : BufTy).Contents (Elt F) :=
  broadcastInDim S1x1x256 ![1, 2] bcast_S1x256_S1x1x256_1_2 (val_main_v32 (F := F))
def val_main_v43 : (⟨S8x1x256, .i32⟩ : BufTy).Contents (Elt F) :=
  broadcastInDim S8x1x256 ![0, 1, 2] bcast_S8x1x1_S8x1x256_0_1_2 (val_main_v41 (F := F))
def val_main_v44 : (⟨S8x1x256, .i32⟩ : BufTy).Contents (Elt F) :=
  broadcastInDim S8x1x256 ![0, 1, 2] bcast_S1x1x256_S8x1x256_0_1_2 (val_main_v42 (F := F))
def val_main_v45 : (⟨S8x1x256, .i32⟩ : BufTy).Contents (Elt F) :=
  addi (val_main_v43 (F := F)) (val_main_v44 (F := F))
def val_main_c_3 : (⟨S_, .i32⟩ : BufTy).Contents (Elt F) :=
  constantI S_ 32 128#32
def val_main_v46 : (⟨S8x1x256, .i32⟩ : BufTy).Contents (Elt F) :=
  broadcastInDim S8x1x256 ![] bcast_S_S8x1x256 (val_main_c_3 (F := F))
def val_main_v47 : (⟨S8x1x256, .i32⟩ : BufTy).Contents (Elt F) :=
  subi (val_main_v45 (F := F)) (val_main_v46 (F := F))
def val_main_c_4 : (⟨S_, .i32⟩ : BufTy).Contents (Elt F) :=
  constantI S_ 32 0#32
def val_main_v48 : (⟨S128x256, .i32⟩ : BufTy).Contents (Elt F) :=
  broadcastInDim S128x256 ![] bcast_S_S128x256 (val_main_c_4 (F := F))
def val_main_v49 : (⟨S128x256, .i1⟩ : BufTy).Contents (Elt F) :=
  cmpi .sge (val_main_v37 (F := F)) (val_main_v48 (F := F))
def val_main_c_5 : (⟨S_, .i32⟩ : BufTy).Contents (Elt F) :=
  constantI S_ 32 128#32
def val_main_v50 : (⟨S128x256, .i32⟩ : BufTy).Contents (Elt F) :=
  broadcastInDim S128x256 ![] bcast_S_S128x256 (val_main_c_5 (F := F))
def val_main_v51 : (⟨S128x256, .i1⟩ : BufTy).Contents (Elt F) :=
  cmpi .sle (val_main_v37 (F := F)) (val_main_v50 (F := F))
def val_main_v52 : (⟨S128x256, .i1⟩ : BufTy).Contents (Elt F) :=
  andi (val_main_v49 (F := F)) (val_main_v51 (F := F))
def val_main_c_6 : (⟨S_, .i32⟩ : BufTy).Contents (Elt F) :=
  constantI S_ 32 0#32
def val_main_v53 : (⟨S8x1x256, .i32⟩ : BufTy).Contents (Elt F) :=
  broadcastInDim S8x1x256 ![] bcast_S_S8x1x256 (val_main_c_6 (F := F))
def val_main_v54 : (⟨S8x1x256, .i1⟩ : BufTy).Contents (Elt F) :=
  cmpi .sge (val_main_v47 (F := F)) (val_main_v53 (F := F))
def val_main_v55 : (⟨S1x128x256, .i1⟩ : BufTy).Contents (Elt F) :=
  broadcastInDim S1x128x256 ![1, 2] bcast_S128x256_S1x128x256_1_2 (val_main_v52 (F := F))
def val_main_v56 : (⟨S8x128x256, .i1⟩ : BufTy).Contents (Elt F) :=
  broadcastInDim S8x128x256 ![0, 1, 2] bcast_S1x128x256_S8x128x256_0_1_2 (val_main_v55 (F := F))
def val_main_v57 : (⟨S8x128x256, .i1⟩ : BufTy).Contents (Elt F) :=
  broadcastInDim S8x128x256 ![0, 1, 2] bcast_S8x1x256_S8x128x256_0_1_2 (val_main_v54 (F := F))
def val_main_v58 : (⟨S8x128x256, .i1⟩ : BufTy).Contents (Elt F) :=
  andi (val_main_v56 (F := F)) (val_main_v57 (F := F))
def val_main_v59 : (⟨S1x1x8x1x128x256, .i1⟩ : BufTy).Contents (Elt F) :=
  broadcastInDim S1x1x8x1x128x256 ![2, 4, 5] bcast_S8x128x256_S1x1x8x1x128x256_2_4_5 (val_main_v58 (F := F))
def val_main_cst_7 : (⟨S_, .f32⟩ : BufTy).Contents (Elt F) :=
  constant S_ .f32 0xFF800000#32
def val_main_call2_v0 : (⟨S_, .f32⟩ : BufTy).Contents (Elt F) :=
  id (val_main_cst_7 (F := F))
def val_main_call2_v1 : (⟨S2x4x8x8x128x256, .i1⟩ : BufTy).Contents (Elt F) :=
  broadcastInDim S2x4x8x8x128x256 ![0, 1, 2, 3, 4, 5] bcast_S1x1x8x1x128x256_S2x4x8x8x128x256_0_1_2_3_4_5 (val_main_v59 (F := F))
def val_main_call2_v2 : (⟨S2x4x8x8x128x256, .f32⟩ : BufTy).Contents (Elt F) :=
  broadcastInDim S2x4x8x8x128x256 ![] bcast_S_S2x4x8x8x128x256 (val_main_call2_v0 (F := F))
def val_main_v60 (x0 : (⟨S8704x9216, .f32⟩ : BufTy).Contents (Elt F)) : (⟨S2x4x8x8x128x256, .f32⟩ : BufTy).Contents (Elt F) :=
  select (val_main_call2_v1 (F := F)) (val_main_v28 (F := F) x0) (val_main_call2_v2 (F := F))
def val_main_cst_8 : (⟨S_, .f32⟩ : BufTy).Contents (Elt F) :=
  constant S_ .f32 0xFF800000#32
def val_main_v61 (x0 : (⟨S8704x9216, .f32⟩ : BufTy).Contents (Elt F)) : (⟨S2x4x8x8x128, .f32⟩ : BufTy).Contents (Elt F) :=
  Host.reduce FloatOps.maximumf (val_main_v60 (F := F) x0) (val_main_cst_8 (F := F)) reducesTo_S2x4x8x8x128x256_S2x4x8x8x128_d5 h_S_

def val_main_v62 (x0 : (⟨S8704x9216, .f32⟩ : BufTy).Contents (Elt F)) : (⟨S2x4x8x8x128x1, .f32⟩ : BufTy).Contents (Elt F) :=
  broadcastInDim S2x4x8x8x128x1 ![0, 1, 2, 3, 4] bcast_S2x4x8x8x128_S2x4x8x8x128x1_0_1_2_3_4 (val_main_v61 (F := F) x0)
def val_main_v63 (x0 : (⟨S8704x9216, .f32⟩ : BufTy).Contents (Elt F)) : (⟨S2x4x8x8x128x256, .f32⟩ : BufTy).Contents (Elt F) :=
  broadcastInDim S2x4x8x8x128x256 ![0, 1, 2, 3, 4, 5] bcast_S2x4x8x8x128x1_S2x4x8x8x128x256_0_1_2_3_4_5 (val_main_v62 (F := F) x0)
def val_main_v64 (x0 : (⟨S8704x9216, .f32⟩ : BufTy).Contents (Elt F)) : (⟨S2x4x8x8x128x256, .f32⟩ : BufTy).Contents (Elt F) :=
  subf (val_main_v60 (F := F) x0) (val_main_v63 (F := F) x0)
def val_main_v65 (x0 : (⟨S8704x9216, .f32⟩ : BufTy).Contents (Elt F)) : (⟨S2x4x8x8x128x256, .f32⟩ : BufTy).Contents (Elt F) :=
  Host.exp (val_main_v64 (F := F) x0)
def val_main_cst_9 : (⟨S_, .f32⟩ : BufTy).Contents (Elt F) :=
  constant S_ .f32 0x00000000#32
def val_main_v66 (x0 : (⟨S8704x9216, .f32⟩ : BufTy).Contents (Elt F)) : (⟨S2x4x8x8x128, .f32⟩ : BufTy).Contents (Elt F) :=
  Host.reduceAdd (val_main_v65 (F := F) x0) (val_main_cst_9 (F := F)) reducesTo_S2x4x8x8x128x256_S2x4x8x8x128_d5 h_S_
def val_main_v67 (x0 : (⟨S8704x9216, .f32⟩ : BufTy).Contents (Elt F)) : (⟨S2x4x8x8x128x128, .f32⟩ : BufTy).Contents (Elt F) :=
  Host.dotGeneral dot_S2x4x8x256x8x128_S2x4x8x8x128x256_S2x4x8x8x128x128_3_5_5_4_0124_0123 none (val_main_v24 (F := F) x0) (val_main_v65 (F := F) x0)
def val_main_v68 (x0 : (⟨S8704x9216, .f32⟩ : BufTy).Contents (Elt F)) : (⟨S2x4x8x128x8x128, .f32⟩ : BufTy).Contents (Elt F) :=
  transpose S2x4x8x128x8x128 [0, 1, 2, 5, 3, 4] (val_main_v67 (F := F) x0) transposes_S2x4x8x8x128x128_S2x4x8x128x8x128_0_1_2_5_3_4
def val_main_v69 (x0 : (⟨S8704x9216, .f32⟩ : BufTy).Contents (Elt F)) : (⟨S2x4x8x128x8, .f32⟩ : BufTy).Contents (Elt F) :=
  transpose S2x4x8x128x8 [0, 1, 2, 4, 3] (val_main_v66 (F := F) x0) transposes_S2x4x8x8x128_S2x4x8x128x8_0_1_2_4_3
def val_main_v70 (x0 : (⟨S8704x9216, .f32⟩ : BufTy).Contents (Elt F)) : (⟨S2x4x8x128x8x1, .f32⟩ : BufTy).Contents (Elt F) :=
  broadcastInDim S2x4x8x128x8x1 ![0, 1, 2, 3, 4] bcast_S2x4x8x128x8_S2x4x8x128x8x1_0_1_2_3_4 (val_main_v69 (F := F) x0)
def val_main_v71 (x0 : (⟨S8704x9216, .f32⟩ : BufTy).Contents (Elt F)) : (⟨S2x4x8x128x8x128, .f32⟩ : BufTy).Contents (Elt F) :=
  broadcastInDim S2x4x8x128x8x128 ![0, 1, 2, 3, 4, 5] bcast_S2x4x8x128x8x1_S2x4x8x128x8x128_0_1_2_3_4_5 (val_main_v70 (F := F) x0)
def val_main_v72 (x0 : (⟨S8704x9216, .f32⟩ : BufTy).Contents (Elt F)) : (⟨S2x4x8x128x8x128, .f32⟩ : BufTy).Contents (Elt F) :=
  Host.divf (val_main_v68 (F := F) x0) (val_main_v71 (F := F) x0)
def val_main_v73 (x0 : (⟨S8704x9216, .f32⟩ : BufTy).Contents (Elt F)) : (⟨S2x4x8x8x128, .f32⟩ : BufTy).Contents (Elt F) :=
  shapeCast _ (val_main_v62 (F := F) x0) shapeCasts_S2x4x8x8x128x1_S2x4x8x8x128

def val_main_v74 (x0 : (⟨S8704x9216, .f32⟩ : BufTy).Contents (Elt F)) : (⟨S2x4x8x8x128, .f32⟩ : BufTy).Contents (Elt F) :=
  Host.log (val_main_v66 (F := F) x0)
def val_main_v75 (x0 : (⟨S8704x9216, .f32⟩ : BufTy).Contents (Elt F)) : (⟨S2x4x8x8x128, .f32⟩ : BufTy).Contents (Elt F) :=
  addf (val_main_v73 (F := F) x0) (val_main_v74 (F := F) x0)
def val_main_v76 (x0 : (⟨S8704x9216, .f32⟩ : BufTy).Contents (Elt F)) : (⟨S2x4x8x128x8, .f32⟩ : BufTy).Contents (Elt F) :=
  transpose S2x4x8x128x8 [0, 1, 2, 4, 3] (val_main_v75 (F := F) x0) transposes_S2x4x8x8x128_S2x4x8x128x8_0_1_2_4_3
def val_main_v77 (x0 : (⟨S8704x9216, .f32⟩ : BufTy).Contents (Elt F)) : (⟨S2x4x1024x8x128, .f32⟩ : BufTy).Contents (Elt F) :=
  shapeCast _ (val_main_v72 (F := F) x0) shapeCasts_S2x4x8x128x8x128_S2x4x1024x8x128

def val_main_v78 (x0 : (⟨S8704x9216, .f32⟩ : BufTy).Contents (Elt F)) : (⟨S2x1024x4x8x128, .f32⟩ : BufTy).Contents (Elt F) :=
  transpose S2x1024x4x8x128 [0, 2, 1, 3, 4] (val_main_v77 (F := F) x0) transposes_S2x4x1024x8x128_S2x1024x4x8x128_0_2_1_3_4
def val_main_v79 (x0 : (⟨S8704x9216, .f32⟩ : BufTy).Contents (Elt F)) : (⟨S2x4096x8x128, .f32⟩ : BufTy).Contents (Elt F) :=
  shapeCast _ (val_main_v78 (F := F) x0) shapeCasts_S2x1024x4x8x128_S2x4096x8x128
def val_main_v80 (x0 : (⟨S8704x9216, .f32⟩ : BufTy).Contents (Elt F)) : (⟨S2x4x1024x8, .f32⟩ : BufTy).Contents (Elt F) :=
  shapeCast _ (val_main_v76 (F := F) x0) shapeCasts_S2x4x8x128x8_S2x4x1024x8
def val_main_v81 (x0 : (⟨S8704x9216, .f32⟩ : BufTy).Contents (Elt F)) : (⟨S2x1024x4x8, .f32⟩ : BufTy).Contents (Elt F) :=
  transpose S2x1024x4x8 [0, 2, 1, 3] (val_main_v80 (F := F) x0) transposes_S2x4x1024x8_S2x1024x4x8_0_2_1_3
def val_main_v82 (x0 : (⟨S8704x9216, .f32⟩ : BufTy).Contents (Elt F)) : (⟨S2x4096x8, .f32⟩ : BufTy).Contents (Elt F) :=
  shapeCast _ (val_main_v81 (F := F) x0) shapeCasts_S2x1024x4x8_S2x4096x8
def val_main_v83 (x0 : (⟨S8704x9216, .f32⟩ : BufTy).Contents (Elt F)) : (⟨S2x4096x8x1, .f32⟩ : BufTy).Contents (Elt F) :=
  broadcastInDim S2x4096x8x1 ![0, 1, 2] bcast_S2x4096x8_S2x4096x8x1_0_1_2 (val_main_v82 (F := F) x0)
def val_main_v84 (x0 : (⟨S8704x9216, .f32⟩ : BufTy).Contents (Elt F)) : (⟨S2x4096x8x128, .f32⟩ : BufTy).Contents (Elt F) :=
  broadcastInDim S2x4096x8x128 ![0, 1, 2, 3] bcast_S2x4096x8x1_S2x4096x8x128_0_1_2_3 (val_main_v83 (F := F) x0)
def val_main_v85 (x0 : (⟨S8704x9216, .f32⟩ : BufTy).Contents (Elt F)) : (⟨S2048x4096, .f32⟩ : BufTy).Contents (Elt F) :=
  shapeCast _ (val_main_v79 (F := F) x0) shapeCasts_S2x4096x8x128_S2048x4096
def val_main_c_10 : (⟨S_, .i32⟩ : BufTy).Contents (Elt F) :=
  constantI S_ 32 0#32
def val_main_call3_v0 : (⟨S_, .f32⟩ : BufTy).Contents (Elt F) :=
  sitofp .f32 (val_main_c_10 (F := F))
def val_main_v86 (x0 : (⟨S8704x9216, .f32⟩ : BufTy).Contents (Elt F)) : (⟨S2176x4096, .f32⟩ : BufTy).Contents (Elt F) :=
  pad S2176x4096 ![0, 0] ![128, 0] ![0, 0] (val_main_v85 (F := F) x0) (val_main_call3_v0 (F := F)) pads_S2048x4096_S2176x4096_01280_000 h_S_

def val_main_v87 (x0 : (⟨S8704x9216, .f32⟩ : BufTy).Contents (Elt F)) : (⟨S2048x4096, .f32⟩ : BufTy).Contents (Elt F) :=
  shapeCast _ (val_main_v84 (F := F) x0) shapeCasts_S2x4096x8x128_S2048x4096
def val_main_c_11 : (⟨S_, .i32⟩ : BufTy).Contents (Elt F) :=
  constantI S_ 32 0#32
def val_main_call4_v0 : (⟨S_, .f32⟩ : BufTy).Contents (Elt F) :=
  sitofp .f32 (val_main_c_11 (F := F))
def val_main_v88 (x0 : (⟨S8704x9216, .f32⟩ : BufTy).Contents (Elt F)) : (⟨S2176x4096, .f32⟩ : BufTy).Contents (Elt F) :=
  pad S2176x4096 ![0, 0] ![128, 0] ![0, 0] (val_main_v87 (F := F) x0) (val_main_call4_v0 (F := F)) pads_S2048x4096_S2176x4096_01280_000 h_S_

end Terms

variable (X : FVec Ideal S8704x9216 .f32)
variable (b : Fin 2) (r : Fin 4) (n : Fin 8) (h : Fin 8) (qi x d : Fin 128)

/-- A query. -/
theorem q_at : val_main_v10 (F := Ideal) X (ix6 b r n qi h d) = rd X (tok 4 b r (n * 128 + qi)) (1 * 3072 + h * 128 + d) := by
  pointwise [val_main_v0, val_main_v1, val_main_v2, val_main_v3, val_main_v4, val_main_v5, val_main_v6, val_main_v7, val_main_v8, val_main_v9, val_main_v10]
  exact rd_of _ _ _ _ (by simp [tok]; try omega) (by simp)

/-- A key of the block before the query's, where there is one. -/
theorem k_lo (hn : 0 < n.val) : val_main_v17 (F := Ideal) X (ix6 b r n (⟨x, by omega⟩ : Fin 256) h d)
    = rd X (tok 4 b r ((n - 1) * 128 + x)) (1 * 3072 + 1024 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17]
  rw [dif_pos (by omega)]
  exact rd_of _ _ _ _ (by simp [tok]; try omega) (by simp)

/-- A key of the query's own block. -/
theorem k_hi : val_main_v17 (F := Ideal) X (ix6 b r n (⟨128 + x, by omega⟩ : Fin 256) h d)
    = rd X (tok 4 b r (n * 128 + x)) (1 * 3072 + 1024 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17]
  rw [dif_pos (by omega)]
  exact rd_of _ _ _ _ (by simp [tok]; try omega) (by simp)

/-- A value of the block before the query's, where there is one. -/
theorem v_lo (hn : 0 < n.val) : val_main_v24 (F := Ideal) X (ix6 b r n (⟨x, by omega⟩ : Fin 256) h d)
    = rd X (tok 4 b r ((n - 1) * 128 + x)) (1 * 3072 + 2048 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17, val_main_v18, val_main_v19, val_main_c_0, val_main_call1_v0, val_main_v20, val_main_v21, val_main_v22, val_main_v23, val_main_v24]
  rw [dif_pos (by omega)]
  exact rd_of _ _ _ _ (by simp [tok]; try omega) (by simp)

/-- A value of the query's own block. -/
theorem v_hi : val_main_v24 (F := Ideal) X (ix6 b r n (⟨128 + x, by omega⟩ : Fin 256) h d)
    = rd X (tok 4 b r (n * 128 + x)) (1 * 3072 + 2048 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17, val_main_v18, val_main_v19, val_main_c_0, val_main_call1_v0, val_main_v20, val_main_v21, val_main_v22, val_main_v23, val_main_v24]
  rw [dif_pos (by omega)]
  exact rd_of _ _ _ _ (by simp [tok]; try omega) (by simp)

/-- A masked score. -/
theorem s_at (y : Fin 256) : val_main_v60 (F := Ideal) X (ix6 b r n h qi y)
    = if (y.val ≤ qi.val + 128 ∧ qi.val ≤ y.val) ∧ 128 ≤ n.val * 128 + y.val then
        (∑ d, val_main_v10 (F := Ideal) X (ix6 b r n qi h d) * val_main_v17 (F := Ideal) X (ix6 b r n y h d)) * scale
      else ⊥ := by
  pointwise [val_main_v25, val_main_cst, val_main_v26, val_main_v27, val_main_v28, val_main_v29, val_main_v30, val_main_v31, val_main_v32, val_main_c_1, val_main_v33, val_main_v34, val_main_v35, val_main_v36, val_main_v37, val_main_v38, val_main_v39, val_main_c_2, val_main_v40, val_main_v41, val_main_v42, val_main_v43, val_main_v44, val_main_v45, val_main_c_3, val_main_v46, val_main_v47, val_main_c_4, val_main_v48, val_main_v49, val_main_c_5, val_main_v50, val_main_v51, val_main_v52, val_main_c_6, val_main_v53, val_main_v54, val_main_v55, val_main_v56, val_main_v57, val_main_v58, val_main_v59, val_main_cst_7, val_main_call2_v0, val_main_call2_v1, val_main_call2_v2, val_main_v60]
  exact (mask_band n qi y (by omega) (by omega) (by omega) _ _).trans (if_congr Iff.rfl (div_root _) ninf)

/-- A score against the block before the query's. -/
theorem s_lo : val_main_v60 (F := Ideal) X (ix6 b r n h qi (⟨x, by omega⟩ : Fin 256)) = sP X 4 1 b r n qi h x := by
  rw [s_at, mask_lo n qi x (by omega) (by omega) (by omega), sP]
  split_ifs with hc
  · exact congrArg (· * scale) (Finset.sum_congr rfl fun d _ => congrArg₂ (· * ·) (q_at X b r n h qi d) (k_lo X b r n h x d hc.2))
  · rfl

/-- A score against the query's own block. -/
theorem s_hi : val_main_v60 (F := Ideal) X (ix6 b r n h qi (⟨128 + x, by omega⟩ : Fin 256)) = sC X 4 1 b r n qi h x := by
  rw [s_at, mask_hi n qi x (by omega) (by omega) (by omega), sC]
  split_ifs with hc
  · exact congrArg (· * scale) (Finset.sum_congr rfl fun d _ => congrArg₂ (· * ·) (q_at X b r n h qi d) (k_hi X b r n h x d))
  · rfl

end Cert.Dil1RefIdeal.At

end
-- ==== Proof.RefAt1.lean ====
/- The window of dilation 4: the reference at one query. -/
module
public import proofs.«01_k».proof.Proof.Ref1

@[expose] public section

set_option maxRecDepth 16384

noncomputable section

namespace Cert.Dil1RefIdeal.At

open Idealize.ShloMosaic Idealize.ShloMosaic.TcCoe Idealize.SL.Sem
open Cert.Dil1RefIdeal Cert.Dil1RefIdeal.Gen Cert.Dil1RefIdeal.Value Cert.Window

variable (X : FVec Ideal S8704x9216 .f32)
variable (b : Fin 2) (r : Fin 4) (n : Fin 8) (h : Fin 8) (qi x d : Fin 128)

attribute [local irreducible] val_main_v60 val_main_v24

/-- The attention's output. -/
theorem o_at : val_main_v72 (F := Ideal) X (ix6 b r n qi h d) = outAt X 4 1 b r n qi h d := by
  pointwise [val_main_cst_8, val_main_v61, val_main_v62, val_main_v63, val_main_v64, val_main_v65, val_main_cst_9, val_main_v66, val_main_v67, val_main_v68, val_main_v69, val_main_v70, val_main_v71, val_main_v72]
  rw [ninf]
  exact out_halves (fun y => val_main_v60 (F := Ideal) X (ix6 b r n h qi y)) (fun y => val_main_v24 (F := Ideal) X (ix6 b r n y h d))
    (sP X 4 1 b r n qi h) (sC X 4 1 b r n qi h) _ _ (fun x => s_lo X b r n h qi x) (fun x => s_hi X b r n h qi x)
    (fun x hx => v_lo X b r n h x d (by by_contra h0; exact hx (if_neg (fun e => h0 e.2)))) (fun x _ => v_hi X b r n h x d)

/-- The largest score. -/
theorem m_at : val_main_v61 (F := Ideal) X (ix5 b r n h qi)
    = Finset.univ.fold max ⊥ (fun y => val_main_v60 (F := Ideal) X (ix6 b r n h qi y)) := by
  exact max6 reducesTo_S2x4x8x8x128x256_S2x4x8x8x128_d5 h_S_ (val_main_v60 (F := Ideal) X) (val_main_cst_8 (F := Ideal)) b r n h qi ninf

/-- The sum of the exponentials. -/
theorem d_at : val_main_v66 (F := Ideal) X (ix5 b r n h qi)
    = ∑ y, Ideal.exp (val_main_v60 (F := Ideal) X (ix6 b r n h qi y) - val_main_v61 (F := Ideal) X (ix5 b r n h qi)) := by
  pointwise [val_main_v62, val_main_v63, val_main_v64, val_main_v65, val_main_cst_9, val_main_v66]

/-- A maximum plus a logarithm, the maximum through its extra axis of one. -/
theorem l_gen (M D : FVec Ideal S2x4x8x8x128 .f32) :
    addf (shapeCast S2x4x8x8x128 (broadcastInDim S2x4x8x8x128x1 ![0, 1, 2, 3, 4] bcast_S2x4x8x8x128_S2x4x8x8x128x1_0_1_2_3_4 M)
        shapeCasts_S2x4x8x8x128x1_S2x4x8x8x128) (Host.log D) (ix5 b r n h qi)
      = M (ix5 b r n h qi) + Ideal.log (D (ix5 b r n h qi)) := by
  pointwise

/-- The log-sum-exp of the scores, from the largest and the sum. -/
theorem l_of : val_main_v75 (F := Ideal) X (ix5 b r n h qi)
    = val_main_v61 (F := Ideal) X (ix5 b r n h qi) + Ideal.log (val_main_v66 (F := Ideal) X (ix5 b r n h qi)) := by
  exact l_gen b r n h qi (val_main_v61 (F := Ideal) X) (val_main_v66 (F := Ideal) X)

/-- The log-sum-exp of the scores. -/
theorem l_at : val_main_v75 (F := Ideal) X (ix5 b r n h qi) = lseAt X 4 1 b r n qi h := by
  rw [l_of, d_at, m_at]
  exact lse_halves (fun y => val_main_v60 (F := Ideal) X (ix6 b r n h qi y)) (sP X 4 1 b r n qi h) (sC X 4 1 b r n qi h) (fun x => s_lo X b r n h qi x) (fun x => s_hi X b r n h qi x)

end Cert.Dil1RefIdeal.At

end
-- ==== Proof.RefOut1.lean ====
/- The window of dilation 4: the two results of the reference at an element. -/
module
public import proofs.«01_k».proof.Proof.RefAt1

@[expose] public section

set_option maxRecDepth 16384

noncomputable section

namespace Cert.Dil1RefIdeal.At

open Idealize.ShloMosaic Idealize.ShloMosaic.TcCoe Idealize.SL.Sem
open Cert.Dil1RefIdeal Cert.Dil1RefIdeal.Gen Cert.Dil1RefIdeal.Value Cert.Window

variable (X : FVec Ideal S8704x9216 .f32)
variable (b : Fin 2) (r : Fin 4) (n : Fin 8) (h : Fin 8) (qi x d : Fin 128)

attribute [local irreducible] val_main_v72 val_main_v75

/-- The first result, where its row is a token's. -/
theorem res_o (i : (⟨2, ![2176, 4096]⟩ : Shape).Idx) (hi : (i 0).val < 2048) : val_main_v86 (F := Ideal) X i
    = outAt X 4 1 ((i 0).val / 1024) ((i 1).val / 1024) ((i 0).val % 1024 / 128) ((i 0).val % 128) ((i 1).val / 128 % 8) ((i 1).val % 128) := by
  obtain ⟨R, C, rfl⟩ : ∃ R C, i = ix2 R C := ⟨i 0, i 1, funext fun a => by match a with | ⟨0, _⟩ => rfl | ⟨1, _⟩ => rfl⟩
  pointwise [val_main_v77, val_main_v78, val_main_v79, val_main_v85, val_main_c_10, val_main_call3_v0, val_main_v86]
  have hR : (R : ℕ) < 2048 := hi
  rw [dif_pos hR, o_at]
  show outAt X 4 1 _ _ _ _ _ _ = outAt X 4 1 ((R : ℕ) / 1024) ((C : ℕ) / 1024) ((R : ℕ) % 1024 / 128) ((R : ℕ) % 128) ((C : ℕ) / 128 % 8) ((C : ℕ) % 128)
  congr 1 <;> simp <;> omega

/-- The second result, where its row is a token's. -/
theorem res_l (i : (⟨2, ![2176, 4096]⟩ : Shape).Idx) (hi : (i 0).val < 2048) : val_main_v88 (F := Ideal) X i
    = lseAt X 4 1 ((i 0).val / 1024) ((i 1).val / 1024) ((i 0).val % 1024 / 128) ((i 0).val % 128) ((i 1).val / 128 % 8) := by
  obtain ⟨R, C, rfl⟩ : ∃ R C, i = ix2 R C := ⟨i 0, i 1, funext fun a => by match a with | ⟨0, _⟩ => rfl | ⟨1, _⟩ => rfl⟩
  pointwise [val_main_v76, val_main_v80, val_main_v81, val_main_v82, val_main_v83, val_main_v84, val_main_v87, val_main_c_11, val_main_call4_v0, val_main_v88]
  have hR : (R : ℕ) < 2048 := hi
  rw [dif_pos hR, l_at]
  show lseAt X 4 1 _ _ _ _ _ = lseAt X 4 1 ((R : ℕ) / 1024) ((C : ℕ) / 1024) ((R : ℕ) % 1024 / 128) ((R : ℕ) % 128) ((C : ℕ) / 128 % 8)
  congr 1 <;> simp <;> omega

end Cert.Dil1RefIdeal.At

end
-- ==== Proof.Claim1.lean ====
/- The claims about the window of dilation 4. -/
module
public import proofs.«01_k».proof.Defs
public import proofs.«01_k».proof.Proof.Gen.Dil1Ideal.Value
public import proofs.«01_k».proof.Proof.Gen.Dil1RefIdeal.Run
public import proofs.«01_k».proof.Proof.Gen.On_rows1
public import proofs.«01_k».proof.Proof.Out1
public import proofs.«01_k».proof.Proof.RefOut1
public import Idealize.ShloMosaic.Lib.Claim

@[expose] public section

set_option maxRecDepth 16384

noncomputable section

namespace Cert.Dil1RefIdeal.At

open Idealize.ShloMosaic Idealize.ShloMosaic.TcCoe Idealize.SL.Sem
open Cert.Dil1RefIdeal Cert.Dil1RefIdeal.Gen Cert.Dil1RefIdeal.Value Cert.Window

variable (m : (ℓ : Loc nD τ sig) → Buf (Elt Ideal) ℓ) (c : Dev nD)

/-- The first result is the named chain of operations. -/
theorem res_86 : res_main_v86 m c = val_main_v86 (F := Ideal) (m ((c.tc : Thread nD τ).loc main_arg0)) := by
  unfold res_main_v86
  rfl

/-- The second result is the named chain of operations. -/
theorem res_88 : res_main_v88 m c = val_main_v88 (F := Ideal) (m ((c.tc : Thread nD τ).loc main_arg0)) := by
  unfold res_main_v88
  rfl

/-- The reference runs and leaves its argument as it was; it has no semaphore. -/
theorem quiescent : Cert.quiescent_Dil1RefIdeal := by
  intro m g _
  haveI : IsEmpty (SemLoc sig) := Fintype.card_eq_zero_iff.mp (by decide)
  exact (θ_run _ _ _).mono (fun r h => ⟨fun c => (h c).2.2, funext fun s => isEmptyElim s.2⟩) (Cert.Dil1RefIdeal.Value.run m g)

/-- A row the mask takes is a row of a token. -/
theorem mask_row (i : Cert.On_rows1.S2176x4096.Idx)
    (h : cmpi .slt (iotaInDim Cert.On_rows1.S2176x4096 32 0)
      (broadcastInDim Cert.On_rows1.S2176x4096 ![] Cert.On_rows1.Gen.bcast_S_S2176x4096 (constantI Cert.On_rows1.S_ 32 2048#32)) i = 1#1) :
    (i 0).val < 2048 := by
  have hi : (i 0).val < 2176 := (i 0).isLt
  change IntOp.cmpi CmpIPredicate.slt (BitVec.ofNat 32 (i 0).val) 2048#32 = 1#1 at h
  have e : ∀ b : Bool, (BitVec.ofBool b = 1#1) ↔ b = true := by decide
  simp only [IntOp.cmpi, BitVec.slt, e, nat_int (i 0).val (by omega), decide_eq_true_eq] at h
  rw [show (2048#32 : BitVec 32).toInt = 2048 by decide] at h
  omega

/-- The kernel and the reference end with the same values in every row of a token. -/
theorem algebraic : Cert.algebraic_Dil1Ideal_Dil1RefIdeal_on_rows1 := by
  intro m g m' g' _ hagree
  refine ⟨fun c => (Cert.Dil1Ideal.Gen.dats m 0 c).arrAt 5 Cert.Dil1Ideal.cfg0.N,
    fun c => (Cert.Dil1Ideal.Gen.dats m 0 c).arrAt 6 Cert.Dil1Ideal.cfg0.N, ?_, ?_⟩
  · exact (θ_run _ _ _).mono (fun r h c => ⟨fun i _ => congrFun (h c).1 i, fun i _ => congrFun (h c).2.1 i, (h c).2.2⟩)
      (Cert.Dil1Ideal.Value.run_blocks m g)
  · refine (θ_run _ _ _).mono (fun r h c => ⟨fun i hi => ?_, fun i hi => ?_, (h c).2.2⟩) (Cert.Dil1RefIdeal.Value.run m' g')
    · have hrow := mask_row i hi
      rw [(h c).1, res_86, hagree c]
      exact (res_o _ i hrow).trans (Cert.Dil1Ideal.At.final5 m c i hrow).symm
    · have hrow := mask_row i hi
      rw [(h c).2.1, res_88, hagree c]
      exact (res_l _ i hrow).trans (Cert.Dil1Ideal.At.final6 m c i hrow).symm

end Cert.Dil1RefIdeal.At

end
-- ==== Proof.Ker2.lean ====
/- What the window of dilation 16 writes back at a grid point, head by head. -/
module
public import proofs.«01_k».proof.Proof.Window
public import proofs.«01_k».proof.Proof.Gen.Dil2Ideal.Value
public import Idealize.ShloMosaic.Lib.Pipeline.ValueKit

@[expose] public section

set_option maxRecDepth 16384

noncomputable section

namespace Cert.Dil2Ideal.At

open Idealize.ShloMosaic Idealize.ShloMosaic.TcCoe Idealize.SL.Sem
open Cert.Dil2Ideal Cert.Dil2Ideal.Gen Cert.Window

variable (m : (ℓ : Loc nD τ sig) → Buf (Elt Ideal) ℓ) (c : Dev nD) (t : Fin cfg0.N)

/-- Head `h` of a block: its 128 columns. -/
def hd (x : Vec Ideal S128x1024 .f32) (h : ℕ) (hh : h < 8) (a b : Fin 128) : EReal :=
  x (ix2 a (⟨h * 128 + b, by omega⟩ : Fin 1024))

/-- A head's element is the block's at an index with those coordinates. -/
theorem at_hd (x : Vec Ideal S128x1024 .f32) (h : ℕ) (hh : h < 8) (a b : Fin 128) (j : S128x1024.Idx)
    (h0 : (j 0).val = a.val) (h1 : (j 1).val = h * 128 + b.val) : x j = hd x h hh a b :=
  congrArg x (funext fun c => Fin.ext (by match c with | ⟨0, _⟩ => exact h0 | ⟨1, _⟩ => exact h1))

set_option maxHeartbeats 2000000 in
/-- The output block at one element. -/
theorem out5 (y : S128x1024.Idx) (i k : ℕ) (d : Fin 128) (hi : i < 128) (hk : k < 8) (e0 : (y 0).val = i) (e1 : (y 1).val = k * 128 + d.val) :
    (outsAt0 m c t).1 y
      = headOut (grid0.coords t 2).val i (hd (X0_0 m c t) k hk) (hd (X0_2 m c t) k hk) (hd (X0_1 m c t) k hk) (hd (X0_4 m c t) k hk) (hd (X0_3 m c t) k hk) hi d := by
  have hn : (grid0.coords t 2).val < 32 := lt_of_lt_of_le (grid0.coords t 2).isLt (by decide)
  unfold outsAt0
  frame_out
  canon_tiles x h
  all_goals
    obtain rfl : i = (x 0).val := by omega
    obtain rfl : d = x 1 := Fin.ext (by omega)
    open_payloads
    pointwise
    refine raw_out _ _ _ _ _ hn hi (IdealRules.named_const.ideal_named_scalar _ _ _ _ rfl) _ _ _ _ _ (fun x => Finset.sum_congr rfl fun b _ => ?_)
      (fun x => Finset.sum_congr rfl fun b _ => ?_) _ _ _ (fun x => ?_) (fun x => ?_)
    · exact congrArg₂ (· * ·) (at_hd _ _ _ _ _ _ rfl (by dsimp; omega)) (at_hd _ _ _ _ _ _ rfl (by dsimp; omega))
    · exact congrArg₂ (· * ·) (at_hd _ _ _ _ _ _ rfl (by dsimp; omega)) (at_hd _ _ _ _ _ _ rfl (by dsimp; omega))
    · exact at_hd _ _ _ _ _ _ rfl (by dsimp; omega)
    · exact at_hd _ _ _ _ _ _ rfl (by dsimp; omega)

set_option maxHeartbeats 2000000 in
/-- The log-sum-exp block at one element: the same in every lane of its head. -/
theorem out6 (y : S128x1024.Idx) (i k : ℕ) (d : Fin 128) (hi : i < 128) (hk : k < 8) (e0 : (y 0).val = i) (e1 : (y 1).val = k * 128 + d.val) :
    (outsAt0 m c t).2 y
      = headLse (grid0.coords t 2).val i (hd (X0_0 m c t) k hk) (hd (X0_2 m c t) k hk) (hd (X0_1 m c t) k hk) hi := by
  have hn : (grid0.coords t 2).val < 32 := lt_of_lt_of_le (grid0.coords t 2).isLt (by decide)
  unfold outsAt0
  frame_out
  canon_tiles x h
  all_goals
    obtain rfl : i = (x 0).val := by omega
    obtain rfl : d = x 1 := Fin.ext (by omega)
    open_payloads
    pointwise
    refine raw_lse _ _ _ _ _ hn hi (IdealRules.named_const.ideal_named_scalar _ _ _ _ rfl) _ _ _ (fun x => Finset.sum_congr rfl fun b _ => ?_)
      (fun x => Finset.sum_congr rfl fun b _ => ?_)
    · exact congrArg₂ (· * ·) (at_hd _ _ _ _ _ _ rfl (by dsimp; omega)) (at_hd _ _ _ _ _ _ rfl (by dsimp; omega))
    · exact congrArg₂ (· * ·) (at_hd _ _ _ _ _ _ rfl (by dsimp; omega)) (at_hd _ _ _ _ _ _ rfl (by dsimp; omega))

end Cert.Dil2Ideal.At

end
-- ==== Proof.Out2.lean ====
/- The two arrays the window of dilation 16 leaves, at every element of a token's row. -/
module
public import proofs.«01_k».proof.Proof.Ker2
public import proofs.«01_k».proof.Proof.Head

@[expose] public section

set_option maxRecDepth 16384

noncomputable section

namespace Cert.Dil2Ideal.At

open Idealize.ShloMosaic Idealize.ShloMosaic.TcCoe Idealize.SL.Sem
open Cert.Dil2Ideal Cert.Dil2Ideal.Gen Cert.Window

variable (m : (ℓ : Loc nD τ sig) → Buf (Elt Ideal) ℓ) (c : Dev nD) (t : Fin cfg0.N)

/-- Where each window stands at a grid point, and the block of queries there. -/
theorem idx : ∀ t : Fin cfg0.N, win0_0.index t = ![t.val / 32 * 2 + t.val % 2, t.val % 32 / 2 * 9 + 6]
    ∧ win0_1.index t = ![t.val / 32 * 2 + t.val % 2, t.val % 32 / 2 * 9 + 7]
    ∧ win0_2.index t = ![t.val / 32 * 2 + (t.val % 2 - 1), t.val % 32 / 2 * 9 + 7]
    ∧ win0_3.index t = ![t.val / 32 * 2 + t.val % 2, t.val % 32 / 2 * 9 + 8]
    ∧ win0_4.index t = ![t.val / 32 * 2 + (t.val % 2 - 1), t.val % 32 / 2 * 9 + 8]
    ∧ win0_5.index t = ![t.val / 32 * 2 + t.val % 2, t.val % 32 / 2]
    ∧ win0_6.index t = ![t.val / 32 * 2 + t.val % 2, t.val % 32 / 2] :=
  (by decide +kernel : ∀ t : Fin grid0.N, _)

/-- The block of queries at a grid point, within its stream. -/
theorem coord : ∀ t : Fin cfg0.N, (grid0.coords t 2).val = t.val % 2 :=
  (by decide +kernel : ∀ t : Fin grid0.N, _)

/-- Rows regrouped, at an index. -/
theorem regroup (X : FVec Ideal S8704x9216 .f32) (j : S544x147456.Idx) :
    shapeCast S544x147456 X shapeCasts_S8704x9216_S544x147456 j = rd X ((j 0).val * 16 + (j 1).val / 9216) ((j 1).val % 9216) := by
  have h0 : (j 0).val < 544 := (j 0).isLt
  have h1 : (j 1).val < 147456 := (j 1).isLt
  pointwise
  exact rd_of _ _ _ _ (by simp; try omega) (by simp; try omega)

/-- The array the windows read is the argument, its rows regrouped. -/
theorem V_main_v0 : V m c main_v0 = shapeCast _ (m ((c.tc : Thread nD τ).loc main_arg0)) shapeCasts_S8704x9216_S544x147456 := by
  unfold V; after_results; try rfl

/-- The array the windows read, at an index. -/
theorem V_at (j : S544x147456.Idx) : V m c main_v0 j = rd (m ((c.tc : Thread nD τ).loc main_arg0)) ((j 0).val * 16 + (j 1).val / 9216) ((j 1).val % 9216) := by
  have h0 : (j 0).val < 544 := (j 0).isLt
  have h1 : (j 1).val < 147456 := (j 1).isLt
  rw [V_main_v0]; exact regroup _ j

/-- Window 0's buffer holds its block of the array. -/
theorem X0_at (i : S128x1024.Idx) : ∃ j : ((cfg0.win 0).xblock (cfg0.grid.coords t)).Idx, X0_0 m c t i = iblk m c 0 t j ∧ (j 0).val = (i 0).val ∧ (j 1).val = (i 1).val := by
  unfold X0_0 Pipeline.Window.fill
  rw [dif_pos (moved0_0 t i)]
  exact ⟨_, rfl, rfl, rfl⟩

/-- The queries of a point's block. -/
theorem q_at (k : ℕ) (hk : k < 8) (a b : Fin 128) : hd (X0_0 m c t) k hk a b
    = rd (m ((c.tc : Thread nD τ).loc main_arg0)) (tok 16 (t.val / 32) (t.val % 32 / 2) ((t.val % 2) * 128 + a)) (2 * 3072 + k * 128 + b) := by
  have ht : t.val < 64 := lt_of_lt_of_eq t.isLt N_0
  unfold hd
  generalize hq : (⟨k * 128 + b, by omega⟩ : Fin 1024) = q
  have hq' : q.val = k * 128 + b := by rw [← hq]
  obtain ⟨j, hj, j0, j1⟩ := X0_at m c t (ix2 a q)
  change (j 0).val = a.val at j0
  change (j 1).val = q.val at j1
  rw [hj]
  blk_simp [iblk]
  rw [V_at]
  refine congrArg₂ (rd _) ?_ ?_
  · blk_simp [idx t, tok]
    rw [j0, j1]
    omega
  · blk_simp [idx t, tok]
    rw [j1]
    omega

/-- Window 1's buffer holds its block of the array. -/
theorem X1_at (i : S128x1024.Idx) : ∃ j : ((cfg0.win 1).xblock (cfg0.grid.coords t)).Idx, X0_1 m c t i = iblk m c 1 t j ∧ (j 0).val = (i 0).val ∧ (j 1).val = (i 1).val := by
  unfold X0_1 Pipeline.Window.fill
  rw [dif_pos (moved0_1 t i)]
  exact ⟨_, rfl, rfl, rfl⟩

/-- The keys of the queries' own block. -/
theorem kc_at (k : ℕ) (hk : k < 8) (a b : Fin 128) : hd (X0_1 m c t) k hk a b
    = rd (m ((c.tc : Thread nD τ).loc main_arg0)) (tok 16 (t.val / 32) (t.val % 32 / 2) ((t.val % 2) * 128 + a)) (2 * 3072 + 1024 + k * 128 + b) := by
  have ht : t.val < 64 := lt_of_lt_of_eq t.isLt N_0
  unfold hd
  generalize hq : (⟨k * 128 + b, by omega⟩ : Fin 1024) = q
  have hq' : q.val = k * 128 + b := by rw [← hq]
  obtain ⟨j, hj, j0, j1⟩ := X1_at m c t (ix2 a q)
  change (j 0).val = a.val at j0
  change (j 1).val = q.val at j1
  rw [hj]
  blk_simp [iblk]
  rw [V_at]
  refine congrArg₂ (rd _) ?_ ?_
  · blk_simp [idx t, tok]
    rw [j0, j1]
    omega
  · blk_simp [idx t, tok]
    rw [j1]
    omega

/-- Window 2's buffer holds its block of the array. -/
theorem X2_at (i : S128x1024.Idx) : ∃ j : ((cfg0.win 2).xblock (cfg0.grid.coords t)).Idx, X0_2 m c t i = iblk m c 2 t j ∧ (j 0).val = (i 0).val ∧ (j 1).val = (i 1).val := by
  unfold X0_2 Pipeline.Window.fill
  rw [dif_pos (moved0_2 t i)]
  exact ⟨_, rfl, rfl, rfl⟩

/-- The keys of the block before. -/
theorem kp_at (k : ℕ) (hk : k < 8) (a b : Fin 128) : hd (X0_2 m c t) k hk a b
    = rd (m ((c.tc : Thread nD τ).loc main_arg0)) (tok 16 (t.val / 32) (t.val % 32 / 2) (((t.val % 2) - 1) * 128 + a)) (2 * 3072 + 1024 + k * 128 + b) := by
  have ht : t.val < 64 := lt_of_lt_of_eq t.isLt N_0
  unfold hd
  generalize hq : (⟨k * 128 + b, by omega⟩ : Fin 1024) = q
  have hq' : q.val = k * 128 + b := by rw [← hq]
  obtain ⟨j, hj, j0, j1⟩ := X2_at m c t (ix2 a q)
  change (j 0).val = a.val at j0
  change (j 1).val = q.val at j1
  rw [hj]
  blk_simp [iblk]
  rw [V_at]
  refine congrArg₂ (rd _) ?_ ?_
  · blk_simp [idx t, tok]
    rw [j0, j1]
    omega
  · blk_simp [idx t, tok]
    rw [j1]
    omega

/-- Window 3's buffer holds its block of the array. -/
theorem X3_at (i : S128x1024.Idx) : ∃ j : ((cfg0.win 3).xblock (cfg0.grid.coords t)).Idx, X0_3 m c t i = iblk m c 3 t j ∧ (j 0).val = (i 0).val ∧ (j 1).val = (i 1).val := by
  unfold X0_3 Pipeline.Window.fill
  rw [dif_pos (moved0_3 t i)]
  exact ⟨_, rfl, rfl, rfl⟩

/-- The values of the queries' own block. -/
theorem vc_at (k : ℕ) (hk : k < 8) (a b : Fin 128) : hd (X0_3 m c t) k hk a b
    = rd (m ((c.tc : Thread nD τ).loc main_arg0)) (tok 16 (t.val / 32) (t.val % 32 / 2) ((t.val % 2) * 128 + a)) (2 * 3072 + 2048 + k * 128 + b) := by
  have ht : t.val < 64 := lt_of_lt_of_eq t.isLt N_0
  unfold hd
  generalize hq : (⟨k * 128 + b, by omega⟩ : Fin 1024) = q
  have hq' : q.val = k * 128 + b := by rw [← hq]
  obtain ⟨j, hj, j0, j1⟩ := X3_at m c t (ix2 a q)
  change (j 0).val = a.val at j0
  change (j 1).val = q.val at j1
  rw [hj]
  blk_simp [iblk]
  rw [V_at]
  refine congrArg₂ (rd _) ?_ ?_
  · blk_simp [idx t, tok]
    rw [j0, j1]
    omega
  · blk_simp [idx t, tok]
    rw [j1]
    omega

/-- Window 4's buffer holds its block of the array. -/
theorem X4_at (i : S128x1024.Idx) : ∃ j : ((cfg0.win 4).xblock (cfg0.grid.coords t)).Idx, X0_4 m c t i = iblk m c 4 t j ∧ (j 0).val = (i 0).val ∧ (j 1).val = (i 1).val := by
  unfold X0_4 Pipeline.Window.fill
  rw [dif_pos (moved0_4 t i)]
  exact ⟨_, rfl, rfl, rfl⟩

/-- The values of the block before. -/
theorem vp_at (k : ℕ) (hk : k < 8) (a b : Fin 128) : hd (X0_4 m c t) k hk a b
    = rd (m ((c.tc : Thread nD τ).loc main_arg0)) (tok 16 (t.val / 32) (t.val % 32 / 2) (((t.val % 2) - 1) * 128 + a)) (2 * 3072 + 2048 + k * 128 + b) := by
  have ht : t.val < 64 := lt_of_lt_of_eq t.isLt N_0
  unfold hd
  generalize hq : (⟨k * 128 + b, by omega⟩ : Fin 1024) = q
  have hq' : q.val = k * 128 + b := by rw [← hq]
  obtain ⟨j, hj, j0, j1⟩ := X4_at m c t (ix2 a q)
  change (j 0).val = a.val at j0
  change (j 1).val = q.val at j1
  rw [hj]
  blk_simp [iblk]
  rw [V_at]
  refine congrArg₂ (rd _) ?_ ?_
  · blk_simp [idx t, tok]
    rw [j0, j1]
    omega
  · blk_simp [idx t, tok]
    rw [j1]
    omega

/-- The attention's outputs, in every row of a token. -/
theorem final5 (i : S544x16384.Idx) (hi : (i 0).val < 512) : (dats m 0 c).arrAt 5 cfg0.N i
    = outAt (m ((c.tc : Thread nD τ).loc main_arg0)) 16 2 ((i 0).val / 256) ((i 1).val / 1024) ((i 0).val % 256 / 128) ((i 0).val % 128) ((i 1).val / 128 % 8) ((i 1).val % 128) := by
  refine ((dats m 0 c).arrAt_apply_of_coversWhere 5 (fun i => outAt (m ((c.tc : Thread nD τ).loc main_arg0)) 16 2 ((i 0).val / 256) ((i 1).val / 1024) ((i 0).val % 256 / 128) ((i 0).val % 128) ((i 1).val / 128 % 8) ((i 1).val % 128))
    (P := fun i => (i 0).val < 512) (fun β => β 0 < 4) (by decide +kernel) (fun t hf y => ?_)
    (fun j => by blk_simp [Pipeline.Window.cell_apply]; omega) i).trans (if_pos hi)
  have ht : t.val < 64 := lt_of_lt_of_eq t.isLt N_0
  blk_simp
  rw [after0_5]
  obtain ⟨z, hz, z0, z1⟩ : ∃ z : S128x1024.Idx, (cfg0.win 5).xinj (cfg0.grid.coords t) y = z ∧ (y 0).val = (z 0).val
      ∧ (y 1).val = (z 1).val := ⟨_, rfl, rfl, rfl⟩
  rw [hz, z0, z1]
  clear hz z0 z1
  revert z
  clear y
  intro y
  have y0 : (y 0).val < 128 := (y 0).isLt
  have y1 : (y 1).val < 1024 := (y 1).isLt
  obtain ⟨d, hd⟩ : ∃ d : Fin 128, d.val = (y 1).val % 128 := ⟨⟨_, Nat.mod_lt _ (by decide)⟩, rfl⟩
  refine (out5 m c t y (y 0).val ((y 1).val / 128) d y0 (by omega) rfl (by omega)).trans ?_
  rw [coord t]
  refine (head_out_at (m ((c.tc : Thread nD τ).loc main_arg0)) 16 2 (t.val / 32) (t.val % 32 / 2) (t.val % 2) (y 0).val ((y 1).val / 128) y0 _ _ _ _ _ _ (q_at m c t _ _) (kp_at m c t _ _) (kc_at m c t _ _) (vp_at m c t _ _) (vc_at m c t _ _)).trans ?_
  congr 1 <;> blk_simp [idx t] <;> omega

/-- The log-sum-exps, in every row of a token. -/
theorem final6 (i : S544x16384.Idx) (hi : (i 0).val < 512) : (dats m 0 c).arrAt 6 cfg0.N i
    = lseAt (m ((c.tc : Thread nD τ).loc main_arg0)) 16 2 ((i 0).val / 256) ((i 1).val / 1024) ((i 0).val % 256 / 128) ((i 0).val % 128) ((i 1).val / 128 % 8) := by
  refine ((dats m 0 c).arrAt_apply_of_coversWhere 6 (fun i => lseAt (m ((c.tc : Thread nD τ).loc main_arg0)) 16 2 ((i 0).val / 256) ((i 1).val / 1024) ((i 0).val % 256 / 128) ((i 0).val % 128) ((i 1).val / 128 % 8))
    (P := fun i => (i 0).val < 512) (fun β => β 0 < 4) (by decide +kernel) (fun t hf y => ?_)
    (fun j => by blk_simp [Pipeline.Window.cell_apply]; omega) i).trans (if_pos hi)
  have ht : t.val < 64 := lt_of_lt_of_eq t.isLt N_0
  blk_simp
  rw [after0_6]
  obtain ⟨z, hz, z0, z1⟩ : ∃ z : S128x1024.Idx, (cfg0.win 6).xinj (cfg0.grid.coords t) y = z ∧ (y 0).val = (z 0).val
      ∧ (y 1).val = (z 1).val := ⟨_, rfl, rfl, rfl⟩
  rw [hz, z0, z1]
  clear hz z0 z1
  revert z
  clear y
  intro y
  have y0 : (y 0).val < 128 := (y 0).isLt
  have y1 : (y 1).val < 1024 := (y 1).isLt
  obtain ⟨d, hd⟩ : ∃ d : Fin 128, d.val = (y 1).val % 128 := ⟨⟨_, Nat.mod_lt _ (by decide)⟩, rfl⟩
  refine (out6 m c t y (y 0).val ((y 1).val / 128) d y0 (by omega) rfl (by omega)).trans ?_
  rw [coord t]
  refine (head_lse_at (m ((c.tc : Thread nD τ).loc main_arg0)) 16 2 (t.val / 32) (t.val % 32 / 2) (t.val % 2) (y 0).val ((y 1).val / 128) y0 _ _ _ (q_at m c t _ _) (kp_at m c t _ _) (kc_at m c t _ _)).trans ?_
  congr 1 <;> blk_simp [idx t] <;> omega

end Cert.Dil2Ideal.At

end
-- ==== Proof.Ref2.lean ====
/- The reference of the window of dilation 16, read at an index: its queries, keys and values, its scores, and its two
   results. The `val_` terms are the program's operations, one at a time. -/
module
public import proofs.«01_k».proof.Proof.Window
public import proofs.«01_k».proof.Proof.Gen.Dil2RefIdeal.Run

@[expose] public section

set_option maxRecDepth 16384

noncomputable section

namespace Cert.Dil2RefIdeal.At

open Idealize.ShloMosaic Idealize.ShloMosaic.TcCoe Idealize.SL.Sem
open Cert.Dil2RefIdeal Cert.Dil2RefIdeal.Gen Cert.Dil2RefIdeal.Value Cert.Window

section Terms
variable {F : FTy → Type} [FloatOps F]

def val_main_v0 (x0 : (⟨S8704x9216, .f32⟩ : BufTy).Contents (Elt F)) : (⟨S8192x9216, .f32⟩ : BufTy).Contents (Elt F) :=
  extractStridedSlice S8192x9216 ![0, 0] (x0) slices_S8704x9216_S8192x9216_0_0
def val_main_v1 (x0 : (⟨S8704x9216, .f32⟩ : BufTy).Contents (Elt F)) : (⟨S2x4096x3x3x8x128, .f32⟩ : BufTy).Contents (Elt F) :=
  shapeCast _ (val_main_v0 (F := F) x0) shapeCasts_S8192x9216_S2x4096x3x3x8x128

def val_main_v2 (x0 : (⟨S8704x9216, .f32⟩ : BufTy).Contents (Elt F)) : (⟨S2x4096x1x1x8x128, .f32⟩ : BufTy).Contents (Elt F) :=
  extractStridedSlice S2x4096x1x1x8x128 ![0, 0, 2, 0, 0, 0] (val_main_v1 (F := F) x0) slices_S2x4096x3x3x8x128_S2x4096x1x1x8x128_0_0_2_0_0_0
def val_main_v3 (x0 : (⟨S8704x9216, .f32⟩ : BufTy).Contents (Elt F)) : (⟨S2x4096x8x128, .f32⟩ : BufTy).Contents (Elt F) :=
  shapeCast _ (val_main_v2 (F := F) x0) shapeCasts_S2x4096x1x1x8x128_S2x4096x8x128

def val_main_v4 (x0 : (⟨S8704x9216, .f32⟩ : BufTy).Contents (Elt F)) : (⟨S2x4096x1x1x8x128, .f32⟩ : BufTy).Contents (Elt F) :=
  extractStridedSlice S2x4096x1x1x8x128 ![0, 0, 2, 1, 0, 0] (val_main_v1 (F := F) x0) slices_S2x4096x3x3x8x128_S2x4096x1x1x8x128_0_0_2_1_0_0
def val_main_v5 (x0 : (⟨S8704x9216, .f32⟩ : BufTy).Contents (Elt F)) : (⟨S2x4096x8x128, .f32⟩ : BufTy).Contents (Elt F) :=
  shapeCast _ (val_main_v4 (F := F) x0) shapeCasts_S2x4096x1x1x8x128_S2x4096x8x128

def val_main_v6 (x0 : (⟨S8704x9216, .f32⟩ : BufTy).Contents (Elt F)) : (⟨S2x4096x1x1x8x128, .f32⟩ : BufTy).Contents (Elt F) :=
  extractStridedSlice S2x4096x1x1x8x128 ![0, 0, 2, 2, 0, 0] (val_main_v1 (F := F) x0) slices_S2x4096x3x3x8x128_S2x4096x1x1x8x128_0_0_2_2_0_0
def val_main_v7 (x0 : (⟨S8704x9216, .f32⟩ : BufTy).Contents (Elt F)) : (⟨S2x4096x8x128, .f32⟩ : BufTy).Contents (Elt F) :=
  shapeCast _ (val_main_v6 (F := F) x0) shapeCasts_S2x4096x1x1x8x128_S2x4096x8x128

def val_main_v8 (x0 : (⟨S8704x9216, .f32⟩ : BufTy).Contents (Elt F)) : (⟨S2x256x16x8x128, .f32⟩ : BufTy).Contents (Elt F) :=
  shapeCast _ (val_main_v3 (F := F) x0) shapeCasts_S2x4096x8x128_S2x256x16x8x128
def val_main_v9 (x0 : (⟨S8704x9216, .f32⟩ : BufTy).Contents (Elt F)) : (⟨S2x16x256x8x128, .f32⟩ : BufTy).Contents (Elt F) :=
  transpose S2x16x256x8x128 [0, 2, 1, 3, 4] (val_main_v8 (F := F) x0) transposes_S2x256x16x8x128_S2x16x256x8x128_0_2_1_3_4
def val_main_v10 (x0 : (⟨S8704x9216, .f32⟩ : BufTy).Contents (Elt F)) : (⟨S2x16x2x128x8x128, .f32⟩ : BufTy).Contents (Elt F) :=
  shapeCast _ (val_main_v9 (F := F) x0) shapeCasts_S2x16x256x8x128_S2x16x2x128x8x128

def val_main_v11 (x0 : (⟨S8704x9216, .f32⟩ : BufTy).Contents (Elt F)) : (⟨S2x256x16x8x128, .f32⟩ : BufTy).Contents (Elt F) :=
  shapeCast _ (val_main_v5 (F := F) x0) shapeCasts_S2x4096x8x128_S2x256x16x8x128
def val_main_v12 (x0 : (⟨S8704x9216, .f32⟩ : BufTy).Contents (Elt F)) : (⟨S2x16x256x8x128, .f32⟩ : BufTy).Contents (Elt F) :=
  transpose S2x16x256x8x128 [0, 2, 1, 3, 4] (val_main_v11 (F := F) x0) transposes_S2x256x16x8x128_S2x16x256x8x128_0_2_1_3_4
def val_main_c : (⟨S_, .i32⟩ : BufTy).Contents (Elt F) :=
  constantI S_ 32 0#32
def val_main_call0_v0 : (⟨S_, .f32⟩ : BufTy).Contents (Elt F) :=
  sitofp .f32 (val_main_c (F := F))
def val_main_v13 (x0 : (⟨S8704x9216, .f32⟩ : BufTy).Contents (Elt F)) : (⟨S2x16x384x8x128, .f32⟩ : BufTy).Contents (Elt F) :=
  pad S2x16x384x8x128 ![0, 0, 128, 0, 0] ![0, 0, 0, 0, 0] ![0, 0, 0, 0, 0] (val_main_v12 (F := F) x0) (val_main_call0_v0 (F := F)) pads_S2x16x256x8x128_S2x16x384x8x128_000_000_12800_000_000 h_S_

def val_main_v14 (x0 : (⟨S8704x9216, .f32⟩ : BufTy).Contents (Elt F)) : (⟨S2x16x3x128x8x128, .f32⟩ : BufTy).Contents (Elt F) :=
  shapeCast _ (val_main_v13 (F := F) x0) shapeCasts_S2x16x384x8x128_S2x16x3x128x8x128

def val_main_v15 (x0 : (⟨S8704x9216, .f32⟩ : BufTy).Contents (Elt F)) : (⟨S2x16x2x128x8x128, .f32⟩ : BufTy).Contents (Elt F) :=
  extractStridedSlice S2x16x2x128x8x128 ![0, 0, 0, 0, 0, 0] (val_main_v14 (F := F) x0) slices_S2x16x3x128x8x128_S2x16x2x128x8x128_0_0_0_0_0_0
def val_main_v16 (x0 : (⟨S8704x9216, .f32⟩ : BufTy).Contents (Elt F)) : (⟨S2x16x2x128x8x128, .f32⟩ : BufTy).Contents (Elt F) :=
  extractStridedSlice S2x16x2x128x8x128 ![0, 0, 1, 0, 0, 0] (val_main_v14 (F := F) x0) slices_S2x16x3x128x8x128_S2x16x2x128x8x128_0_0_1_0_0_0
def val_main_v17 (x0 : (⟨S8704x9216, .f32⟩ : BufTy).Contents (Elt F)) : (⟨S2x16x2x256x8x128, .f32⟩ : BufTy).Contents (Elt F) :=
  concatenate S2x16x2x256x8x128 3 [⟨S2x16x2x128x8x128, (val_main_v15 (F := F) x0)⟩, ⟨S2x16x2x128x8x128, (val_main_v16 (F := F) x0)⟩] concatenates_S2x16x2x128x8x128_S2x16x2x128x8x128_S2x16x2x256x8x128_d3

def val_main_v18 (x0 : (⟨S8704x9216, .f32⟩ : BufTy).Contents (Elt F)) : (⟨S2x256x16x8x128, .f32⟩ : BufTy).Contents (Elt F) :=
  shapeCast _ (val_main_v7 (F := F) x0) shapeCasts_S2x4096x8x128_S2x256x16x8x128
def val_main_v19 (x0 : (⟨S8704x9216, .f32⟩ : BufTy).Contents (Elt F)) : (⟨S2x16x256x8x128, .f32⟩ : BufTy).Contents (Elt F) :=
  transpose S2x16x256x8x128 [0, 2, 1, 3, 4] (val_main_v18 (F := F) x0) transposes_S2x256x16x8x128_S2x16x256x8x128_0_2_1_3_4
def val_main_c_0 : (⟨S_, .i32⟩ : BufTy).Contents (Elt F) :=
  constantI S_ 32 0#32
def val_main_call1_v0 : (⟨S_, .f32⟩ : BufTy).Contents (Elt F) :=
  sitofp .f32 (val_main_c_0 (F := F))
def val_main_v20 (x0 : (⟨S8704x9216, .f32⟩ : BufTy).Contents (Elt F)) : (⟨S2x16x384x8x128, .f32⟩ : BufTy).Contents (Elt F) :=
  pad S2x16x384x8x128 ![0, 0, 128, 0, 0] ![0, 0, 0, 0, 0] ![0, 0, 0, 0, 0] (val_main_v19 (F := F) x0) (val_main_call1_v0 (F := F)) pads_S2x16x256x8x128_S2x16x384x8x128_000_000_12800_000_000 h_S_

def val_main_v21 (x0 : (⟨S8704x9216, .f32⟩ : BufTy).Contents (Elt F)) : (⟨S2x16x3x128x8x128, .f32⟩ : BufTy).Contents (Elt F) :=
  shapeCast _ (val_main_v20 (F := F) x0) shapeCasts_S2x16x384x8x128_S2x16x3x128x8x128

def val_main_v22 (x0 : (⟨S8704x9216, .f32⟩ : BufTy).Contents (Elt F)) : (⟨S2x16x2x128x8x128, .f32⟩ : BufTy).Contents (Elt F) :=
  extractStridedSlice S2x16x2x128x8x128 ![0, 0, 0, 0, 0, 0] (val_main_v21 (F := F) x0) slices_S2x16x3x128x8x128_S2x16x2x128x8x128_0_0_0_0_0_0
def val_main_v23 (x0 : (⟨S8704x9216, .f32⟩ : BufTy).Contents (Elt F)) : (⟨S2x16x2x128x8x128, .f32⟩ : BufTy).Contents (Elt F) :=
  extractStridedSlice S2x16x2x128x8x128 ![0, 0, 1, 0, 0, 0] (val_main_v21 (F := F) x0) slices_S2x16x3x128x8x128_S2x16x2x128x8x128_0_0_1_0_0_0
def val_main_v24 (x0 : (⟨S8704x9216, .f32⟩ : BufTy).Contents (Elt F)) : (⟨S2x16x2x256x8x128, .f32⟩ : BufTy).Contents (Elt F) :=
  concatenate S2x16x2x256x8x128 3 [⟨S2x16x2x128x8x128, (val_main_v22 (F := F) x0)⟩, ⟨S2x16x2x128x8x128, (val_main_v23 (F := F) x0)⟩] concatenates_S2x16x2x128x8x128_S2x16x2x128x8x128_S2x16x2x256x8x128_d3

def val_main_v25 (x0 : (⟨S8704x9216, .f32⟩ : BufTy).Contents (Elt F)) : (⟨S2x16x2x8x128x256, .f32⟩ : BufTy).Contents (Elt F) :=
  Host.dotGeneral dot_S2x16x2x128x8x128_S2x16x2x256x8x128_S2x16x2x8x128x256_5_5_3_3_0124_0124 none (val_main_v10 (F := F) x0) (val_main_v17 (F := F) x0)
def val_main_cst : (⟨S_, .f32⟩ : BufTy).Contents (Elt F) :=
  constant S_ .f32 0x43000000#32
def val_main_v26 : (⟨S_, .f32⟩ : BufTy).Contents (Elt F) :=
  Host.sqrt (val_main_cst (F := F))
def val_main_v27 : (⟨S2x16x2x8x128x256, .f32⟩ : BufTy).Contents (Elt F) :=
  broadcastInDim S2x16x2x8x128x256 ![] bcast_S_S2x16x2x8x128x256 (val_main_v26 (F := F))
def val_main_v28 (x0 : (⟨S8704x9216, .f32⟩ : BufTy).Contents (Elt F)) : (⟨S2x16x2x8x128x256, .f32⟩ : BufTy).Contents (Elt F) :=
  Host.divf (val_main_v25 (F := F) x0) (val_main_v27 (F := F))
def val_main_v29 : (⟨S128, .i32⟩ : BufTy).Contents (Elt F) :=
  iotaInDim S128 32 0
def val_main_v30 : (⟨S128x1, .i32⟩ : BufTy).Contents (Elt F) :=
  broadcastInDim S128x1 ![0] bcast_S128_S128x1_0 (val_main_v29 (F := F))
def val_main_v31 : (⟨S256, .i32⟩ : BufTy).Contents (Elt F) :=
  iotaInDim S256 32 0
def val_main_v32 : (⟨S1x256, .i32⟩ : BufTy).Contents (Elt F) :=
  broadcastInDim S1x256 ![1] bcast_S256_S1x256_1 (val_main_v31 (F := F))
def val_main_c_1 : (⟨S_, .i32⟩ : BufTy).Contents (Elt F) :=
  constantI S_ 32 128#32
def val_main_v33 : (⟨S128x1, .i32⟩ : BufTy).Contents (Elt F) :=
  broadcastInDim S128x1 ![] bcast_S_S128x1 (val_main_c_1 (F := F))
def val_main_v34 : (⟨S128x1, .i32⟩ : BufTy).Contents (Elt F) :=
  addi (val_main_v30 (F := F)) (val_main_v33 (F := F))
def val_main_v35 : (⟨S128x256, .i32⟩ : BufTy).Contents (Elt F) :=
  broadcastInDim S128x256 ![0, 1] bcast_S128x1_S128x256_0_1 (val_main_v34 (F := F))
def val_main_v36 : (⟨S128x256, .i32⟩ : BufTy).Contents (Elt F) :=
  broadcastInDim S128x256 ![0, 1] bcast_S1x256_S128x256_0_1 (val_main_v32 (F := F))
def val_main_v37 : (⟨S128x256, .i32⟩ : BufTy).Contents (Elt F) :=
  subi (val_main_v35 (F := F)) (val_main_v36 (F := F))
def val_main_v38 : (⟨S2, .i32⟩ : BufTy).Contents (Elt F) :=
  iotaInDim S2 32 0
def val_main_v39 : (⟨S2x1x1, .i32⟩ : BufTy).Contents (Elt F) :=
  broadcastInDim S2x1x1 ![0] bcast_S2_S2x1x1_0 (val_main_v38 (F := F))
def val_main_c_2 : (⟨S_, .i32⟩ : BufTy).Contents (Elt F) :=
  constantI S_ 32 128#32
def val_main_v40 : (⟨S2x1x1, .i32⟩ : BufTy).Contents (Elt F) :=
  broadcastInDim S2x1x1 ![] bcast_S_S2x1x1 (val_main_c_2 (F := F))
def val_main_v41 : (⟨S2x1x1, .i32⟩ : BufTy).Contents (Elt F) :=
  muli (val_main_v39 (F := F)) (val_main_v40 (F := F))
def val_main_v42 : (⟨S1x1x256, .i32⟩ : BufTy).Contents (Elt F) :=
  broadcastInDim S1x1x256 ![1, 2] bcast_S1x256_S1x1x256_1_2 (val_main_v32 (F := F))
def val_main_v43 : (⟨S2x1x256, .i32⟩ : BufTy).Contents (Elt F) :=
  broadcastInDim S2x1x256 ![0, 1, 2] bcast_S2x1x1_S2x1x256_0_1_2 (val_main_v41 (F := F))
def val_main_v44 : (⟨S2x1x256, .i32⟩ : BufTy).Contents (Elt F) :=
  broadcastInDim S2x1x256 ![0, 1, 2] bcast_S1x1x256_S2x1x256_0_1_2 (val_main_v42 (F := F))
def val_main_v45 : (⟨S2x1x256, .i32⟩ : BufTy).Contents (Elt F) :=
  addi (val_main_v43 (F := F)) (val_main_v44 (F := F))
def val_main_c_3 : (⟨S_, .i32⟩ : BufTy).Contents (Elt F) :=
  constantI S_ 32 128#32
def val_main_v46 : (⟨S2x1x256, .i32⟩ : BufTy).Contents (Elt F) :=
  broadcastInDim S2x1x256 ![] bcast_S_S2x1x256 (val_main_c_3 (F := F))
def val_main_v47 : (⟨S2x1x256, .i32⟩ : BufTy).Contents (Elt F) :=
  subi (val_main_v45 (F := F)) (val_main_v46 (F := F))
def val_main_c_4 : (⟨S_, .i32⟩ : BufTy).Contents (Elt F) :=
  constantI S_ 32 0#32
def val_main_v48 : (⟨S128x256, .i32⟩ : BufTy).Contents (Elt F) :=
  broadcastInDim S128x256 ![] bcast_S_S128x256 (val_main_c_4 (F := F))
def val_main_v49 : (⟨S128x256, .i1⟩ : BufTy).Contents (Elt F) :=
  cmpi .sge (val_main_v37 (F := F)) (val_main_v48 (F := F))
def val_main_c_5 : (⟨S_, .i32⟩ : BufTy).Contents (Elt F) :=
  constantI S_ 32 128#32
def val_main_v50 : (⟨S128x256, .i32⟩ : BufTy).Contents (Elt F) :=
  broadcastInDim S128x256 ![] bcast_S_S128x256 (val_main_c_5 (F := F))
def val_main_v51 : (⟨S128x256, .i1⟩ : BufTy).Contents (Elt F) :=
  cmpi .sle (val_main_v37 (F := F)) (val_main_v50 (F := F))
def val_main_v52 : (⟨S128x256, .i1⟩ : BufTy).Contents (Elt F) :=
  andi (val_main_v49 (F := F)) (val_main_v51 (F := F))
def val_main_c_6 : (⟨S_, .i32⟩ : BufTy).Contents (Elt F) :=
  constantI S_ 32 0#32
def val_main_v53 : (⟨S2x1x256, .i32⟩ : BufTy).Contents (Elt F) :=
  broadcastInDim S2x1x256 ![] bcast_S_S2x1x256 (val_main_c_6 (F := F))
def val_main_v54 : (⟨S2x1x256, .i1⟩ : BufTy).Contents (Elt F) :=
  cmpi .sge (val_main_v47 (F := F)) (val_main_v53 (F := F))
def val_main_v55 : (⟨S1x128x256, .i1⟩ : BufTy).Contents (Elt F) :=
  broadcastInDim S1x128x256 ![1, 2] bcast_S128x256_S1x128x256_1_2 (val_main_v52 (F := F))
def val_main_v56 : (⟨S2x128x256, .i1⟩ : BufTy).Contents (Elt F) :=
  broadcastInDim S2x128x256 ![0, 1, 2] bcast_S1x128x256_S2x128x256_0_1_2 (val_main_v55 (F := F))
def val_main_v57 : (⟨S2x128x256, .i1⟩ : BufTy).Contents (Elt F) :=
  broadcastInDim S2x128x256 ![0, 1, 2] bcast_S2x1x256_S2x128x256_0_1_2 (val_main_v54 (F := F))
def val_main_v58 : (⟨S2x128x256, .i1⟩ : BufTy).Contents (Elt F) :=
  andi (val_main_v56 (F := F)) (val_main_v57 (F := F))
def val_main_v59 : (⟨S1x1x2x1x128x256, .i1⟩ : BufTy).Contents (Elt F) :=
  broadcastInDim S1x1x2x1x128x256 ![2, 4, 5] bcast_S2x128x256_S1x1x2x1x128x256_2_4_5 (val_main_v58 (F := F))
def val_main_cst_7 : (⟨S_, .f32⟩ : BufTy).Contents (Elt F) :=
  constant S_ .f32 0xFF800000#32
def val_main_call2_v0 : (⟨S_, .f32⟩ : BufTy).Contents (Elt F) :=
  id (val_main_cst_7 (F := F))
def val_main_call2_v1 : (⟨S2x16x2x8x128x256, .i1⟩ : BufTy).Contents (Elt F) :=
  broadcastInDim S2x16x2x8x128x256 ![0, 1, 2, 3, 4, 5] bcast_S1x1x2x1x128x256_S2x16x2x8x128x256_0_1_2_3_4_5 (val_main_v59 (F := F))
def val_main_call2_v2 : (⟨S2x16x2x8x128x256, .f32⟩ : BufTy).Contents (Elt F) :=
  broadcastInDim S2x16x2x8x128x256 ![] bcast_S_S2x16x2x8x128x256 (val_main_call2_v0 (F := F))
def val_main_v60 (x0 : (⟨S8704x9216, .f32⟩ : BufTy).Contents (Elt F)) : (⟨S2x16x2x8x128x256, .f32⟩ : BufTy).Contents (Elt F) :=
  select (val_main_call2_v1 (F := F)) (val_main_v28 (F := F) x0) (val_main_call2_v2 (F := F))
def val_main_cst_8 : (⟨S_, .f32⟩ : BufTy).Contents (Elt F) :=
  constant S_ .f32 0xFF800000#32
def val_main_v61 (x0 : (⟨S8704x9216, .f32⟩ : BufTy).Contents (Elt F)) : (⟨S2x16x2x8x128, .f32⟩ : BufTy).Contents (Elt F) :=
  Host.reduce FloatOps.maximumf (val_main_v60 (F := F) x0) (val_main_cst_8 (F := F)) reducesTo_S2x16x2x8x128x256_S2x16x2x8x128_d5 h_S_

def val_main_v62 (x0 : (⟨S8704x9216, .f32⟩ : BufTy).Contents (Elt F)) : (⟨S2x16x2x8x128x1, .f32⟩ : BufTy).Contents (Elt F) :=
  broadcastInDim S2x16x2x8x128x1 ![0, 1, 2, 3, 4] bcast_S2x16x2x8x128_S2x16x2x8x128x1_0_1_2_3_4 (val_main_v61 (F := F) x0)
def val_main_v63 (x0 : (⟨S8704x9216, .f32⟩ : BufTy).Contents (Elt F)) : (⟨S2x16x2x8x128x256, .f32⟩ : BufTy).Contents (Elt F) :=
  broadcastInDim S2x16x2x8x128x256 ![0, 1, 2, 3, 4, 5] bcast_S2x16x2x8x128x1_S2x16x2x8x128x256_0_1_2_3_4_5 (val_main_v62 (F := F) x0)
def val_main_v64 (x0 : (⟨S8704x9216, .f32⟩ : BufTy).Contents (Elt F)) : (⟨S2x16x2x8x128x256, .f32⟩ : BufTy).Contents (Elt F) :=
  subf (val_main_v60 (F := F) x0) (val_main_v63 (F := F) x0)
def val_main_v65 (x0 : (⟨S8704x9216, .f32⟩ : BufTy).Contents (Elt F)) : (⟨S2x16x2x8x128x256, .f32⟩ : BufTy).Contents (Elt F) :=
  Host.exp (val_main_v64 (F := F) x0)
def val_main_cst_9 : (⟨S_, .f32⟩ : BufTy).Contents (Elt F) :=
  constant S_ .f32 0x00000000#32
def val_main_v66 (x0 : (⟨S8704x9216, .f32⟩ : BufTy).Contents (Elt F)) : (⟨S2x16x2x8x128, .f32⟩ : BufTy).Contents (Elt F) :=
  Host.reduceAdd (val_main_v65 (F := F) x0) (val_main_cst_9 (F := F)) reducesTo_S2x16x2x8x128x256_S2x16x2x8x128_d5 h_S_
def val_main_v67 (x0 : (⟨S8704x9216, .f32⟩ : BufTy).Contents (Elt F)) : (⟨S2x16x2x8x128x128, .f32⟩ : BufTy).Contents (Elt F) :=
  Host.dotGeneral dot_S2x16x2x256x8x128_S2x16x2x8x128x256_S2x16x2x8x128x128_3_5_5_4_0124_0123 none (val_main_v24 (F := F) x0) (val_main_v65 (F := F) x0)
def val_main_v68 (x0 : (⟨S8704x9216, .f32⟩ : BufTy).Contents (Elt F)) : (⟨S2x16x2x128x8x128, .f32⟩ : BufTy).Contents (Elt F) :=
  transpose S2x16x2x128x8x128 [0, 1, 2, 5, 3, 4] (val_main_v67 (F := F) x0) transposes_S2x16x2x8x128x128_S2x16x2x128x8x128_0_1_2_5_3_4
def val_main_v69 (x0 : (⟨S8704x9216, .f32⟩ : BufTy).Contents (Elt F)) : (⟨S2x16x2x128x8, .f32⟩ : BufTy).Contents (Elt F) :=
  transpose S2x16x2x128x8 [0, 1, 2, 4, 3] (val_main_v66 (F := F) x0) transposes_S2x16x2x8x128_S2x16x2x128x8_0_1_2_4_3
def val_main_v70 (x0 : (⟨S8704x9216, .f32⟩ : BufTy).Contents (Elt F)) : (⟨S2x16x2x128x8x1, .f32⟩ : BufTy).Contents (Elt F) :=
  broadcastInDim S2x16x2x128x8x1 ![0, 1, 2, 3, 4] bcast_S2x16x2x128x8_S2x16x2x128x8x1_0_1_2_3_4 (val_main_v69 (F := F) x0)
def val_main_v71 (x0 : (⟨S8704x9216, .f32⟩ : BufTy).Contents (Elt F)) : (⟨S2x16x2x128x8x128, .f32⟩ : BufTy).Contents (Elt F) :=
  broadcastInDim S2x16x2x128x8x128 ![0, 1, 2, 3, 4, 5] bcast_S2x16x2x128x8x1_S2x16x2x128x8x128_0_1_2_3_4_5 (val_main_v70 (F := F) x0)
def val_main_v72 (x0 : (⟨S8704x9216, .f32⟩ : BufTy).Contents (Elt F)) : (⟨S2x16x2x128x8x128, .f32⟩ : BufTy).Contents (Elt F) :=
  Host.divf (val_main_v68 (F := F) x0) (val_main_v71 (F := F) x0)
def val_main_v73 (x0 : (⟨S8704x9216, .f32⟩ : BufTy).Contents (Elt F)) : (⟨S2x16x2x8x128, .f32⟩ : BufTy).Contents (Elt F) :=
  shapeCast _ (val_main_v62 (F := F) x0) shapeCasts_S2x16x2x8x128x1_S2x16x2x8x128

def val_main_v74 (x0 : (⟨S8704x9216, .f32⟩ : BufTy).Contents (Elt F)) : (⟨S2x16x2x8x128, .f32⟩ : BufTy).Contents (Elt F) :=
  Host.log (val_main_v66 (F := F) x0)
def val_main_v75 (x0 : (⟨S8704x9216, .f32⟩ : BufTy).Contents (Elt F)) : (⟨S2x16x2x8x128, .f32⟩ : BufTy).Contents (Elt F) :=
  addf (val_main_v73 (F := F) x0) (val_main_v74 (F := F) x0)
def val_main_v76 (x0 : (⟨S8704x9216, .f32⟩ : BufTy).Contents (Elt F)) : (⟨S2x16x2x128x8, .f32⟩ : BufTy).Contents (Elt F) :=
  transpose S2x16x2x128x8 [0, 1, 2, 4, 3] (val_main_v75 (F := F) x0) transposes_S2x16x2x8x128_S2x16x2x128x8_0_1_2_4_3
def val_main_v77 (x0 : (⟨S8704x9216, .f32⟩ : BufTy).Contents (Elt F)) : (⟨S2x16x256x8x128, .f32⟩ : BufTy).Contents (Elt F) :=
  shapeCast _ (val_main_v72 (F := F) x0) shapeCasts_S2x16x2x128x8x128_S2x16x256x8x128

def val_main_v78 (x0 : (⟨S8704x9216, .f32⟩ : BufTy).Contents (Elt F)) : (⟨S2x256x16x8x128, .f32⟩ : BufTy).Contents (Elt F) :=
  transpose S2x256x16x8x128 [0, 2, 1, 3, 4] (val_main_v77 (F := F) x0) transposes_S2x16x256x8x128_S2x256x16x8x128_0_2_1_3_4
def val_main_v79 (x0 : (⟨S8704x9216, .f32⟩ : BufTy).Contents (Elt F)) : (⟨S2x4096x8x128, .f32⟩ : BufTy).Contents (Elt F) :=
  shapeCast _ (val_main_v78 (F := F) x0) shapeCasts_S2x256x16x8x128_S2x4096x8x128
def val_main_v80 (x0 : (⟨S8704x9216, .f32⟩ : BufTy).Contents (Elt F)) : (⟨S2x16x256x8, .f32⟩ : BufTy).Contents (Elt F) :=
  shapeCast _ (val_main_v76 (F := F) x0) shapeCasts_S2x16x2x128x8_S2x16x256x8
def val_main_v81 (x0 : (⟨S8704x9216, .f32⟩ : BufTy).Contents (Elt F)) : (⟨S2x256x16x8, .f32⟩ : BufTy).Contents (Elt F) :=
  transpose S2x256x16x8 [0, 2, 1, 3] (val_main_v80 (F := F) x0) transposes_S2x16x256x8_S2x256x16x8_0_2_1_3
def val_main_v82 (x0 : (⟨S8704x9216, .f32⟩ : BufTy).Contents (Elt F)) : (⟨S2x4096x8, .f32⟩ : BufTy).Contents (Elt F) :=
  shapeCast _ (val_main_v81 (F := F) x0) shapeCasts_S2x256x16x8_S2x4096x8
def val_main_v83 (x0 : (⟨S8704x9216, .f32⟩ : BufTy).Contents (Elt F)) : (⟨S2x4096x8x1, .f32⟩ : BufTy).Contents (Elt F) :=
  broadcastInDim S2x4096x8x1 ![0, 1, 2] bcast_S2x4096x8_S2x4096x8x1_0_1_2 (val_main_v82 (F := F) x0)
def val_main_v84 (x0 : (⟨S8704x9216, .f32⟩ : BufTy).Contents (Elt F)) : (⟨S2x4096x8x128, .f32⟩ : BufTy).Contents (Elt F) :=
  broadcastInDim S2x4096x8x128 ![0, 1, 2, 3] bcast_S2x4096x8x1_S2x4096x8x128_0_1_2_3 (val_main_v83 (F := F) x0)
def val_main_v85 (x0 : (⟨S8704x9216, .f32⟩ : BufTy).Contents (Elt F)) : (⟨S512x16384, .f32⟩ : BufTy).Contents (Elt F) :=
  shapeCast _ (val_main_v79 (F := F) x0) shapeCasts_S2x4096x8x128_S512x16384
def val_main_c_10 : (⟨S_, .i32⟩ : BufTy).Contents (Elt F) :=
  constantI S_ 32 0#32
def val_main_call3_v0 : (⟨S_, .f32⟩ : BufTy).Contents (Elt F) :=
  sitofp .f32 (val_main_c_10 (F := F))
def val_main_v86 (x0 : (⟨S8704x9216, .f32⟩ : BufTy).Contents (Elt F)) : (⟨S544x16384, .f32⟩ : BufTy).Contents (Elt F) :=
  pad S544x16384 ![0, 0] ![32, 0] ![0, 0] (val_main_v85 (F := F) x0) (val_main_call3_v0 (F := F)) pads_S512x16384_S544x16384_0320_000 h_S_

def val_main_v87 (x0 : (⟨S8704x9216, .f32⟩ : BufTy).Contents (Elt F)) : (⟨S512x16384, .f32⟩ : BufTy).Contents (Elt F) :=
  shapeCast _ (val_main_v84 (F := F) x0) shapeCasts_S2x4096x8x128_S512x16384
def val_main_c_11 : (⟨S_, .i32⟩ : BufTy).Contents (Elt F) :=
  constantI S_ 32 0#32
def val_main_call4_v0 : (⟨S_, .f32⟩ : BufTy).Contents (Elt F) :=
  sitofp .f32 (val_main_c_11 (F := F))
def val_main_v88 (x0 : (⟨S8704x9216, .f32⟩ : BufTy).Contents (Elt F)) : (⟨S544x16384, .f32⟩ : BufTy).Contents (Elt F) :=
  pad S544x16384 ![0, 0] ![32, 0] ![0, 0] (val_main_v87 (F := F) x0) (val_main_call4_v0 (F := F)) pads_S512x16384_S544x16384_0320_000 h_S_

end Terms

variable (X : FVec Ideal S8704x9216 .f32)
variable (b : Fin 2) (r : Fin 16) (n : Fin 2) (h : Fin 8) (qi x d : Fin 128)

/-- A query. -/
theorem q_at : val_main_v10 (F := Ideal) X (ix6 b r n qi h d) = rd X (tok 16 b r (n * 128 + qi)) (2 * 3072 + h * 128 + d) := by
  pointwise [val_main_v0, val_main_v1, val_main_v2, val_main_v3, val_main_v4, val_main_v5, val_main_v6, val_main_v7, val_main_v8, val_main_v9, val_main_v10]
  exact rd_of _ _ _ _ (by simp [tok]; try omega) (by simp)

/-- A key of the block before the query's, where there is one. -/
theorem k_lo (hn : 0 < n.val) : val_main_v17 (F := Ideal) X (ix6 b r n (⟨x, by omega⟩ : Fin 256) h d)
    = rd X (tok 16 b r ((n - 1) * 128 + x)) (2 * 3072 + 1024 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17]
  rw [dif_pos (by omega)]
  exact rd_of _ _ _ _ (by simp [tok]; try omega) (by simp)

/-- A key of the query's own block. -/
theorem k_hi : val_main_v17 (F := Ideal) X (ix6 b r n (⟨128 + x, by omega⟩ : Fin 256) h d)
    = rd X (tok 16 b r (n * 128 + x)) (2 * 3072 + 1024 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17]
  rw [dif_pos (by omega)]
  exact rd_of _ _ _ _ (by simp [tok]; try omega) (by simp)

/-- A value of the block before the query's, where there is one. -/
theorem v_lo (hn : 0 < n.val) : val_main_v24 (F := Ideal) X (ix6 b r n (⟨x, by omega⟩ : Fin 256) h d)
    = rd X (tok 16 b r ((n - 1) * 128 + x)) (2 * 3072 + 2048 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17, val_main_v18, val_main_v19, val_main_c_0, val_main_call1_v0, val_main_v20, val_main_v21, val_main_v22, val_main_v23, val_main_v24]
  rw [dif_pos (by omega)]
  exact rd_of _ _ _ _ (by simp [tok]; try omega) (by simp)

/-- A value of the query's own block. -/
theorem v_hi : val_main_v24 (F := Ideal) X (ix6 b r n (⟨128 + x, by omega⟩ : Fin 256) h d)
    = rd X (tok 16 b r (n * 128 + x)) (2 * 3072 + 2048 + h * 128 + d) := by
  pointwise [val_main_v0, val_main_v1, val_main_v2, val_main_v3, val_main_v4, val_main_v5, val_main_v6, val_main_v7, val_main_v8, val_main_v9, val_main_v10, val_main_v11, val_main_v12, val_main_c, val_main_call0_v0, val_main_v13, val_main_v14, val_main_v15, val_main_v16, val_main_v17, val_main_v18, val_main_v19, val_main_c_0, val_main_call1_v0, val_main_v20, val_main_v21, val_main_v22, val_main_v23, val_main_v24]
  rw [dif_pos (by omega)]
  exact rd_of _ _ _ _ (by simp [tok]; try omega) (by simp)

/-- A masked score. -/
theorem s_at (y : Fin 256) : val_main_v60 (F := Ideal) X (ix6 b r n h qi y)
    = if (y.val ≤ qi.val + 128 ∧ qi.val ≤ y.val) ∧ 128 ≤ n.val * 128 + y.val then
        (∑ d, val_main_v10 (F := Ideal) X (ix6 b r n qi h d) * val_main_v17 (F := Ideal) X (ix6 b r n y h d)) * scale
      else ⊥ := by
  pointwise [val_main_v25, val_main_cst, val_main_v26, val_main_v27, val_main_v28, val_main_v29, val_main_v30, val_main_v31, val_main_v32, val_main_c_1, val_main_v33, val_main_v34, val_main_v35, val_main_v36, val_main_v37, val_main_v38, val_main_v39, val_main_c_2, val_main_v40, val_main_v41, val_main_v42, val_main_v43, val_main_v44, val_main_v45, val_main_c_3, val_main_v46, val_main_v47, val_main_c_4, val_main_v48, val_main_v49, val_main_c_5, val_main_v50, val_main_v51, val_main_v52, val_main_c_6, val_main_v53, val_main_v54, val_main_v55, val_main_v56, val_main_v57, val_main_v58, val_main_v59, val_main_cst_7, val_main_call2_v0, val_main_call2_v1, val_main_call2_v2, val_main_v60]
  exact (mask_band n qi y (by omega) (by omega) (by omega) _ _).trans (if_congr Iff.rfl (div_root _) ninf)

/-- A score against the block before the query's. -/
theorem s_lo : val_main_v60 (F := Ideal) X (ix6 b r n h qi (⟨x, by omega⟩ : Fin 256)) = sP X 16 2 b r n qi h x := by
  rw [s_at, mask_lo n qi x (by omega) (by omega) (by omega), sP]
  split_ifs with hc
  · exact congrArg (· * scale) (Finset.sum_congr rfl fun d _ => congrArg₂ (· * ·) (q_at X b r n h qi d) (k_lo X b r n h x d hc.2))
  · rfl

/-- A score against the query's own block. -/
theorem s_hi : val_main_v60 (F := Ideal) X (ix6 b r n h qi (⟨128 + x, by omega⟩ : Fin 256)) = sC X 16 2 b r n qi h x := by
  rw [s_at, mask_hi n qi x (by omega) (by omega) (by omega), sC]
  split_ifs with hc
  · exact congrArg (· * scale) (Finset.sum_congr rfl fun d _ => congrArg₂ (· * ·) (q_at X b r n h qi d) (k_hi X b r n h x d))
  · rfl

end Cert.Dil2RefIdeal.At

end
-- ==== Proof.RefAt2.lean ====
/- The window of dilation 16: the reference at one query. -/
module
public import proofs.«01_k».proof.Proof.Ref2

@[expose] public section

set_option maxRecDepth 16384

noncomputable section

namespace Cert.Dil2RefIdeal.At

open Idealize.ShloMosaic Idealize.ShloMosaic.TcCoe Idealize.SL.Sem
open Cert.Dil2RefIdeal Cert.Dil2RefIdeal.Gen Cert.Dil2RefIdeal.Value Cert.Window

variable (X : FVec Ideal S8704x9216 .f32)
variable (b : Fin 2) (r : Fin 16) (n : Fin 2) (h : Fin 8) (qi x d : Fin 128)

attribute [local irreducible] val_main_v60 val_main_v24

/-- The attention's output. -/
theorem o_at : val_main_v72 (F := Ideal) X (ix6 b r n qi h d) = outAt X 16 2 b r n qi h d := by
  pointwise [val_main_cst_8, val_main_v61, val_main_v62, val_main_v63, val_main_v64, val_main_v65, val_main_cst_9, val_main_v66, val_main_v67, val_main_v68, val_main_v69, val_main_v70, val_main_v71, val_main_v72]
  rw [ninf]
  exact out_halves (fun y => val_main_v60 (F := Ideal) X (ix6 b r n h qi y)) (fun y => val_main_v24 (F := Ideal) X (ix6 b r n y h d))
    (sP X 16 2 b r n qi h) (sC X 16 2 b r n qi h) _ _ (fun x => s_lo X b r n h qi x) (fun x => s_hi X b r n h qi x)
    (fun x hx => v_lo X b r n h x d (by by_contra h0; exact hx (if_neg (fun e => h0 e.2)))) (fun x _ => v_hi X b r n h x d)

/-- The largest score. -/
theorem m_at : val_main_v61 (F := Ideal) X (ix5 b r n h qi)
    = Finset.univ.fold max ⊥ (fun y => val_main_v60 (F := Ideal) X (ix6 b r n h qi y)) := by
  exact max6 reducesTo_S2x16x2x8x128x256_S2x16x2x8x128_d5 h_S_ (val_main_v60 (F := Ideal) X) (val_main_cst_8 (F := Ideal)) b r n h qi ninf

/-- The sum of the exponentials. -/
theorem d_at : val_main_v66 (F := Ideal) X (ix5 b r n h qi)
    = ∑ y, Ideal.exp (val_main_v60 (F := Ideal) X (ix6 b r n h qi y) - val_main_v61 (F := Ideal) X (ix5 b r n h qi)) := by
  pointwise [val_main_v62, val_main_v63, val_main_v64, val_main_v65, val_main_cst_9, val_main_v66]

/-- A maximum plus a logarithm, the maximum through its extra axis of one. -/
theorem l_gen (M D : FVec Ideal S2x16x2x8x128 .f32) :
    addf (shapeCast S2x16x2x8x128 (broadcastInDim S2x16x2x8x128x1 ![0, 1, 2, 3, 4] bcast_S2x16x2x8x128_S2x16x2x8x128x1_0_1_2_3_4 M)
        shapeCasts_S2x16x2x8x128x1_S2x16x2x8x128) (Host.log D) (ix5 b r n h qi)
      = M (ix5 b r n h qi) + Ideal.log (D (ix5 b r n h qi)) := by
  pointwise

/-- The log-sum-exp of the scores, from the largest and the sum. -/
theorem l_of : val_main_v75 (F := Ideal) X (ix5 b r n h qi)
    = val_main_v61 (F := Ideal) X (ix5 b r n h qi) + Ideal.log (val_main_v66 (F := Ideal) X (ix5 b r n h qi)) := by
  exact l_gen b r n h qi (val_main_v61 (F := Ideal) X) (val_main_v66 (F := Ideal) X)

/-- The log-sum-exp of the scores. -/
theorem l_at : val_main_v75 (F := Ideal) X (ix5 b r n h qi) = lseAt X 16 2 b r n qi h := by
  rw [l_of, d_at, m_at]
  exact lse_halves (fun y => val_main_v60 (F := Ideal) X (ix6 b r n h qi y)) (sP X 16 2 b r n qi h) (sC X 16 2 b r n qi h) (fun x => s_lo X b r n h qi x) (fun x => s_hi X b r n h qi x)

end Cert.Dil2RefIdeal.At

end
-- ==== Proof.RefOut2.lean ====
/- The window of dilation 16: the two results of the reference at an element. -/
module
public import proofs.«01_k».proof.Proof.RefAt2

@[expose] public section

set_option maxRecDepth 16384

noncomputable section

namespace Cert.Dil2RefIdeal.At

open Idealize.ShloMosaic Idealize.ShloMosaic.TcCoe Idealize.SL.Sem
open Cert.Dil2RefIdeal Cert.Dil2RefIdeal.Gen Cert.Dil2RefIdeal.Value Cert.Window

variable (X : FVec Ideal S8704x9216 .f32)
variable (b : Fin 2) (r : Fin 16) (n : Fin 2) (h : Fin 8) (qi x d : Fin 128)

attribute [local irreducible] val_main_v72 val_main_v75

/-- The first result, where its row is a token's. -/
theorem res_o (i : (⟨2, ![544, 16384]⟩ : Shape).Idx) (hi : (i 0).val < 512) : val_main_v86 (F := Ideal) X i
    = outAt X 16 2 ((i 0).val / 256) ((i 1).val / 1024) ((i 0).val % 256 / 128) ((i 0).val % 128) ((i 1).val / 128 % 8) ((i 1).val % 128) := by
  obtain ⟨R, C, rfl⟩ : ∃ R C, i = ix2 R C := ⟨i 0, i 1, funext fun a => by match a with | ⟨0, _⟩ => rfl | ⟨1, _⟩ => rfl⟩
  pointwise [val_main_v77, val_main_v78, val_main_v79, val_main_v85, val_main_c_10, val_main_call3_v0, val_main_v86]
  have hR : (R : ℕ) < 512 := hi
  rw [dif_pos hR, o_at]
  show outAt X 16 2 _ _ _ _ _ _ = outAt X 16 2 ((R : ℕ) / 256) ((C : ℕ) / 1024) ((R : ℕ) % 256 / 128) ((R : ℕ) % 128) ((C : ℕ) / 128 % 8) ((C : ℕ) % 128)
  congr 1 <;> simp <;> omega

/-- The second result, where its row is a token's. -/
theorem res_l (i : (⟨2, ![544, 16384]⟩ : Shape).Idx) (hi : (i 0).val < 512) : val_main_v88 (F := Ideal) X i
    = lseAt X 16 2 ((i 0).val / 256) ((i 1).val / 1024) ((i 0).val % 256 / 128) ((i 0).val % 128) ((i 1).val / 128 % 8) := by
  obtain ⟨R, C, rfl⟩ : ∃ R C, i = ix2 R C := ⟨i 0, i 1, funext fun a => by match a with | ⟨0, _⟩ => rfl | ⟨1, _⟩ => rfl⟩
  pointwise [val_main_v76, val_main_v80, val_main_v81, val_main_v82, val_main_v83, val_main_v84, val_main_v87, val_main_c_11, val_main_call4_v0, val_main_v88]
  have hR : (R : ℕ) < 512 := hi
  rw [dif_pos hR, l_at]
  show lseAt X 16 2 _ _ _ _ _ = lseAt X 16 2 ((R : ℕ) / 256) ((C : ℕ) / 1024) ((R : ℕ) % 256 / 128) ((R : ℕ) % 128) ((C : ℕ) / 128 % 8)
  congr 1 <;> simp <;> omega

end Cert.Dil2RefIdeal.At

end
-- ==== Proof.Claim2.lean ====
/- The claims about the window of dilation 16. -/
module
public import proofs.«01_k».proof.Defs
public import proofs.«01_k».proof.Proof.Gen.Dil2Ideal.Value
public import proofs.«01_k».proof.Proof.Gen.Dil2RefIdeal.Run
public import proofs.«01_k».proof.Proof.Gen.On_rows2
public import proofs.«01_k».proof.Proof.Out2
public import proofs.«01_k».proof.Proof.RefOut2
public import Idealize.ShloMosaic.Lib.Claim

@[expose] public section

set_option maxRecDepth 16384

noncomputable section

namespace Cert.Dil2RefIdeal.At

open Idealize.ShloMosaic Idealize.ShloMosaic.TcCoe Idealize.SL.Sem
open Cert.Dil2RefIdeal Cert.Dil2RefIdeal.Gen Cert.Dil2RefIdeal.Value Cert.Window

variable (m : (ℓ : Loc nD τ sig) → Buf (Elt Ideal) ℓ) (c : Dev nD)

/-- The first result is the named chain of operations. -/
theorem res_86 : res_main_v86 m c = val_main_v86 (F := Ideal) (m ((c.tc : Thread nD τ).loc main_arg0)) := by
  unfold res_main_v86
  rfl

/-- The second result is the named chain of operations. -/
theorem res_88 : res_main_v88 m c = val_main_v88 (F := Ideal) (m ((c.tc : Thread nD τ).loc main_arg0)) := by
  unfold res_main_v88
  rfl

/-- The reference runs and leaves its argument as it was; it has no semaphore. -/
theorem quiescent : Cert.quiescent_Dil2RefIdeal := by
  intro m g _
  haveI : IsEmpty (SemLoc sig) := Fintype.card_eq_zero_iff.mp (by decide)
  exact (θ_run _ _ _).mono (fun r h => ⟨fun c => (h c).2.2, funext fun s => isEmptyElim s.2⟩) (Cert.Dil2RefIdeal.Value.run m g)

/-- A row the mask takes is a row of a token. -/
theorem mask_row (i : Cert.On_rows2.S544x16384.Idx)
    (h : cmpi .slt (iotaInDim Cert.On_rows2.S544x16384 32 0)
      (broadcastInDim Cert.On_rows2.S544x16384 ![] Cert.On_rows2.Gen.bcast_S_S544x16384 (constantI Cert.On_rows2.S_ 32 512#32)) i = 1#1) :
    (i 0).val < 512 := by
  have hi : (i 0).val < 544 := (i 0).isLt
  change IntOp.cmpi CmpIPredicate.slt (BitVec.ofNat 32 (i 0).val) 512#32 = 1#1 at h
  have e : ∀ b : Bool, (BitVec.ofBool b = 1#1) ↔ b = true := by decide
  simp only [IntOp.cmpi, BitVec.slt, e, nat_int (i 0).val (by omega), decide_eq_true_eq] at h
  rw [show (512#32 : BitVec 32).toInt = 512 by decide] at h
  omega

/-- The kernel and the reference end with the same values in every row of a token. -/
theorem algebraic : Cert.algebraic_Dil2Ideal_Dil2RefIdeal_on_rows2 := by
  intro m g m' g' _ hagree
  refine ⟨fun c => (Cert.Dil2Ideal.Gen.dats m 0 c).arrAt 5 Cert.Dil2Ideal.cfg0.N,
    fun c => (Cert.Dil2Ideal.Gen.dats m 0 c).arrAt 6 Cert.Dil2Ideal.cfg0.N, ?_, ?_⟩
  · exact (θ_run _ _ _).mono (fun r h c => ⟨fun i _ => congrFun (h c).1 i, fun i _ => congrFun (h c).2.1 i, (h c).2.2⟩)
      (Cert.Dil2Ideal.Value.run_blocks m g)
  · refine (θ_run _ _ _).mono (fun r h c => ⟨fun i hi => ?_, fun i hi => ?_, (h c).2.2⟩) (Cert.Dil2RefIdeal.Value.run m' g')
    · have hrow := mask_row i hi
      rw [(h c).1, res_86, hagree c]
      exact (res_o _ i hrow).trans (Cert.Dil2Ideal.At.final5 m c i hrow).symm
    · have hrow := mask_row i hi
      rw [(h c).2.1, res_88, hagree c]
      exact (res_l _ i hrow).trans (Cert.Dil2Ideal.At.final6 m c i hrow).symm

end Cert.Dil2RefIdeal.At

end
-- ==== Proof.Matmul.lean ====
/- Products of matrices over the extended reals, at an element. -/
module
public import Idealize.ShloMosaic.Lib.Claim
public import Idealize.ShloMosaic.Lib.Pipeline.ValueKit
public import Idealize.ShloMosaic.Lib.Pipeline.ReadBack

@[expose] public section

noncomputable section

namespace Cert.Matmul

open Idealize.ShloMosaic

variable {M K N : ℕ}

/-- One element of a product. -/
def mm (a : FVec Ideal ⟨2, ![M, K]⟩ .bf16) (w : FVec Ideal ⟨2, ![K, N]⟩ .f32) (i : Fin M) (j : Fin N) : EReal :=
  ∑ k : Fin K, a (ix2 i k) * w (ix2 k j)

/-- A stream and a product added to it. -/
def resid (a : FVec Ideal ⟨2, ![M, K]⟩ .bf16) (w : FVec Ideal ⟨2, ![K, N]⟩ .f32) (x : FVec Ideal ⟨2, ![M, N]⟩ .f32) :
    FVec Ideal ⟨2, ![M, N]⟩ .f32 := fun i => x i + mm a w (i 0) (i 1)

/-- A row of a product, at a column. -/
def row (a : FVec Ideal ⟨2, ![M, K]⟩ .bf16) (w : FVec Ideal ⟨2, ![K, N]⟩ .f32) (i : Fin M) (c : ℕ) : EReal :=
  if h : c < N then mm a w i ⟨c, h⟩ else 0

/-- An element of a product is its row's at its column. -/
theorem row_eq (a : FVec Ideal ⟨2, ![M, K]⟩ .bf16) (w : FVec Ideal ⟨2, ![K, N]⟩ .f32) (i : Fin M) (j : Fin N) (c : ℕ) (h : c = j.val) :
    ∑ k : Fin K, a (ix2 i k) * w (ix2 k j) = row a w i c := by
  subst h
  rw [row, dif_pos j.isLt, mm]

end Cert.Matmul

end
-- ==== Proof.OutProjA.lean ====
/- The output projection of the first attention: what its pipeline leaves at an element. -/
module
public import proofs.«01_k».proof.Defs
public import proofs.«01_k».proof.Proof.Gen.OutAIdeal.Value
public import proofs.«01_k».proof.Proof.Gen.OutARefIdeal.Run
public import proofs.«01_k».proof.Proof.Matmul
public import Idealize.ShloMosaic.Lib.Pipeline.ValueKit

@[expose] public section

set_option maxRecDepth 16384

noncomputable section

namespace Cert.OutAIdeal.At

open Idealize.ShloMosaic Idealize.ShloMosaic.TcCoe Idealize.SL.Sem
open Cert.OutAIdeal Cert.OutAIdeal.Gen Cert.Matmul
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val % 17, 0] ∧ win0_1.index t = ![0, t.val / 17]
    ∧ win0_2.index t = ![t.val % 17, t.val / 17] ∧ win0_3.index t = ![t.val % 17, t.val / 17] :=
  (by decide +kernel : ∀ t : Fin grid0.N, _)

/-- After a point, the scratch holds the columns of the weights that the point's outputs stand in. -/
theorem scratch (n : ℕ) : ∀ (hn : n < cfg0.N) (y : S1024x512.Idx) (z : S1024x2048.Idx), (z 0).val = (y 0).val →
    (z 1).val = n / 17 * 512 + (y 1).val → (outsAt0 m c n hn).2 y = (m ((c.tc : Thread nD τ).loc main_arg1)) z := by
  induction n using Nat.strong_induction_on with
  | _ n ih =>
    intro hn y z z0 z1
    by_cases h0 : n % 17 = 0
    · rw [outsAt0_A m c ⟨n, hn⟩ h0]
      frame_out
      pointwise [k0_pay1]
      blk_ext [iblk, V, idx ⟨n, hn⟩]
    · rw [outsAt0_B m c ⟨n, hn⟩ h0]
      frame_out
      exact ih (n - 1) (by omega) _ y z z0 (by rw [z1]; omega)

/-- The result: the residual stream and the product of the attention's outputs with the weights. -/
theorem final3 : (dats m 0 c).arrAt 3 cfg0.N
    = resid (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 68 := lt_of_lt_of_eq t.isLt N_0
  blk_simp
  rw [after0_3]
  by_cases h0 : t.val % 17 = 0
  · rw [outsAt0_A m c t h0]
    frame_out
    pointwise [k0_pay2, k0_pay1, resid, mm]
    blk_point [iblk, V, idx t]
  · rw [outsAt0_B m c t h0]
    frame_out
    pointwise [k0_pay2, resid, mm]
    refine congrArg₂ (· + ·) (by blk_ext [iblk, V, idx t]) (Finset.sum_congr rfl fun k _ => congrArg₂ (· * ·) (by blk_ext [iblk, V, idx t]) ?_)
    rw [read_unread_whole]
    refine scratch m c _ _ _ _ rfl ?_
    blk_simp [idx t]
    omega

end Cert.OutAIdeal.At

namespace Cert.OutARefIdeal.At

open Idealize.ShloMosaic Idealize.ShloMosaic.TcCoe Idealize.SL.Sem
open Cert.OutARefIdeal Cert.OutARefIdeal.Gen Cert.Matmul

/-- The reference's result is the same sum. -/
theorem val_eq (o : FVec Ideal S8704x1024 .bf16) (w : FVec Ideal S1024x2048 .f32) (x : FVec Ideal S8704x2048 .f32) :
    addf x (Host.dotGeneral dot_S8704x1024_S1024x2048_S8704x2048_1_0_0_1_n_n none (extf .f32 o bitsLt_bf16_f32) w) = resid o w x := by
  funext i
  pointwise [resid, mm]

/-- The reference runs and leaves its arguments as they were; it has no semaphore. -/
theorem quiescent : Cert.quiescent_OutARefIdeal := by
  intro m g _
  haveI : IsEmpty (SemLoc sig) := Fintype.card_eq_zero_iff.mp (by decide)
  exact (θ_run _ _ _).mono (fun r h => ⟨fun c => (h c).2, funext fun s => isEmptyElim s.2⟩) (Cert.OutARefIdeal.Value.run m g)

/-- The kernel and the reference end with the same values. -/
theorem algebraic : Cert.algebraic_OutAIdeal_OutARefIdeal := by
  intro m g m' g' _ hagree
  refine ⟨fun c => (Cert.OutAIdeal.Gen.dats m 0 c).arrAt 3 Cert.OutAIdeal.cfg0.N, Cert.OutAIdeal.Value.run_blocks m g, ?_⟩
  refine (θ_run _ _ _).mono (fun r h c => ⟨?_, (h c).2⟩) (Cert.OutARefIdeal.Value.run m' g')
  rw [(h c).1, (hagree c).1, (hagree c).2.1, (hagree c).2.2]
  exact (val_eq _ _ _).trans (Cert.OutAIdeal.At.final3 m c).symm

end Cert.OutARefIdeal.At

end
-- ==== Proof.OutProjB.lean ====
/- The output projection of the second attention: what its pipeline leaves at an element. -/
module
public import proofs.«01_k».proof.Defs
public import proofs.«01_k».proof.Proof.Gen.OutBIdeal.Value
public import proofs.«01_k».proof.Proof.Gen.OutBRefIdeal.Run
public import proofs.«01_k».proof.Proof.Matmul
public import Idealize.ShloMosaic.Lib.Pipeline.ValueKit

@[expose] public section

set_option maxRecDepth 16384

noncomputable section

namespace Cert.OutBIdeal.At

open Idealize.ShloMosaic Idealize.ShloMosaic.TcCoe Idealize.SL.Sem
open Cert.OutBIdeal Cert.OutBIdeal.Gen Cert.Matmul
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val % 17, 0] ∧ win0_1.index t = ![0, t.val / 17]
    ∧ win0_2.index t = ![t.val % 17, t.val / 17] ∧ win0_3.index t = ![t.val % 17, t.val / 17] :=
  (by decide +kernel : ∀ t : Fin grid0.N, _)

/-- After a point, the scratch holds the columns of the weights that the point's outputs stand in. -/
theorem scratch (n : ℕ) : ∀ (hn : n < cfg0.N) (y : S2048x512.Idx) (z : S2048x2048.Idx), (z 0).val = (y 0).val →
    (z 1).val = n / 17 * 512 + (y 1).val → (outsAt0 m c n hn).2 y = (m ((c.tc : Thread nD τ).loc main_arg1)) z := by
  induction n using Nat.strong_induction_on with
  | _ n ih =>
    intro hn y z z0 z1
    by_cases h0 : n % 17 = 0
    · rw [outsAt0_A m c ⟨n, hn⟩ h0]
      frame_out
      pointwise [k0_pay1]
      blk_ext [iblk, V, idx ⟨n, hn⟩]
    · rw [outsAt0_B m c ⟨n, hn⟩ h0]
      frame_out
      exact ih (n - 1) (by omega) _ y z z0 (by rw [z1]; omega)

/-- The result: the residual stream and the product of the attention's outputs with the weights. -/
theorem final3 : (dats m 0 c).arrAt 3 cfg0.N
    = resid (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 68 := lt_of_lt_of_eq t.isLt N_0
  blk_simp
  rw [after0_3]
  by_cases h0 : t.val % 17 = 0
  · rw [outsAt0_A m c t h0]
    frame_out
    pointwise [k0_pay2, k0_pay1, resid, mm]
    blk_point [iblk, V, idx t]
  · rw [outsAt0_B m c t h0]
    frame_out
    pointwise [k0_pay2, resid, mm]
    refine congrArg₂ (· + ·) (by blk_ext [iblk, V, idx t]) (Finset.sum_congr rfl fun k _ => congrArg₂ (· * ·) (by blk_ext [iblk, V, idx t]) ?_)
    rw [read_unread_whole]
    refine scratch m c _ _ _ _ rfl ?_
    blk_simp [idx t]
    omega

end Cert.OutBIdeal.At

namespace Cert.OutBRefIdeal.At

open Idealize.ShloMosaic Idealize.ShloMosaic.TcCoe Idealize.SL.Sem
open Cert.OutBRefIdeal Cert.OutBRefIdeal.Gen Cert.Matmul

/-- The reference's result is the same sum. -/
theorem val_eq (o : FVec Ideal S8704x2048 .bf16) (w : FVec Ideal S2048x2048 .f32) (x : FVec Ideal S8704x2048 .f32) :
    addf x (Host.dotGeneral dot_S8704x2048_S2048x2048_S8704x2048_1_0_0_1_n_n none (extf .f32 o bitsLt_bf16_f32) w) = resid o w x := by
  funext i
  pointwise [resid, mm]

/-- The reference runs and leaves its arguments as they were; it has no semaphore. -/
theorem quiescent : Cert.quiescent_OutBRefIdeal := by
  intro m g _
  haveI : IsEmpty (SemLoc sig) := Fintype.card_eq_zero_iff.mp (by decide)
  exact (θ_run _ _ _).mono (fun r h => ⟨fun c => (h c).2, funext fun s => isEmptyElim s.2⟩) (Cert.OutBRefIdeal.Value.run m g)

/-- The kernel and the reference end with the same values. -/
theorem algebraic : Cert.algebraic_OutBIdeal_OutBRefIdeal := by
  intro m g m' g' _ hagree
  refine ⟨fun c => (Cert.OutBIdeal.Gen.dats m 0 c).arrAt 3 Cert.OutBIdeal.cfg0.N, Cert.OutBIdeal.Value.run_blocks m g, ?_⟩
  refine (θ_run _ _ _).mono (fun r h c => ⟨?_, (h c).2⟩) (Cert.OutBRefIdeal.Value.run m' g')
  rw [(h c).1, (hagree c).1, (hagree c).2.1, (hagree c).2.2]
  exact (val_eq _ _ _).trans (Cert.OutBIdeal.At.final3 m c).symm

end Cert.OutBRefIdeal.At

end
-- ==== Proof.PleAt.lean ====
/- The per-layer embedding's gated addition: what its pipeline leaves at an element. -/
module
public import proofs.«01_k».proof.Defs
public import proofs.«01_k».proof.Proof.Gen.PleIdeal.Value
public import proofs.«01_k».proof.Proof.Gen.PleRefIdeal.Run
public import proofs.«01_k».proof.Proof.Matmul
public import Idealize.ShloMosaic.Lib.Pipeline.ValueKit

@[expose] public section

set_option maxRecDepth 16384

noncomputable section

namespace Cert.PleIdeal.At

open Idealize.ShloMosaic Idealize.ShloMosaic.TcCoe Idealize.SL.Sem
open Cert.PleIdeal Cert.PleIdeal.Gen Cert.Matmul
open Idealize.ShloMosaic.Pipeline (Dat)

variable (m : (ℓ : Loc nD τ sig) → Buf (Elt Ideal) ℓ) (c : Dev nD)

/-- The stream with the embedding's projection added, under the gate of the normalised stream. -/
def gated (x : FVec Ideal S8704x2048 .f32) (p : FVec Ideal S8704x256 .f32) (h : FVec Ideal S8704x2048 .bf16)
    (wp : FVec Ideal S256x2048 .f32) (wg : FVec Ideal S2048x2048 .f32) : FVec Ideal S8704x2048 .f32 := fun i =>
  x i + (∑ k : Fin 256, p (ix2 (i 0) k) * wp (ix2 k (i 1))) * Ideal.logistic (mm h wg (i 0) (i 1))

/-- Where each window stands at a grid point. -/
theorem idx : ∀ t : Fin cfg0.N, win0_0.index t = ![t.val % 17, t.val / 17] ∧ win0_1.index t = ![t.val % 17, 0]
    ∧ win0_2.index t = ![t.val % 17, 0] ∧ win0_3.index t = ![0, t.val / 17] ∧ win0_4.index t = ![0, t.val / 17]
    ∧ win0_5.index t = ![t.val % 17, t.val / 17] :=
  (by decide +kernel : ∀ t : Fin grid0.N, _)

/-- After a point, the scratch holds the columns of the gate's weights that the point's outputs stand in. -/
theorem scratch (n : ℕ) : ∀ (hn : n < cfg0.N) (y : S2048x512.Idx) (z : S2048x2048.Idx), (z 0).val = (y 0).val →
    (z 1).val = n / 17 * 512 + (y 1).val → (outsAt0 m c n hn).2 y = (m ((c.tc : Thread nD τ).loc main_arg4)) z := by
  induction n using Nat.strong_induction_on with
  | _ n ih =>
    intro hn y z z0 z1
    by_cases h0 : n % 17 = 0
    · rw [outsAt0_A m c ⟨n, hn⟩ h0]
      frame_out
      pointwise [k0_pay1]
      blk_ext [iblk, V, idx ⟨n, hn⟩]
    · rw [outsAt0_B m c ⟨n, hn⟩ h0]
      frame_out
      exact ih (n - 1) (by omega) _ y z z0 (by rw [z1]; omega)

/-- A point's block, at the index of the result it stands at, whatever the scratch is once it holds the gate's weights. -/
theorem block_at (t : Fin cfg0.N) (B : Vec Ideal S2048x512 .bf16)
    (hB : ∀ (y : S2048x512.Idx) (z : S2048x2048.Idx), (z 0).val = (y 0).val → (z 1).val = t.val / 17 * 512 + (y 1).val → B y = (m ((c.tc : Thread nD τ).loc main_arg4)) z)
    (y : S512x512.Idx) (i : S8704x2048.Idx) (i0 : (i 0).val = t.val % 17 * 512 + (y 0).val) (i1 : (i 1).val = t.val / 17 * 512 + (y 1).val) :
    k0_pay2 (iblk m c 2 t) B (iblk m c 1 t) (iblk m c 3 t) (iblk m c 0 t) y
      = gated (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) i := by
  pointwise [k0_pay2, gated, mm]
  refine congrArg₂ (· + ·) (by blk_ext [iblk, V, idx t]) (congrArg₂ (· * ·) (Finset.sum_congr rfl fun k _ => congrArg₂ (· * ·) (by blk_ext [iblk, V, idx t]) (by blk_ext [iblk, V, idx t]))
    (congrArg Ideal.logistic (Finset.sum_congr rfl fun k _ => congrArg₂ (· * ·) (by blk_ext [iblk, V, idx t]) (hB _ _ rfl i1))))

/-- The result of the pipeline. -/
theorem final5 : (dats m 0 c).arrAt 5 cfg0.N
    = gated (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ (by decide +kernel) fun t hf y => ?_
  have ht : t.val < 68 := lt_of_lt_of_eq t.isLt N_0
  blk_simp
  rw [after0_5]
  by_cases h0 : t.val % 17 = 0
  · rw [outsAt0_A m c t h0]
    frame_out
    refine block_at m c t _ (fun y z z0 z1 => ?_) y _ (by blk_simp [idx t]; try omega) (by blk_simp [idx t]; try omega)
    pointwise [k0_pay1]
    blk_ext [iblk, V, idx t]
  · rw [outsAt0_B m c t h0]
    frame_out
    rw [read_unread_whole]
    exact block_at m c t _ (fun y z z0 z1 => scratch m c _ _ y z z0 (by omega)) y _ (by blk_simp [idx t]; try omega) (by blk_simp [idx t]; try omega)

end Cert.PleIdeal.At

namespace Cert.PleRefIdeal.At

open Idealize.ShloMosaic Idealize.ShloMosaic.TcCoe Idealize.SL.Sem
open Cert.PleRefIdeal Cert.PleRefIdeal.Gen Cert.Matmul Cert.PleIdeal.At

/-- The reference's result is the same gated addition. -/
theorem val_eq (x : FVec Ideal S8704x2048 .f32) (p : FVec Ideal S8704x256 .f32) (h : FVec Ideal S8704x2048 .bf16)
    (wp : FVec Ideal S256x2048 .f32) (wg : FVec Ideal S2048x2048 .f32) :
    addf x (mulf (Host.dotGeneral dot_S8704x256_S256x2048_S8704x2048_1_0_0_1_n_n none p wp) (Host.divf (broadcastInDim S8704x2048 ![] bcast_S_S8704x2048 (constant S_ .f32 0x3F800000#32)) (addf (broadcastInDim S8704x2048 ![] bcast_S_S8704x2048 (constant S_ .f32 0x3F800000#32)) (Host.exp (Host.negf (Host.dotGeneral dot_S8704x2048_S2048x2048_S8704x2048_1_0_0_1_n_n none (extf .f32 h bitsLt_bf16_f32) wg)))))) = gated x p h wp wg := by
  funext i
  pointwise [gated, mm]
  rfl

/-- The reference runs and leaves its arguments as they were; it has no semaphore. -/
theorem quiescent : Cert.quiescent_PleRefIdeal := by
  intro m g _
  haveI : IsEmpty (SemLoc sig) := Fintype.card_eq_zero_iff.mp (by decide)
  exact (θ_run _ _ _).mono (fun r h => ⟨fun c => (h c).2, funext fun s => isEmptyElim s.2⟩) (Cert.PleRefIdeal.Value.run m g)

/-- The kernel and the reference end with the same values. -/
theorem algebraic : Cert.algebraic_PleIdeal_PleRefIdeal := by
  intro m g m' g' _ hagree
  refine ⟨fun c => (Cert.PleIdeal.Gen.dats m 0 c).arrAt 5 Cert.PleIdeal.cfg0.N, Cert.PleIdeal.Value.run_blocks m g, ?_⟩
  refine (θ_run _ _ _).mono (fun r h c => ⟨?_, (h c).2⟩) (Cert.PleRefIdeal.Value.run m' g')
  rw [(h c).1, (hagree c).1, (hagree c).2.1, (hagree c).2.2.1, (hagree c).2.2.2.1, (hagree c).2.2.2.2]
  exact (val_eq _ _ _ _ _).trans (Cert.PleIdeal.At.final5 m c).symm

end Cert.PleRefIdeal.At

end
-- ==== Proof.Rope.lean ====
/- The rotary turn of one block of columns, at an element. -/
module
public import proofs.«01_k».proof.Proof.Matmul
public import proofs.«01_k».proof.Proof.Gen.ProjQIdeal.Skeleton

@[expose] public section

set_option maxRecDepth 16384

noncomputable section

namespace Cert.Rope

open Idealize.ShloMosaic Cert.ProjQIdeal Cert.ProjQIdeal.Gen

/-- The angle of a token at its position, for one of a head's 16 frequencies. -/
def ang (p : IVec ⟨1, ![8704]⟩ 32) (r : Fin 8704) (k : ℕ) : EReal :=
  FloatOps.sitofp (F := Ideal) FTy.f32 (p (ix1 r)) * Ideal.pow (Ideal.ofBits FTy.f32 0x48F42400#32)
    (Ideal.div (-FloatOps.sitofp (F := Ideal) FTy.f32 (BitVec.ofNat 32 k)) (Ideal.ofBits FTy.f32 0x41800000#32))

/-- The cosine of that angle. -/
def cosAt (p : IVec ⟨1, ![8704]⟩ 32) (r : Fin 8704) (k : ℕ) : EReal := Ideal.cos (ang p r k)

/-- The sine of that angle. -/
def sinAt (p : IVec ⟨1, ![8704]⟩ 32) (r : Fin 8704) (k : ℕ) : EReal := Ideal.sin (ang p r k)

variable (f C S : ℕ → EReal)

/-- A row turned, at a column: within a head of 128 columns the first 16 pair with the 16 that follow them, the others stay.
    `f` is the row, `C` and `S` the cosines and sines of its angles. -/
def turned (c : ℕ) : EReal :=
  if c % 128 < 16 then f c * C (c % 128) - f (c + 16) * S (c % 128)
  else if c % 128 < 32 then f c * C (c % 128 - 16) + f (c - 16) * S (c % 128 - 16)
  else f c

/-- The first 16 columns of a head. -/
theorem turned_lo (c : ℕ) (h : c % 128 < 16) : turned f C S c = f c * C (c % 128) - f (c + 16) * S (c % 128) := by
  rw [turned, if_pos h]

/-- The next 16. -/
theorem turned_mid (c : ℕ) (h : ¬c % 128 < 16) (h' : c % 128 < 32) :
    turned f C S c = f c * C (c % 128 - 16) + f (c - 16) * S (c % 128 - 16) := by
  rw [turned, if_neg h, if_pos h']

/-- The others. -/
theorem turned_hi (c : ℕ) (h : ¬c % 128 < 32) : turned f C S c = f c := by
  rw [turned, if_neg (by omega), if_neg h]

/-- A row of the table of factors. -/
def table (d : ℕ) : EReal :=
  if d < 16 then C d else if d < 32 then C (d - 16) else if d < 128 then 1 else if d < 144 then -(S (d - 128))
  else if d < 272 then 0 else if d < 288 then S (d - 272) else 0

/-- A column times its factor and its two neighbours times theirs is the row turned. -/
theorem turned_eq (c b c₁ l r d₀ d₁ d₂ : ℕ) (hb : b < 128) (hc : c % 128 = b) (h₁ : c₁ = c) (hl : l = c - b + (b + 16) % 128) (hr : r = c - b + (b + 112) % 128)
    (e₀ : d₀ = b) (e₁ : d₁ = 128 + b) (e₂ : d₂ = 256 + b) :
    f c₁ * table C S d₀ + f l * table C S d₁ + f r * table C S d₂ = turned f C S c := by
  subst e₀ e₁ e₂ h₁
  unfold turned table
  rw [hc]
  by_cases h16 : d₀ < 16
  · rw [if_pos h16, if_neg (by omega), if_neg (by omega), if_neg (by omega), if_pos (by omega), if_neg (by omega), if_neg (by omega), if_neg (by omega),
      if_neg (by omega), if_pos (by omega), if_pos h16, mul_zero, add_zero, show l = c₁ + 16 by omega, show 128 + d₀ - 128 = d₀ by omega, mul_neg, sub_eq_add_neg]
  by_cases h32 : d₀ < 32
  · rw [if_neg h16, if_pos h32, if_neg (by omega), if_neg (by omega), if_neg (by omega), if_neg (by omega), if_pos (by omega), if_neg (by omega),
      if_neg (by omega), if_neg (by omega), if_neg (by omega), if_neg (by omega), if_pos (by omega), if_neg h16, if_pos h32, mul_zero, add_zero, show r = c₁ - 16 by omega,
      show 256 + d₀ - 272 = d₀ - 16 by omega]
  · rw [if_neg h16, if_neg h32, if_pos hb, if_neg (by omega), if_neg (by omega), if_neg (by omega), if_neg (by omega), if_pos (by omega), if_neg (by omega),
      if_neg (by omega), if_neg (by omega), if_neg (by omega), if_neg (by omega), if_neg (by omega), if_neg h16, if_neg h32, mul_zero, mul_zero, add_zero, add_zero, mul_one]

variable (a : Vec Ideal S512x2048 .bf16) (w : Vec Ideal S2048x512 .bf16) (T : Vec Ideal S512x384 .f32) (y : S512x512.Idx) (J : ℕ)

/-- A block of the product. -/
theorem plain (hf : ∀ c : Fin 512, ∑ k : Fin 2048, a (ix2 (y 0) k) * w (ix2 k c) = f (J * 512 + c)) :
    k0_pay2 a w y = f (J * 512 + y 1) := by
  pointwise [k0_pay2]
  exact hf (y 1)

/-- A block of the product turned. -/
theorem turn (hf : ∀ c : Fin 512, ∑ k : Fin 2048, a (ix2 (y 0) k) * w (ix2 k c) = f (J * 512 + c)) (hT : ∀ d : Fin 384, T (ix2 (y 0) d) = table C S d) :
    k0_pay3 a w T y = turned f C S (J * 512 + y 1) := by
  have hy : (y 1).val < 512 := (y 1).isLt
  have hf1 : ∑ k : Fin 2048, a (ix2 (y 0) k) * w (ix2 k (y 1)) = f (J * 512 + (y 1).val) := hf (y 1)
  pointwise [k0_pay3, k0_pay2]
  simp only [hf, hT, hf1]
  split_ifs
  all_goals exact turned_eq f C S _ ((J * 512 + (y 1).val) % 128) _ _ _ _ _ _ (by omega) rfl (by omega) (by omega) (by omega) (by omega) (by omega) (by omega)

/-- The angles of every token. -/
def angs (p : IVec S8704 32) : FVec Ideal S8704x16 .f32 :=
  mulf (broadcastInDim S8704x16 ![0, 1] bcast_S8704x1_S8704x16_0_1 (broadcastInDim S8704x1 ![0] bcast_S8704_S8704x1_0 (sitofp .f32 p)))
    (broadcastInDim S8704x16 ![0, 1] bcast_S1x16_S8704x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- The array of factors. -/
def tables (p : IVec S8704 32) : FVec Ideal S8704x384 .f32 :=
  concatenate S8704x384 1 [⟨S8704x16, Host.cos (angs p)⟩, ⟨S8704x16, Host.cos (angs p)⟩,
    ⟨S8704x96, broadcastInDim S8704x96 ![] bcast_S_S8704x96 (constant (F := Ideal) S_ .f32 0x3F800000#32)⟩, ⟨S8704x16, Host.negf (Host.sin (angs p))⟩,
    ⟨S8704x16, broadcastInDim S8704x16 ![] bcast_S_S8704x16 (constant (F := Ideal) S_ .f32 0x00000000#32)⟩,
    ⟨S8704x96, broadcastInDim S8704x96 ![] bcast_S_S8704x96 (constant (F := Ideal) S_ .f32 0x00000000#32)⟩,
    ⟨S8704x16, broadcastInDim S8704x16 ![] bcast_S_S8704x16 (constant (F := Ideal) S_ .f32 0x00000000#32)⟩, ⟨S8704x16, Host.sin (angs p)⟩,
    ⟨S8704x96, broadcastInDim S8704x96 ![] bcast_S_S8704x96 (constant (F := Ideal) S_ .f32 0x00000000#32)⟩]
    concatenates_S8704x16_S8704x16_S8704x96_S8704x16_S8704x16_S8704x96_S8704x16_S8704x16_S8704x96_S8704x384_d1

/-- The array of factors, at an index. -/
theorem tables_at (p : IVec S8704 32) (i : S8704x384.Idx) : tables p i = table (cosAt p (i 0)) (sinAt p (i 0)) (i 1) := by
  have hi : (i 1).val < 384 := (i 1).isLt
  pointwise [tables, angs]
  unfold table
  by_cases h0 : (i 1).val < 16
  · rw [dif_pos h0, if_pos h0]; rfl
  rw [dif_neg h0, if_neg h0]
  by_cases h1 : (i 1).val < 32
  · rw [dif_pos (by omega), if_pos h1]; rfl
  rw [dif_neg (by omega), if_neg h1]
  by_cases h2 : (i 1).val < 128
  · rw [dif_pos (by omega), if_pos h2]
  rw [dif_neg (by omega), if_neg h2]
  by_cases h3 : (i 1).val < 144
  · rw [dif_pos (by omega), if_pos h3, show (i 1).val - 16 - 16 - 96 = (i 1).val - 128 by omega]; rfl
  rw [dif_neg (by omega), if_neg h3]
  by_cases h4 : (i 1).val < 272
  · rw [if_pos h4]
    split_ifs <;> first | rfl | omega
  rw [if_neg h4, dif_neg (by omega), dif_neg (by omega), dif_neg (by omega)]
  by_cases h5 : (i 1).val < 288
  · rw [dif_pos (by omega), if_pos h5, show (i 1).val - 16 - 16 - 96 - 16 - 16 - 96 - 16 = (i 1).val - 272 by omega]; rfl
  rw [dif_neg (by omega), if_neg h5]

end Cert.Rope

end
-- ==== Proof.TurnQ.lean ====
/- The query projection of the second attention: what its pipeline leaves at an element, and the reference's value there. -/
module
public import proofs.«01_k».proof.Defs
public import proofs.«01_k».proof.Proof.Rope
public import proofs.«01_k».proof.Proof.Gen.ProjQIdeal.Value
public import proofs.«01_k».proof.Proof.Gen.ProjQRefIdeal.Run

@[expose] public section

set_option maxRecDepth 16384

noncomputable section

namespace Cert.ProjQIdeal.At

open Idealize.ShloMosaic Idealize.ShloMosaic.TcCoe Idealize.SL.Sem
open Cert.ProjQIdeal Cert.ProjQIdeal.Gen Cert.Matmul Cert.Rope
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val % 17, 0] ∧ win0_1.index t = ![0, t.val / 17]
    ∧ win0_2.index t = ![t.val % 17, 0] ∧ win0_3.index t = ![t.val % 17, t.val / 17] :=
  (by decide +kernel : ∀ t : Fin grid0.N, _)

/-- The array the third window reads is the array of factors. -/
theorem V_main_v18 : V m c main_v18 = tables (m ((c.tc : Thread nD τ).loc main_arg2)) := by
  unfold V
  after_results
  rfl

/-- The columns of the weights that a point's outputs stand in. -/
theorem w_at (t : Fin cfg0.N) (y : S2048x512.Idx) (z : S2048x2048.Idx) (z0 : (z 0).val = (y 0).val) (z1 : (z 1).val = t.val / 17 * 512 + (y 1).val) :
    iblk m c 1 t y = (m ((c.tc : Thread nD τ).loc main_arg1)) z := by
  blk_simp [iblk]
  refine (congrFun (V_main_arg1 m c) _).trans ?_
  blk_ext [idx t]

/-- A row of the factors, at a point. -/
theorem table_at (t : Fin cfg0.N) (a : Fin 512) (R : Fin 8704) (hR : R.val = t.val % 17 * 512 + a.val) (d : Fin 384) :
    iblk m c 2 t (ix2 a d) = table (cosAt (m ((c.tc : Thread nD τ).loc main_arg2)) R) (sinAt (m ((c.tc : Thread nD τ).loc main_arg2)) R) d := by
  obtain ⟨i, hi, i0, i1⟩ : ∃ i : S8704x384.Idx, iblk m c 2 t (ix2 a d) = V m c main_v18 i ∧ i 0 = R ∧ (i 1).val = d.val := by
    blk_simp [iblk]
    exact ⟨_, rfl, Fin.ext (by blk_simp [idx t]; omega), by blk_simp [idx t]; try omega⟩
  rw [hi, V_main_v18, tables_at, i0, i1]

/-- A row of a point's block of the product. -/
theorem row_at (t : Fin cfg0.N) (B : Vec Ideal S2048x512 .bf16)
    (hB : ∀ (y : S2048x512.Idx) (z : S2048x2048.Idx), (z 0).val = (y 0).val → (z 1).val = t.val / 17 * 512 + (y 1).val → B y = (m ((c.tc : Thread nD τ).loc main_arg1)) z)
    (a : Fin 512) (R : Fin 8704) (hR : R.val = t.val % 17 * 512 + a.val) (b : Fin 512) :
    ∑ k : Fin 2048, (show Vec Ideal S512x2048 .bf16 from iblk m c 0 t) (ix2 a k) * B (ix2 k b)
      = row (m ((c.tc : Thread nD τ).loc main_arg0)) (m ((c.tc : Thread nD τ).loc main_arg1)) R (t.val / 17 * 512 + b.val) := by
  have ht : t.val < 68 := lt_of_lt_of_eq t.isLt N_0
  refine Eq.trans (Finset.sum_congr rfl fun k _ => congrArg₂ (· * ·) ?_ (hB (ix2 k b) (ix2 k ⟨t.val / 17 * 512 + b.val, by omega⟩) rfl rfl)) (row_eq _ _ _ _ _ rfl)
  blk_simp [iblk]
  refine (congrFun (V_main_arg0 m c) _).trans ?_
  blk_ext [idx t]

/-- After a point, the scratch holds the columns of the weights that the point's outputs stand in. -/
theorem scratch (n : ℕ) : ∀ (hn : n < cfg0.N) (y : S2048x512.Idx) (z : S2048x2048.Idx), (z 0).val = (y 0).val →
    (z 1).val = n / 17 * 512 + (y 1).val → (outsAt0 m c n hn).2 y = (m ((c.tc : Thread nD τ).loc main_arg1)) z := by
  induction n using Nat.strong_induction_on with
  | _ n ih =>
    intro hn y z z0 z1
    by_cases h0 : n % 17 = 0
    · rw [outsAt0_A m c ⟨n, hn⟩ h0]
      frame_out
      pointwise [k0_pay1]
      exact w_at m c ⟨n, hn⟩ y z z0 z1
    · rw [outsAt0_B m c ⟨n, hn⟩ h0]
      frame_out
      exact ih (n - 1) (by omega) _ y z z0 (by rw [z1]; omega)

/-- The result at an index: its row of the product, turned. -/
def out (i : S8704x2048.Idx) : EReal :=
  turned (row (m ((c.tc : Thread nD τ).loc main_arg0)) (m ((c.tc : Thread nD τ).loc main_arg1)) (i 0))
    (cosAt (m ((c.tc : Thread nD τ).loc main_arg2)) (i 0)) (sinAt (m ((c.tc : Thread nD τ).loc main_arg2)) (i 0)) (i 1)

/-- A point's turned block, at the index of the result it stands at. -/
theorem turn_at (t : Fin cfg0.N) (B : Vec Ideal S2048x512 .bf16)
    (hB : ∀ (y : S2048x512.Idx) (z : S2048x2048.Idx), (z 0).val = (y 0).val → (z 1).val = t.val / 17 * 512 + (y 1).val → B y = (m ((c.tc : Thread nD τ).loc main_arg1)) z)
    (y : S512x512.Idx) (i : S8704x2048.Idx) (i0 : (i 0).val = t.val % 17 * 512 + (y 0).val) (i1 : (i 1).val = t.val / 17 * 512 + (y 1).val) :
    k0_pay3 (iblk m c 0 t) B (iblk m c 2 t) y = out m c i := by
  refine (turn _ _ _ _ _ _ y (t.val / 17) (row_at m c t B hB (y 0) (i 0) i0) (table_at m c t (y 0) (i 0) i0)).trans ?_
  rw [out, i1]

/-- The result of the pipeline. -/
theorem final3 : (dats m 0 c).arrAt 3 cfg0.N = out m c := by
  refine (dats m 0 c).arrAt_eq_of_covers 3 _ (by decide +kernel) fun t hf y => ?_
  have ht : t.val < 68 := lt_of_lt_of_eq t.isLt N_0
  blk_simp
  rw [after0_3]
  by_cases h0 : t.val % 17 = 0
  · rw [outsAt0_A m c t h0]
    frame_out
    refine turn_at m c t _ (fun y z z0 z1 => ?_) y _ (by blk_simp [idx t]; try omega) (by blk_simp [idx t]; try omega)
    pointwise [k0_pay1]
    exact w_at m c t y z z0 z1
  · rw [outsAt0_B m c t h0]
    frame_out
    rw [read_unread_whole]
    exact turn_at m c t _ (fun y z z0 z1 => scratch m c _ _ y z z0 (by omega)) y _ (by blk_simp [idx t]; try omega) (by blk_simp [idx t]; try omega)

end Cert.ProjQIdeal.At

namespace Cert.ProjQRefIdeal.At

open Idealize.ShloMosaic Idealize.ShloMosaic.TcCoe Idealize.SL.Sem
open Cert.ProjQRefIdeal Cert.ProjQRefIdeal.Gen Cert.Matmul Cert.Rope

variable (m : (ℓ : Loc nD τ sig) → Buf (Elt Ideal) ℓ) (c : Dev nD)

/-- The reference's result, at an index: its row of the product, turned. -/
theorem res_eq (i : S8704x2048.Idx) : Value.res_main_v33 m c i = turned (row (m ((c.tc : Thread nD τ).loc main_arg0)) (m ((c.tc : Thread nD τ).loc main_arg1)) (i 0))
    (cosAt (m ((c.tc : Thread nD τ).loc main_arg2)) (i 0)) (sinAt (m ((c.tc : Thread nD τ).loc main_arg2)) (i 0)) (i 1) := by
  unfold Value.res_main_v33
  generalize m ((c.tc : Thread nD τ).loc main_arg0) = h
  generalize m ((c.tc : Thread nD τ).loc main_arg1) = w
  generalize m ((c.tc : Thread nD τ).loc main_arg2) = p
  have hi : (i 1).val < 2048 := (i 1).isLt
  pointwise
  by_cases h16 : (i 1).val % 128 < 16
  · rw [dif_pos h16]
    refine Eq.trans ?_ (turned_lo _ _ _ _ h16).symm
    refine congrArg₂ (· - ·) (congrArg₂ (· * ·) ?_ rfl) (congrArg₂ (· * ·) ?_ rfl)
    · exact row_eq h w _ _ _ rfl
    · exact row_eq h w _ _ _ (by dsimp; omega)
  by_cases h32 : (i 1).val % 128 < 32
  · rw [dif_neg h16, dif_pos (by omega)]
    refine Eq.trans ?_ (turned_mid _ _ _ _ h16 h32).symm
    refine congrArg₂ (· + ·) (congrArg₂ (· * ·) ?_ rfl) (congrArg₂ (· * ·) ?_ rfl)
    · exact row_eq h w _ _ _ (by dsimp; omega)
    · exact row_eq h w _ _ _ (by dsimp; omega)
  · rw [dif_neg h16, dif_neg (by omega)]
    refine Eq.trans ?_ (turned_hi _ _ _ _ h32).symm
    exact row_eq h w _ _ _ (by dsimp; omega)

/-- The reference runs and leaves its arguments as they were; it has no semaphore. -/
theorem quiescent : Cert.quiescent_ProjQRefIdeal := by
  intro m g _
  haveI : IsEmpty (SemLoc sig) := Fintype.card_eq_zero_iff.mp (by decide)
  exact (θ_run _ _ _).mono (fun r h => ⟨fun c => (h c).2, funext fun s => isEmptyElim s.2⟩) (Cert.ProjQRefIdeal.Value.run m g)

/-- The kernel and the reference end with the same values. -/
theorem algebraic : Cert.algebraic_ProjQIdeal_ProjQRefIdeal := by
  intro m g m' g' _ hagree
  refine ⟨fun c => (Cert.ProjQIdeal.Gen.dats m 0 c).arrAt 3 Cert.ProjQIdeal.cfg0.N, Cert.ProjQIdeal.Value.run_blocks m g, ?_⟩
  refine (θ_run _ _ _).mono (fun r h c => ⟨?_, (h c).2⟩) (Cert.ProjQRefIdeal.Value.run m' g')
  rw [(h c).1]
  funext i
  refine (res_eq m' c i).trans ?_
  rw [(hagree c).1, (hagree c).2.1, (hagree c).2.2]
  exact (congrFun (Cert.ProjQIdeal.At.final3 m c) i).symm

end Cert.ProjQRefIdeal.At

end
-- ==== Proof.TurnKV.lean ====
/- The key and value projection shared by the second attentions: what its pipeline leaves at an element, and the reference's value there. -/
module
public import proofs.«01_k».proof.Defs
public import proofs.«01_k».proof.Proof.Rope
public import proofs.«01_k».proof.Proof.Gen.ProjKVIdeal.Value
public import proofs.«01_k».proof.Proof.Gen.ProjKVRefIdeal.Run

@[expose] public section

set_option maxRecDepth 16384

noncomputable section

namespace Cert.ProjKVIdeal.At

open Idealize.ShloMosaic Idealize.ShloMosaic.TcCoe Idealize.SL.Sem
open Cert.ProjKVIdeal Cert.ProjKVIdeal.Gen Cert.Matmul Cert.Rope
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val % 17, 0] ∧ win0_1.index t = ![0, t.val / 17]
    ∧ win0_2.index t = ![t.val % 17, 0] ∧ win0_3.index t = ![t.val % 17, t.val / 17] :=
  (by decide +kernel : ∀ t : Fin grid0.N, _)

/-- The array the third window reads is the array of factors. -/
theorem V_main_v18 : V m c main_v18 = tables (m ((c.tc : Thread nD τ).loc main_arg2)) := by
  unfold V
  after_results
  rfl

/-- The columns of the weights that a point's outputs stand in. -/
theorem w_at (t : Fin cfg0.N) (y : S2048x512.Idx) (z : S2048x4096.Idx) (z0 : (z 0).val = (y 0).val) (z1 : (z 1).val = t.val / 17 * 512 + (y 1).val) :
    iblk m c 1 t y = (m ((c.tc : Thread nD τ).loc main_arg1)) z := by
  blk_simp [iblk]
  refine (congrFun (V_main_arg1 m c) _).trans ?_
  blk_ext [idx t]

/-- A row of the factors, at a point. -/
theorem table_at (t : Fin cfg0.N) (a : Fin 512) (R : Fin 8704) (hR : R.val = t.val % 17 * 512 + a.val) (d : Fin 384) :
    iblk m c 2 t (ix2 a d) = table (cosAt (m ((c.tc : Thread nD τ).loc main_arg2)) R) (sinAt (m ((c.tc : Thread nD τ).loc main_arg2)) R) d := by
  obtain ⟨i, hi, i0, i1⟩ : ∃ i : S8704x384.Idx, iblk m c 2 t (ix2 a d) = V m c main_v18 i ∧ i 0 = R ∧ (i 1).val = d.val := by
    blk_simp [iblk]
    exact ⟨_, rfl, Fin.ext (by blk_simp [idx t]; omega), by blk_simp [idx t]; try omega⟩
  rw [hi, V_main_v18, tables_at, i0, i1]

/-- A row of a point's block of the product. -/
theorem row_at (t : Fin cfg0.N) (B : Vec Ideal S2048x512 .bf16)
    (hB : ∀ (y : S2048x512.Idx) (z : S2048x4096.Idx), (z 0).val = (y 0).val → (z 1).val = t.val / 17 * 512 + (y 1).val → B y = (m ((c.tc : Thread nD τ).loc main_arg1)) z)
    (a : Fin 512) (R : Fin 8704) (hR : R.val = t.val % 17 * 512 + a.val) (b : Fin 512) :
    ∑ k : Fin 2048, (show Vec Ideal S512x2048 .bf16 from iblk m c 0 t) (ix2 a k) * B (ix2 k b)
      = row (m ((c.tc : Thread nD τ).loc main_arg0)) (m ((c.tc : Thread nD τ).loc main_arg1)) R (t.val / 17 * 512 + b.val) := by
  have ht : t.val < 136 := lt_of_lt_of_eq t.isLt N_0
  refine Eq.trans (Finset.sum_congr rfl fun k _ => congrArg₂ (· * ·) ?_ (hB (ix2 k b) (ix2 k ⟨t.val / 17 * 512 + b.val, by omega⟩) rfl rfl)) (row_eq _ _ _ _ _ rfl)
  blk_simp [iblk]
  refine (congrFun (V_main_arg0 m c) _).trans ?_
  blk_ext [idx t]

/-- After a point, the scratch holds the columns of the weights that the point's outputs stand in. -/
theorem scratch (n : ℕ) : ∀ (hn : n < cfg0.N) (y : S2048x512.Idx) (z : S2048x4096.Idx), (z 0).val = (y 0).val →
    (z 1).val = n / 17 * 512 + (y 1).val → (outsAt0 m c n hn).2 y = (m ((c.tc : Thread nD τ).loc main_arg1)) z := by
  induction n using Nat.strong_induction_on with
  | _ n ih =>
    intro hn y z z0 z1
    have cB : ∀ h0 : ¬n % 17 = 0, (outsAt0 m c (n - 1) (Nat.lt_of_le_of_lt (Nat.sub_le _ _) hn)).2 y = (m ((c.tc : Thread nD τ).loc main_arg1)) z := fun h0 =>
      ih (n - 1) (by omega) _ y z z0 (by rw [z1]; omega)
    by_cases h0 : n % 17 = 0 <;> by_cases h1 : n < 68
    · rw [outsAt0_A m c ⟨n, hn⟩ h0 h1 (by dsimp only; omega)]
      frame_out
      pointwise [k0_pay1]
      exact w_at m c ⟨n, hn⟩ y z z0 z1
    · rw [outsAt0_C m c ⟨n, hn⟩ h0 h1 (by dsimp only; omega)]
      frame_out
      pointwise [k0_pay1]
      exact w_at m c ⟨n, hn⟩ y z z0 z1
    · rw [outsAt0_B m c ⟨n, hn⟩ h0 h1 (by dsimp only; omega)]
      frame_out
      exact cB h0
    · rw [outsAt0_D m c ⟨n, hn⟩ h0 h1 (by dsimp only; omega)]
      frame_out
      exact cB h0

/-- The result at an index: its row of the product, the queries and keys turned. -/
def out (i : S8704x4096.Idx) : EReal :=
  if (i 1).val < 2048 then turned (row (m ((c.tc : Thread nD τ).loc main_arg0)) (m ((c.tc : Thread nD τ).loc main_arg1)) (i 0))
    (cosAt (m ((c.tc : Thread nD τ).loc main_arg2)) (i 0)) (sinAt (m ((c.tc : Thread nD τ).loc main_arg2)) (i 0)) (i 1)
  else row (m ((c.tc : Thread nD τ).loc main_arg0)) (m ((c.tc : Thread nD τ).loc main_arg1)) (i 0) (i 1)

/-- A point's turned block, at the index of the result it stands at. -/
theorem turn_at (t : Fin cfg0.N) (h1 : t.val < 68) (B : Vec Ideal S2048x512 .bf16)
    (hB : ∀ (y : S2048x512.Idx) (z : S2048x4096.Idx), (z 0).val = (y 0).val → (z 1).val = t.val / 17 * 512 + (y 1).val → B y = (m ((c.tc : Thread nD τ).loc main_arg1)) z)
    (y : S512x512.Idx) (i : S8704x4096.Idx) (i0 : (i 0).val = t.val % 17 * 512 + (y 0).val) (i1 : (i 1).val = t.val / 17 * 512 + (y 1).val) :
    k0_pay3 (iblk m c 0 t) B (iblk m c 2 t) y = out m c i := by
  have ht : t.val < 136 := lt_of_lt_of_eq t.isLt N_0
  have hy : (y 1).val < 512 := (y 1).isLt
  refine (turn _ _ _ _ _ _ y (t.val / 17) (row_at m c t B hB (y 0) (i 0) i0) (table_at m c t (y 0) (i 0) i0)).trans ?_
  rw [out, if_pos (by omega), i1]

/-- A point's block left as it is, at the index of the result it stands at. -/
theorem plain_at (t : Fin cfg0.N) (h1 : ¬t.val < 68) (B : Vec Ideal S2048x512 .bf16)
    (hB : ∀ (y : S2048x512.Idx) (z : S2048x4096.Idx), (z 0).val = (y 0).val → (z 1).val = t.val / 17 * 512 + (y 1).val → B y = (m ((c.tc : Thread nD τ).loc main_arg1)) z)
    (y : S512x512.Idx) (i : S8704x4096.Idx) (i0 : (i 0).val = t.val % 17 * 512 + (y 0).val) (i1 : (i 1).val = t.val / 17 * 512 + (y 1).val) :
    k0_pay2 (iblk m c 0 t) B y = out m c i := by
  have ht : t.val < 136 := lt_of_lt_of_eq t.isLt N_0
  have hy : (y 1).val < 512 := (y 1).isLt
  refine (plain _ _ _ y (t.val / 17) (row_at m c t B hB (y 0) (i 0) i0)).trans ?_
  rw [out, if_neg (by omega), i1]

/-- The result of the pipeline. -/
theorem final3 : (dats m 0 c).arrAt 3 cfg0.N = out m c := by
  refine (dats m 0 c).arrAt_eq_of_covers 3 _ (by decide +kernel) fun t hf y => ?_
  have ht : t.val < 136 := lt_of_lt_of_eq t.isLt N_0
  blk_simp
  rw [after0_3]
  by_cases h0 : t.val % 17 = 0 <;> by_cases h1 : t.val < 68
  · rw [outsAt0_A m c t h0 h1 (by omega)]
    frame_out
    refine turn_at m c t h1 _ (fun y z z0 z1 => ?_) y _ (by blk_simp [idx t]; try omega) (by blk_simp [idx t]; try omega)
    pointwise [k0_pay1]
    exact w_at m c t y z z0 z1
  · rw [outsAt0_C m c t h0 h1 (by omega)]
    frame_out
    refine plain_at m c t h1 _ (fun y z z0 z1 => ?_) y _ (by blk_simp [idx t]; try omega) (by blk_simp [idx t]; try omega)
    pointwise [k0_pay1]
    exact w_at m c t y z z0 z1
  · rw [outsAt0_B m c t h0 h1 (by omega)]
    frame_out
    rw [read_unread_whole]
    exact turn_at m c t h1 _ (fun y z z0 z1 => scratch m c _ _ y z z0 (by omega)) y _ (by blk_simp [idx t]; try omega) (by blk_simp [idx t]; try omega)
  · rw [outsAt0_D m c t h0 h1 (by omega)]
    frame_out
    rw [read_unread_whole]
    exact plain_at m c t h1 _ (fun y z z0 z1 => scratch m c _ _ y z z0 (by omega)) y _ (by blk_simp [idx t]; try omega) (by blk_simp [idx t]; try omega)

end Cert.ProjKVIdeal.At

namespace Cert.ProjKVRefIdeal.At

open Idealize.ShloMosaic Idealize.ShloMosaic.TcCoe Idealize.SL.Sem
open Cert.ProjKVRefIdeal Cert.ProjKVRefIdeal.Gen Cert.Matmul Cert.Rope

variable (m : (ℓ : Loc nD τ sig) → Buf (Elt Ideal) ℓ) (c : Dev nD)

/-- The reference's result, at an index: its row of the product, the keys turned. -/
theorem res_eq (i : S8704x4096.Idx) : Value.res_main_v36 m c i =
    if (i 1).val < 2048 then turned (row (m ((c.tc : Thread nD τ).loc main_arg0)) (m ((c.tc : Thread nD τ).loc main_arg1)) (i 0))
      (cosAt (m ((c.tc : Thread nD τ).loc main_arg2)) (i 0)) (sinAt (m ((c.tc : Thread nD τ).loc main_arg2)) (i 0)) (i 1)
    else row (m ((c.tc : Thread nD τ).loc main_arg0)) (m ((c.tc : Thread nD τ).loc main_arg1)) (i 0) (i 1) := by
  unfold Value.res_main_v36
  generalize m ((c.tc : Thread nD τ).loc main_arg0) = h
  generalize m ((c.tc : Thread nD τ).loc main_arg1) = w
  generalize m ((c.tc : Thread nD τ).loc main_arg2) = p
  have hi : (i 1).val < 4096 := (i 1).isLt
  pointwise
  by_cases h0 : (i 1).val < 2048
  · rw [dif_pos h0]
    refine Eq.trans ?_ (if_pos h0).symm
    by_cases h16 : (i 1).val % 128 < 16
    · rw [dif_pos h16]
      refine Eq.trans ?_ (turned_lo _ _ _ _ h16).symm
      refine congrArg₂ (· - ·) (congrArg₂ (· * ·) ?_ rfl) (congrArg₂ (· * ·) ?_ rfl)
      · exact row_eq h w _ _ _ (by dsimp; omega)
      · exact row_eq h w _ _ _ (by dsimp; omega)
    by_cases h32 : (i 1).val % 128 < 32
    · rw [dif_neg h16, dif_pos (by omega)]
      refine Eq.trans ?_ (turned_mid _ _ _ _ h16 h32).symm
      refine congrArg₂ (· + ·) (congrArg₂ (· * ·) ?_ rfl) (congrArg₂ (· * ·) ?_ rfl)
      · exact row_eq h w _ _ _ (by dsimp; omega)
      · exact row_eq h w _ _ _ (by dsimp; omega)
    · rw [dif_neg h16, dif_neg (by omega)]
      refine Eq.trans ?_ (turned_hi _ _ _ _ h32).symm
      exact row_eq h w _ _ _ (by dsimp; omega)
  · rw [dif_neg h0]
    refine Eq.trans ?_ (if_neg h0).symm
    exact row_eq h w _ _ _ (by dsimp; omega)

/-- The reference runs and leaves its arguments as they were; it has no semaphore. -/
theorem quiescent : Cert.quiescent_ProjKVRefIdeal := by
  intro m g _
  haveI : IsEmpty (SemLoc sig) := Fintype.card_eq_zero_iff.mp (by decide)
  exact (θ_run _ _ _).mono (fun r h => ⟨fun c => (h c).2, funext fun s => isEmptyElim s.2⟩) (Cert.ProjKVRefIdeal.Value.run m g)

/-- The kernel and the reference end with the same values. -/
theorem algebraic : Cert.algebraic_ProjKVIdeal_ProjKVRefIdeal := by
  intro m g m' g' _ hagree
  refine ⟨fun c => (Cert.ProjKVIdeal.Gen.dats m 0 c).arrAt 3 Cert.ProjKVIdeal.cfg0.N, Cert.ProjKVIdeal.Value.run_blocks m g, ?_⟩
  refine (θ_run _ _ _).mono (fun r h c => ⟨?_, (h c).2⟩) (Cert.ProjKVRefIdeal.Value.run m' g')
  rw [(h c).1]
  funext i
  refine (res_eq m' c i).trans ?_
  rw [(hagree c).1, (hagree c).2.1, (hagree c).2.2]
  exact (congrFun (Cert.ProjKVIdeal.At.final3 m c) i).symm

end Cert.ProjKVRefIdeal.At

end
-- ==== Proof.FrameAIdeal.lean ====
/- The frame of the first attention's projection over the extended reals: a run of its body in each of the four cases of its conditionals (the
   weights' columns rounded into the scratch or found there; the block turned or left), what the output and the scratch hold
   point by point, and the run of the whole grid. The block is turned where the point's third of 102 is not the last
   34 (`t / 34 % 3 < 2`), the queries' and the keys' blocks. -/
module

public import proofs.«01_k».proof.Proof.Gen.ProjAIdeal.Launch
public import proofs.«01_k».proof.Proof.Gen.ProjAIdeal.Skeleton
public import proofs.«01_k».proof.Proof.Gen.ProjAIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ProjAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjAIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 17) — by arithmetic of the point. -/
theorem hcond0_0 : ∀ t : Fin cfg0.N, cond0_0 (grid0.coords t) ↔ t.val % 17 = 0 :=
  (fun t => by
    have ht : t.val < 306 := Nat.lt_of_lt_of_eq t.isLt N_0
    have e0 : (grid0.coords t 0).val = t.val / 17 % 18 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points of the first two of every three blocks of 34 — decided over the grid. -/
theorem hcond0_1 : ∀ t : Fin cfg0.N, cond0_1 (grid0.coords t) ↔ t.val / 34 % 3 < 2 :=
  (by decide +kernel : ∀ t : Fin grid0.N, cond0_1 (grid0.coords t) ↔ t.val / 34 % 3 < 2)

/-- The condition of the body's `scf.if` 2 (`k0_h3`), from the grid coordinates (the skeleton's scalar
    chain substituted). -/
abbrev cond0_2 (i : grid0.Coords) : Prop := k0_cond3 i = 1#1
/-- It holds at the points of every third block of 34 — decided over the grid. -/
theorem hcond0_2 : ∀ t : Fin cfg0.N, cond0_2 (grid0.coords t) ↔ 2 ≤ t.val / 34 % 3 :=
  (by decide +kernel : ∀ t : Fin grid0.N, cond0_2 (grid0.coords t) ↔ 2 ≤ t.val / 34 % 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 live: the case stores into it. -/
theorem liveAt0_3_A : ∀ t : Fin cfg0.N, cond0_0 (grid0.coords t) → cond0_1 (grid0.coords t) → ¬cond0_2 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → ¬cond0_2 (grid0.coords t) → cfg0.idle 3 (grid0.coords t) = false := by decide +kernel
/-- At the points of case C the printed configuration (`Cfg.idle`) calls output 3 live: the case stores into it. -/
theorem liveAt0_3_C : ∀ t : Fin cfg0.N, cond0_0 (grid0.coords t) → ¬cond0_1 (grid0.coords t) → cond0_2 (grid0.coords t) → cfg0.idle 3 (grid0.coords t) = false := by decide +kernel
/-- At the points of case D the printed configuration (`Cfg.idle`) calls output 3 live: the case stores into it. -/
theorem liveAt0_3_D : ∀ t : Fin cfg0.N, ¬cond0_0 (grid0.coords t) → ¬cond0_1 (grid0.coords t) → cond0_2 (grid0.coords t) → cfg0.idle 3 (grid0.coords t) = false := by decide +kernel

/-! ## The kernel body on any staging memrefs: a subtype the run finds -/

/-- One staging buffer of output window 3, through which its contents are stated (`View.read_writes_of_cover`: the
    choice does not matter). -/
abbrev VO0_3 : View sig .tc .vmem S512x512 .f32 := (Memref.whole cc0_stg3_0 : Memref sig .tc .vmem S512x512 .f32).view
/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2048x512 .bf16 := Memref.whole cc0_scratch0
/-- The scratch `arg6` the kernel carries between points, as a view: what it holds is stated through it. -/
abbrev VS0_0 : View sig .tc .vmem S2048x512 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : cond0_1 i) (hc2 : ¬cond0_2 i)
    (x0 : Vec F S512x2048 .bf16) (x1 : Vec F S2048x512 .f32) (x2 : Vec F S512x384 .f32) :
    Σ' (L3 : List (View.Piece (Elt F) S512x512 .f32)), { LS0 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_matmul_rope i arg2 harg2 arg3 harg3 arg4 harg4 arg5 harg5 arg6 harg6) K } := by
  refine ⟨?_, ?_, fun E K => ?run⟩
  case run =>
    simp only [cc0_matmul_rope_eq_skeleton]; unfold cc0_matmul_rope_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : cond0_1 i) (hc2 : ¬cond0_2 i)
    (x0 : Vec F S512x2048 .bf16) (x1 : Vec F S2048x512 .f32) (x2 : Vec F S512x384 .f32) (xs0 : Vec F S2048x512 .bf16) :
    Σ' (L3 : List (View.Piece (Elt F) S512x512 .f32)), { LS0 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc0_matmul_rope i arg2 harg2 arg3 harg3 arg4 harg4 arg5 harg5 arg6 harg6) K } := by
  refine ⟨?_, [], fun E K => ?run⟩
  case run =>
    simp only [cc0_matmul_rope_eq_skeleton]; unfold cc0_matmul_rope_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

-- (the run's proof term is large: the definition's epilogue — `abstractNestedProofs` — walks it past the default budget)
set_option maxHeartbeats 1000000 in
/-- What the body's stores leave in each output's staging memref, as pieces (last first) IN CASE C (`scf.if` 0 taken, `scf.if` 1 not taken, `scf.if` 2 taken), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : ¬cond0_1 i) (hc2 : cond0_2 i)
    (x0 : Vec F S512x2048 .bf16) (x1 : Vec F S2048x512 .f32) (x2 : Vec F S512x384 .f32) :
    Σ' (L3 : List (View.Piece (Elt F) S512x512 .f32)), { LS0 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_matmul_rope i arg2 harg2 arg3 harg3 arg4 harg4 arg5 harg5 arg6 harg6) K } := by
  refine ⟨?_, ?_, fun E K => ?run⟩
  case run =>
    simp only [cc0_matmul_rope_eq_skeleton]; unfold cc0_matmul_rope_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 taken), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : ¬cond0_1 i) (hc2 : cond0_2 i)
    (x0 : Vec F S512x2048 .bf16) (x1 : Vec F S2048x512 .f32) (x2 : Vec F S512x384 .f32) (xs0 : Vec F S2048x512 .bf16) :
    Σ' (L3 : List (View.Piece (Elt F) S512x512 .f32)), { LS0 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc0_matmul_rope i arg2 harg2 arg3 harg3 arg4 harg4 arg5 harg5 arg6 harg6) K } := by
  refine ⟨?_, [], fun E K => ?run⟩
  case run =>
    simp only [cc0_matmul_rope_eq_skeleton]; unfold cc0_matmul_rope_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

/-- Case A's pieces for output 3 tile its block (1 store of `S512x512`, checked by the kernel's evaluation: Lib/Ring.lean `Piece.tiledL`, linear in the pieces, through a loop's `@[irreducible]` trip theorem too), so they cover it. -/
theorem cover0_A_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : cond0_1 i) (hc2 : ¬cond0_2 i)
    (x0 : Vec F S512x2048 .bf16) (x1 : Vec F S2048x512 .f32) (x2 : Vec F S512x384 .f32) (y : S512x512.Idx) :
    ∃ pc ∈ (kernelRun0_A c i arg2 harg2 arg3 harg3 arg4 harg4 arg5 harg5 arg6 harg6 hc0 hc1 hc2 x0 x1 x2).1, y ∈ pc.1.set :=
  View.cover_of_tiledL (kernelRun0_A c i arg2 harg2 arg3 harg3 arg4 harg4 arg5 harg5 arg6 harg6 hc0 hc1 hc2 x0 x1 x2).1 S512x512.size (by sl_kernel_rfl) y

/-- What case A leaves in output 3's staging buffer: its pieces read back over junk. -/
def out0_A_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : cond0_1 i) (hc2 : ¬cond0_2 i)
    (x0 : Vec F S512x2048 .bf16) (x1 : Vec F S2048x512 .f32) (x2 : Vec F S512x384 .f32) : Vec F S512x512 .f32 :=
  VO0_3.read (Elt F) (VO0_3.writes (Elt F) VO0_3.junk (kernelRun0_A c i arg2 harg2 arg3 harg3 arg4 harg4 arg5 harg5 arg6 harg6 hc0 hc1 hc2 x0 x1 x2).1)

/-- Case A's pieces for scratch `arg6`, which the kernel carries between points, cover it: 1 piece of `S2048x512` tiling it (Lib/Ring.lean `Piece.tiledL`). -/
theorem scover0_A_0 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : cond0_1 i) (hc2 : ¬cond0_2 i)
    (x0 : Vec F S512x2048 .bf16) (x1 : Vec F S2048x512 .f32) (x2 : Vec F S512x384 .f32) (y : S2048x512.Idx) :
    ∃ pc ∈ (kernelRun0_A c i arg2 harg2 arg3 harg3 arg4 harg4 arg5 harg5 arg6 harg6 hc0 hc1 hc2 x0 x1 x2).2.1, y ∈ pc.1.set :=
  View.cover_of_tiledL (kernelRun0_A c i arg2 harg2 arg3 harg3 arg4 harg4 arg5 harg5 arg6 harg6 hc0 hc1 hc2 x0 x1 x2).2.1 S2048x512.size (by sl_kernel_rfl) y

/-- What case A leaves in scratch `arg6`: its pieces read back over junk. -/
def sout0_A_0 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : cond0_1 i) (hc2 : ¬cond0_2 i)
    (x0 : Vec F S512x2048 .bf16) (x1 : Vec F S2048x512 .f32) (x2 : Vec F S512x384 .f32) : Vec F S2048x512 .bf16 :=
  VS0_0.read (Elt F) (VS0_0.writes (Elt F) VS0_0.junk (kernelRun0_A c i arg2 harg2 arg3 harg3 arg4 harg4 arg5 harg5 arg6 harg6 hc0 hc1 hc2 x0 x1 x2).2.1)

/-- Case B's pieces for output 3 tile its block (1 store of `S512x512`, checked by the kernel's evaluation: Lib/Ring.lean `Piece.tiledL`, linear in the pieces, through a loop's `@[irreducible]` trip theorem too), so they cover it. -/
theorem cover0_B_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : cond0_1 i) (hc2 : ¬cond0_2 i)
    (x0 : Vec F S512x2048 .bf16) (x1 : Vec F S2048x512 .f32) (x2 : Vec F S512x384 .f32) (xs0 : Vec F S2048x512 .bf16) (y : S512x512.Idx) :
    ∃ pc ∈ (kernelRun0_B c i arg2 harg2 arg3 harg3 arg4 harg4 arg5 harg5 arg6 harg6 hc0 hc1 hc2 x0 x1 x2 xs0).1, y ∈ pc.1.set :=
  View.cover_of_tiledL (kernelRun0_B c i arg2 harg2 arg3 harg3 arg4 harg4 arg5 harg5 arg6 harg6 hc0 hc1 hc2 x0 x1 x2 xs0).1 S512x512.size (by sl_kernel_rfl) y

/-- What case B leaves in output 3's staging buffer: its pieces read back over junk. -/
def out0_B_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : cond0_1 i) (hc2 : ¬cond0_2 i)
    (x0 : Vec F S512x2048 .bf16) (x1 : Vec F S2048x512 .f32) (x2 : Vec F S512x384 .f32) (xs0 : Vec F S2048x512 .bf16) : Vec F S512x512 .f32 :=
  VO0_3.read (Elt F) (VO0_3.writes (Elt F) VO0_3.junk (kernelRun0_B c i arg2 harg2 arg3 harg3 arg4 harg4 arg5 harg5 arg6 harg6 hc0 hc1 hc2 x0 x1 x2 xs0).1)

/-- Case B stores nothing into scratch `arg6`: it holds what the point before left. -/
def sout0_B_0 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : cond0_1 i) (hc2 : ¬cond0_2 i)
    (x0 : Vec F S512x2048 .bf16) (x1 : Vec F S2048x512 .f32) (x2 : Vec F S512x384 .f32) (xs0 : Vec F S2048x512 .bf16) : Vec F S2048x512 .bf16 := xs0

/-- Case C's pieces for output 3 tile its block (1 store of `S512x512`, checked by the kernel's evaluation: Lib/Ring.lean `Piece.tiledL`, linear in the pieces, through a loop's `@[irreducible]` trip theorem too), so they cover it. -/
theorem cover0_C_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : ¬cond0_1 i) (hc2 : cond0_2 i)
    (x0 : Vec F S512x2048 .bf16) (x1 : Vec F S2048x512 .f32) (x2 : Vec F S512x384 .f32) (y : S512x512.Idx) :
    ∃ pc ∈ (kernelRun0_C c i arg2 harg2 arg3 harg3 arg4 harg4 arg5 harg5 arg6 harg6 hc0 hc1 hc2 x0 x1 x2).1, y ∈ pc.1.set :=
  View.cover_of_tiledL (kernelRun0_C c i arg2 harg2 arg3 harg3 arg4 harg4 arg5 harg5 arg6 harg6 hc0 hc1 hc2 x0 x1 x2).1 S512x512.size (by sl_kernel_rfl) y

/-- What case C leaves in output 3's staging buffer: its pieces read back over junk. -/
def out0_C_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : ¬cond0_1 i) (hc2 : cond0_2 i)
    (x0 : Vec F S512x2048 .bf16) (x1 : Vec F S2048x512 .f32) (x2 : Vec F S512x384 .f32) : Vec F S512x512 .f32 :=
  VO0_3.read (Elt F) (VO0_3.writes (Elt F) VO0_3.junk (kernelRun0_C c i arg2 harg2 arg3 harg3 arg4 harg4 arg5 harg5 arg6 harg6 hc0 hc1 hc2 x0 x1 x2).1)

/-- Case C's pieces for scratch `arg6`, which the kernel carries between points, cover it: 1 piece of `S2048x512` tiling it (Lib/Ring.lean `Piece.tiledL`). -/
theorem scover0_C_0 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : ¬cond0_1 i) (hc2 : cond0_2 i)
    (x0 : Vec F S512x2048 .bf16) (x1 : Vec F S2048x512 .f32) (x2 : Vec F S512x384 .f32) (y : S2048x512.Idx) :
    ∃ pc ∈ (kernelRun0_C c i arg2 harg2 arg3 harg3 arg4 harg4 arg5 harg5 arg6 harg6 hc0 hc1 hc2 x0 x1 x2).2.1, y ∈ pc.1.set :=
  View.cover_of_tiledL (kernelRun0_C c i arg2 harg2 arg3 harg3 arg4 harg4 arg5 harg5 arg6 harg6 hc0 hc1 hc2 x0 x1 x2).2.1 S2048x512.size (by sl_kernel_rfl) y

/-- What case C leaves in scratch `arg6`: its pieces read back over junk. -/
def sout0_C_0 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : cond0_0 i) (hc1 : ¬cond0_1 i) (hc2 : cond0_2 i)
    (x0 : Vec F S512x2048 .bf16) (x1 : Vec F S2048x512 .f32) (x2 : Vec F S512x384 .f32) : Vec F S2048x512 .bf16 :=
  VS0_0.read (Elt F) (VS0_0.writes (Elt F) VS0_0.junk (kernelRun0_C c i arg2 harg2 arg3 harg3 arg4 harg4 arg5 harg5 arg6 harg6 hc0 hc1 hc2 x0 x1 x2).2.1)

/-- Case D's pieces for output 3 tile its block (1 store of `S512x512`, checked by the kernel's evaluation: Lib/Ring.lean `Piece.tiledL`, linear in the pieces, through a loop's `@[irreducible]` trip theorem too), so they cover it. -/
theorem cover0_D_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : ¬cond0_1 i) (hc2 : cond0_2 i)
    (x0 : Vec F S512x2048 .bf16) (x1 : Vec F S2048x512 .f32) (x2 : Vec F S512x384 .f32) (xs0 : Vec F S2048x512 .bf16) (y : S512x512.Idx) :
    ∃ pc ∈ (kernelRun0_D c i arg2 harg2 arg3 harg3 arg4 harg4 arg5 harg5 arg6 harg6 hc0 hc1 hc2 x0 x1 x2 xs0).1, y ∈ pc.1.set :=
  View.cover_of_tiledL (kernelRun0_D c i arg2 harg2 arg3 harg3 arg4 harg4 arg5 harg5 arg6 harg6 hc0 hc1 hc2 x0 x1 x2 xs0).1 S512x512.size (by sl_kernel_rfl) y

/-- What case D leaves in output 3's staging buffer: its pieces read back over junk. -/
def out0_D_3 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : ¬cond0_1 i) (hc2 : cond0_2 i)
    (x0 : Vec F S512x2048 .bf16) (x1 : Vec F S2048x512 .f32) (x2 : Vec F S512x384 .f32) (xs0 : Vec F S2048x512 .bf16) : Vec F S512x512 .f32 :=
  VO0_3.read (Elt F) (VO0_3.writes (Elt F) VO0_3.junk (kernelRun0_D c i arg2 harg2 arg3 harg3 arg4 harg4 arg5 harg5 arg6 harg6 hc0 hc1 hc2 x0 x1 x2 xs0).1)

/-- Case D stores nothing into scratch `arg6`: it holds what the point before left. -/
def sout0_D_0 (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S512x384 .f32) (harg4 : arg4.IsWhole) (arg5 : Memref sig .tc .vmem S512x512 .f32) (harg5 : arg5.IsWhole) (arg6 : Memref sig .tc .vmem S2048x512 .bf16) (harg6 : arg6.IsWhole) (hc0 : ¬cond0_0 i) (hc1 : ¬cond0_1 i) (hc2 : cond0_2 i)
    (x0 : Vec F S512x2048 .bf16) (x1 : Vec F S2048x512 .f32) (x2 : Vec F S512x384 .f32) (xs0 : Vec F S2048x512 .bf16) : Vec F S2048x512 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .f32 × Vec F S2048x512 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h0 : (n + 1) % 17 = 0 then
      if h1 : (n + 1) / 34 % 3 < 2 then
        if h2 : 2 ≤ (n + 1) / 34 % 3 then
          False.elim (by have hN : n + 1 < 306 := lt_of_lt_of_eq hn (show cfg0.N = 306 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩))
      else
        if h2 : 2 ≤ (n + 1) / 34 % 3 then
          (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩))
        else
          False.elim (by have hN : n + 1 < 306 := lt_of_lt_of_eq hn (show cfg0.N = 306 from N_0); omega)
    else
      if h1 : (n + 1) / 34 % 3 < 2 then
        if h2 : 2 ≤ (n + 1) / 34 % 3 then
          False.elim (by have hN : n + 1 < 306 := lt_of_lt_of_eq hn (show cfg0.N = 306 from N_0); omega)
        else
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2)
      else
        if h2 : 2 ≤ (n + 1) / 34 % 3 then
          (out0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2)
        else
          False.elim (by have hN : n + 1 < 306 := lt_of_lt_of_eq hn (show cfg0.N = 306 from N_0); omega)

/-- `outsAt0` at a point of case A: that case's contents. -/
theorem outsAt0_A (c : Dev nD) (t : Fin cfg0.N) (h0 : t.val % 17 = 0) (h1 : t.val / 34 % 3 < 2) (h2 : ¬2 ≤ t.val / 34 % 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (iblk m c 0 t) (iblk m c 1 t) (iblk m c 2 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 17 = 0) (h1 : t.val / 34 % 3 < 2) (h2 : ¬2 ≤ t.val / 34 % 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents. -/
theorem outsAt0_C (c : Dev nD) (t : Fin cfg0.N) (h0 : t.val % 17 = 0) (h1 : ¬t.val / 34 % 3 < 2) (h2 : 2 ≤ t.val / 34 % 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) ((hcond0_2 t).mpr h2) (iblk m c 0 t) (iblk m c 1 t) (iblk m c 2 t), sout0_C_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) ((hcond0_2 t).mpr h2) (iblk m c 0 t) (iblk m c 1 t) (iblk m c 2 t)) := by
  obtain ⟨n, hn⟩ := t
  cases n with
  | zero => exact (by exfalso; (try dsimp only at h1); exact by omega)
  | succ n => exact (dif_pos h0).trans ((dif_neg h1).trans ((dif_pos h2).trans rfl))

/-- `outsAt0` at a point of case D: that case's contents, over what the point before left. -/
theorem outsAt0_D (c : Dev nD) (t : Fin cfg0.N) (h0 : ¬t.val % 17 = 0) (h1 : ¬t.val / 34 % 3 < 2) (h2 : 2 ≤ t.val / 34 % 3) :
    outsAt0 m c t.val t.isLt = (out0_D_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 306 := lt_of_lt_of_eq t.isLt (show cfg0.N = 306 from N_0)
  by_cases h0 : t.val % 17 = 0
  · by_cases h1 : t.val / 34 % 3 < 2
    · by_cases h2 : 2 ≤ t.val / 34 % 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_A t ((hcond0_0 t).mpr h0) ((hcond0_1 t).mpr h1) (fun h => h2 ((hcond0_2 t).mp h))], after0_3]
        by_cases hz : t.val = 0
        · rw [PhiS_castSucc m c t, PhiS_zero m c _ _ hz, PhiA0_eq]
          rw [outsAt0_A m c t h0 h1 h2]
          unfold out0_A_3 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) ((hcond0_1 t).mpr h1) (fun h => h2 ((hcond0_2 t).mp h)) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_A_3 c _ _ _ _ _ _ _ _ _ _ _ _ _ _ _ _ _)
        · rw [PhiS_castSucc m c t, PhiS_pos m c _ _ hz]
          rw [outsAt0_A m c t h0 h1 h2]
          unfold out0_A_3 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) ((hcond0_1 t).mpr h1) (fun h => h2 ((hcond0_2 t).mp h)) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexists _; iexact HS0
          iintro ⟨H0, H1, H2, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_A_3 c _ _ _ _ _ _ _ _ _ _ _ _ _ _ _ _ _)
    · by_cases h2 : 2 ≤ t.val / 34 % 3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_C t ((hcond0_0 t).mpr h0) (fun h => h1 ((hcond0_1 t).mp h)) ((hcond0_2 t).mpr h2)], after0_3]
        by_cases hz : t.val = 0
        · exfalso; have hN : t.val < 306 := lt_of_lt_of_eq t.isLt (show cfg0.N = 306 from N_0); omega
        · rw [PhiS_castSucc m c t, PhiS_pos m c _ _ hz]
          rw [outsAt0_C m c t h0 h1 h2]
          unfold out0_C_3 sout0_C_0; (try dsimp only)
          iintro ⟨⟨HS0, Hg⟩, Ho, ⟨%d0, H0⟩, ⟨%d1, H1⟩, ⟨%d2, H2⟩, ⟨%d3, H3⟩⟩
          iapply ((kernelRun0_C c (grid0.coords t) _ _ _ _ _ _ _ _ _ _ ((hcond0_0 t).mpr h0) (fun h => h1 ((hcond0_1 t).mp h)) ((hcond0_2 t).mpr h2) (iblk m c 0 t) (iblk m c 1 t) (iblk m c 2 t)).2.2 Set.univ _)
          isplitl [H0]; · iexact H0
          isplitl [H1]; · iexact H1
          isplitl [H2]; · iexact H2
          isplitl [H3]; · iexists _; iexact H3
          isplitl [HS0]; · iexists _; iexact HS0
          iintro ⟨H0, H1, H2, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_C_3 c _ _ _ _ _ _ _ _ _ _ _ _ _ _ _ _ _)
      · exfalso; omega
  · by_cases h1 : t.val / 34 % 3 < 2
    · by_cases h2 : 2 ≤ t.val / 34 % 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1) (fun h => h2 ((hcond0_2 t).mp h))], after0_3]
        by_cases hz : t.val = 0
        · exfalso; have hN : t.val < 306 := lt_of_lt_of_eq t.isLt (show cfg0.N = 306 from N_0); omega
        · rw [PhiS_castSucc m c t, PhiS_pos m c _ _ hz]
          rw [outsAt0_B m c t h0 h1 h2]
          unfold out0_B_3 sout0_B_0; (try dsimp only)
          iintro ⟨⟨HS0, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (iblk m c 0 t) (iblk m c 1 t) (iblk m c 2 t) _).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_B_3 c _ _ _ _ _ _ _ _ _ _ _ _ _ _ _ _ _ _)
    · by_cases h2 : 2 ≤ t.val / 34 % 3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_D t (fun h => h0 ((hcond0_0 t).mp h)) (fun h => h1 ((hcond0_1 t).mp h)) ((hcond0_2 t).mpr h2)], after0_3]
        by_cases hz : t.val = 0
        · exfalso; have hN : t.val < 306 := lt_of_lt_of_eq t.isLt (show cfg0.N = 306 from N_0); omega
        · rw [PhiS_castSucc m c t, PhiS_pos m c _ _ hz]
          rw [outsAt0_D m c t h0 h1 h2]
          unfold out0_D_3 sout0_D_0; (try dsimp only)
          iintro ⟨⟨HS0, Hg⟩, Ho, ⟨%d0, H0⟩, ⟨%d1, H1⟩, ⟨%d2, H2⟩, ⟨%d3, H3⟩⟩
          iapply ((kernelRun0_D c (grid0.coords t) _ _ _ _ _ _ _ _ _ _ (fun h => h0 ((hcond0_0 t).mp h)) (fun h => h1 ((hcond0_1 t).mp h)) ((hcond0_2 t).mpr h2) (iblk m c 0 t) (iblk m c 1 t) (iblk m c 2 t) _).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_D_3 c _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 306 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_ProjAIdeal`'s statement (Defs.lean) at any `F` — Proof.lean cites it at `Bits`:
    `theorem Cert.Proof.claim : Cert.Claim := ⟨Cert.ProjAIdeal.Gen.facts, fun m ρ _ => Cert.ProjAIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v19) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.ProjAIdeal.Gen

end
-- ==== Proof.TurnA.lean ====
/- The query, key and value projection of the first attention's groups: what its pipeline leaves at an element, and the reference's value there. -/
module
public import proofs.«01_k».proof.Defs
public import proofs.«01_k».proof.Proof.Rope
public import proofs.«01_k».proof.Proof.FrameAIdeal
public import proofs.«01_k».proof.Proof.Gen.ProjARefIdeal.Run

@[expose] public section

set_option maxRecDepth 16384

noncomputable section

namespace Cert.ProjAIdeal.At

open Idealize.ShloMosaic Idealize.ShloMosaic.TcCoe Idealize.SL.Sem
open Cert.ProjAIdeal Cert.ProjAIdeal.Gen Cert.Matmul Cert.Rope
open Idealize.ShloMosaic.Pipeline (Dat)

variable (m : (ℓ : Loc nD τ sig) → Buf (Elt Ideal) ℓ) (c : Dev nD)

/-- Where each window stands at a grid point. -/
theorem idx : ∀ t : Fin cfg0.N, win0_0.index t = ![t.val % 17, 0] ∧ win0_1.index t = ![0, t.val / 17]
    ∧ win0_2.index t = ![t.val % 17, 0] ∧ win0_3.index t = ![t.val % 17, t.val / 17] :=
  (by decide +kernel : ∀ t : Fin grid0.N, _)

/-- The array the third window reads is the array of factors. -/
theorem V_main_v18 : V m c main_v18 = tables (m ((c.tc : Thread nD τ).loc main_arg2)) := by
  unfold V
  after_results
  rfl

/-- The columns of the weights that a point's outputs stand in. -/
theorem w_at (t : Fin cfg0.N) (y : S2048x512.Idx) (z : S2048x9216.Idx) (z0 : (z 0).val = (y 0).val) (z1 : (z 1).val = t.val / 17 * 512 + (y 1).val) :
    iblk m c 1 t y = (m ((c.tc : Thread nD τ).loc main_arg1)) z := by
  blk_simp [iblk]
  refine (congrFun (V_main_arg1 m c) _).trans ?_
  blk_ext [idx t]

/-- A row of the factors, at a point. -/
theorem table_at (t : Fin cfg0.N) (a : Fin 512) (R : Fin 8704) (hR : R.val = t.val % 17 * 512 + a.val) (d : Fin 384) :
    iblk m c 2 t (ix2 a d) = table (cosAt (m ((c.tc : Thread nD τ).loc main_arg2)) R) (sinAt (m ((c.tc : Thread nD τ).loc main_arg2)) R) d := by
  obtain ⟨i, hi, i0, i1⟩ : ∃ i : S8704x384.Idx, iblk m c 2 t (ix2 a d) = V m c main_v18 i ∧ i 0 = R ∧ (i 1).val = d.val := by
    blk_simp [iblk]
    exact ⟨_, rfl, Fin.ext (by blk_simp [idx t]; omega), by blk_simp [idx t]; try omega⟩
  rw [hi, V_main_v18, tables_at, i0, i1]

/-- A row of a point's block of the product. -/
theorem row_at (t : Fin cfg0.N) (B : Vec Ideal S2048x512 .bf16)
    (hB : ∀ (y : S2048x512.Idx) (z : S2048x9216.Idx), (z 0).val = (y 0).val → (z 1).val = t.val / 17 * 512 + (y 1).val → B y = (m ((c.tc : Thread nD τ).loc main_arg1)) z)
    (a : Fin 512) (R : Fin 8704) (hR : R.val = t.val % 17 * 512 + a.val) (b : Fin 512) :
    ∑ k : Fin 2048, (show Vec Ideal S512x2048 .bf16 from iblk m c 0 t) (ix2 a k) * B (ix2 k b)
      = row (m ((c.tc : Thread nD τ).loc main_arg0)) (m ((c.tc : Thread nD τ).loc main_arg1)) R (t.val / 17 * 512 + b.val) := by
  have ht : t.val < 306 := lt_of_lt_of_eq t.isLt N_0
  refine Eq.trans (Finset.sum_congr rfl fun k _ => congrArg₂ (· * ·) ?_ (hB (ix2 k b) (ix2 k ⟨t.val / 17 * 512 + b.val, by omega⟩) rfl rfl)) (row_eq _ _ _ _ _ rfl)
  blk_simp [iblk]
  refine (congrFun (V_main_arg0 m c) _).trans ?_
  blk_ext [idx t]

/-- After a point, the scratch holds the columns of the weights that the point's outputs stand in. -/
theorem scratch (n : ℕ) : ∀ (hn : n < cfg0.N) (y : S2048x512.Idx) (z : S2048x9216.Idx), (z 0).val = (y 0).val →
    (z 1).val = n / 17 * 512 + (y 1).val → (outsAt0 m c n hn).2 y = (m ((c.tc : Thread nD τ).loc main_arg1)) z := by
  induction n using Nat.strong_induction_on with
  | _ n ih =>
    intro hn y z z0 z1
    have cB : ∀ h0 : ¬n % 17 = 0, (outsAt0 m c (n - 1) (Nat.lt_of_le_of_lt (Nat.sub_le _ _) hn)).2 y = (m ((c.tc : Thread nD τ).loc main_arg1)) z := fun h0 =>
      ih (n - 1) (by omega) _ y z z0 (by rw [z1]; omega)
    by_cases h0 : n % 17 = 0 <;> by_cases h1 : n / 34 % 3 < 2
    · rw [outsAt0_A m c ⟨n, hn⟩ h0 h1 (by dsimp only; omega)]
      frame_out
      pointwise [k0_pay2]
      exact w_at m c ⟨n, hn⟩ y z z0 z1
    · rw [outsAt0_C m c ⟨n, hn⟩ h0 h1 (by dsimp only; omega)]
      frame_out
      pointwise [k0_pay2]
      exact w_at m c ⟨n, hn⟩ y z z0 z1
    · rw [outsAt0_B m c ⟨n, hn⟩ h0 h1 (by dsimp only; omega)]
      frame_out
      exact cB h0
    · rw [outsAt0_D m c ⟨n, hn⟩ h0 h1 (by dsimp only; omega)]
      frame_out
      exact cB h0

/-- The result at an index: its row of the product, the queries and keys turned. -/
def out (i : S8704x9216.Idx) : EReal :=
  if (i 1).val / 1024 % 3 < 2 then turned (row (m ((c.tc : Thread nD τ).loc main_arg0)) (m ((c.tc : Thread nD τ).loc main_arg1)) (i 0))
    (cosAt (m ((c.tc : Thread nD τ).loc main_arg2)) (i 0)) (sinAt (m ((c.tc : Thread nD τ).loc main_arg2)) (i 0)) (i 1)
  else row (m ((c.tc : Thread nD τ).loc main_arg0)) (m ((c.tc : Thread nD τ).loc main_arg1)) (i 0) (i 1)

/-- A point's turned block, at the index of the result it stands at. -/
theorem turn_at (t : Fin cfg0.N) (h1 : t.val / 34 % 3 < 2) (B : Vec Ideal S2048x512 .bf16)
    (hB : ∀ (y : S2048x512.Idx) (z : S2048x9216.Idx), (z 0).val = (y 0).val → (z 1).val = t.val / 17 * 512 + (y 1).val → B y = (m ((c.tc : Thread nD τ).loc main_arg1)) z)
    (y : S512x512.Idx) (i : S8704x9216.Idx) (i0 : (i 0).val = t.val % 17 * 512 + (y 0).val) (i1 : (i 1).val = t.val / 17 * 512 + (y 1).val) :
    k0_pay1 (k0_pay3 (iblk m c 0 t) B) (iblk m c 2 t) y = out m c i := by
  have ht : t.val < 306 := lt_of_lt_of_eq t.isLt N_0
  have hy : (y 1).val < 512 := (y 1).isLt
  refine (turn _ _ _ _ _ _ y (t.val / 17) (row_at m c t B hB (y 0) (i 0) i0) (table_at m c t (y 0) (i 0) i0)).trans ?_
  rw [out, if_pos (by omega), i1]

/-- A point's block left as it is, at the index of the result it stands at. -/
theorem plain_at (t : Fin cfg0.N) (h1 : ¬t.val / 34 % 3 < 2) (B : Vec Ideal S2048x512 .bf16)
    (hB : ∀ (y : S2048x512.Idx) (z : S2048x9216.Idx), (z 0).val = (y 0).val → (z 1).val = t.val / 17 * 512 + (y 1).val → B y = (m ((c.tc : Thread nD τ).loc main_arg1)) z)
    (y : S512x512.Idx) (i : S8704x9216.Idx) (i0 : (i 0).val = t.val % 17 * 512 + (y 0).val) (i1 : (i 1).val = t.val / 17 * 512 + (y 1).val) :
    k0_pay3 (iblk m c 0 t) B y = out m c i := by
  have ht : t.val < 306 := lt_of_lt_of_eq t.isLt N_0
  have hy : (y 1).val < 512 := (y 1).isLt
  refine (plain _ _ _ y (t.val / 17) (row_at m c t B hB (y 0) (i 0) i0)).trans ?_
  rw [out, if_neg (by omega), i1]

/-- The result of the pipeline. -/
theorem final3 : (dats m 0 c).arrAt 3 cfg0.N = out m c := by
  refine (dats m 0 c).arrAt_eq_of_covers 3 _ (by decide +kernel) fun t hf y => ?_
  have ht : t.val < 306 := lt_of_lt_of_eq t.isLt N_0
  blk_simp
  rw [after0_3]
  by_cases h0 : t.val % 17 = 0 <;> by_cases h1 : t.val / 34 % 3 < 2
  · rw [outsAt0_A m c t h0 h1 (by omega)]
    frame_out
    refine turn_at m c t h1 _ (fun y z z0 z1 => ?_) y _ (by blk_simp [idx t]; try omega) (by blk_simp [idx t]; try omega)
    pointwise [k0_pay2]
    exact w_at m c t y z z0 z1
  · rw [outsAt0_C m c t h0 h1 (by omega)]
    frame_out
    refine plain_at m c t h1 _ (fun y z z0 z1 => ?_) y _ (by blk_simp [idx t]; try omega) (by blk_simp [idx t]; try omega)
    pointwise [k0_pay2]
    exact w_at m c t y z z0 z1
  · rw [outsAt0_B m c t h0 h1 (by omega)]
    frame_out
    rw [read_unread_whole]
    exact turn_at m c t h1 _ (fun y z z0 z1 => scratch m c _ _ y z z0 (by omega)) y _ (by blk_simp [idx t]; try omega) (by blk_simp [idx t]; try omega)
  · rw [outsAt0_D m c t h0 h1 (by omega)]
    frame_out
    rw [read_unread_whole]
    exact plain_at m c t h1 _ (fun y z z0 z1 => scratch m c _ _ y z z0 (by omega)) y _ (by blk_simp [idx t]; try omega) (by blk_simp [idx t]; try omega)

end Cert.ProjAIdeal.At

namespace Cert.ProjARefIdeal.At

open Idealize.ShloMosaic Idealize.ShloMosaic.TcCoe Idealize.SL.Sem
open Cert.ProjARefIdeal Cert.ProjARefIdeal.Gen Cert.Matmul Cert.Rope

variable (m : (ℓ : Loc nD τ sig) → Buf (Elt Ideal) ℓ) (c : Dev nD)

/-- The reference's result, at an index: its row of the product, the queries and keys turned. -/
theorem res_eq (i : S8704x9216.Idx) : Value.res_main_v73 m c i =
    if (i 1).val / 1024 % 3 < 2 then turned (row (m ((c.tc : Thread nD τ).loc main_arg0)) (m ((c.tc : Thread nD τ).loc main_arg1)) (i 0))
      (cosAt (m ((c.tc : Thread nD τ).loc main_arg2)) (i 0)) (sinAt (m ((c.tc : Thread nD τ).loc main_arg2)) (i 0)) (i 1)
    else row (m ((c.tc : Thread nD τ).loc main_arg0)) (m ((c.tc : Thread nD τ).loc main_arg1)) (i 0) (i 1) := by
  unfold Value.res_main_v73
  generalize m ((c.tc : Thread nD τ).loc main_arg0) = h
  generalize m ((c.tc : Thread nD τ).loc main_arg1) = w
  generalize m ((c.tc : Thread nD τ).loc main_arg2) = p
  have hi : (i 1).val < 9216 := (i 1).isLt
  pointwise
  by_cases hq : (i 1).val / 1024 % 3 < 2
  · refine Eq.trans ?_ (if_pos hq).symm
    by_cases h1 : (i 1).val / 1024 % 3 < 1
    on_goal 1 => rw [dif_pos h1]
    on_goal 2 => rw [dif_neg h1, dif_pos (by omega)]
    all_goals
      by_cases h16 : (i 1).val % 128 < 16
      · rw [dif_pos h16]
        refine Eq.trans ?_ (turned_lo _ _ _ _ h16).symm
        refine congrArg₂ (· - ·) (congrArg₂ (· * ·) ?_ rfl) (congrArg₂ (· * ·) ?_ rfl)
        · exact row_eq h w _ _ _ (by dsimp; omega)
        · exact row_eq h w _ _ _ (by dsimp; omega)
      by_cases h32 : (i 1).val % 128 < 32
      · rw [dif_neg h16, dif_pos (by omega)]
        refine Eq.trans ?_ (turned_mid _ _ _ _ h16 h32).symm
        refine congrArg₂ (· + ·) (congrArg₂ (· * ·) ?_ rfl) (congrArg₂ (· * ·) ?_ rfl)
        · exact row_eq h w _ _ _ (by dsimp; omega)
        · exact row_eq h w _ _ _ (by dsimp; omega)
      · rw [dif_neg h16, dif_neg (by omega)]
        refine Eq.trans ?_ (turned_hi _ _ _ _ h32).symm
        exact row_eq h w _ _ _ (by dsimp; omega)
  · refine Eq.trans ?_ (if_neg hq).symm
    rw [dif_neg (by omega), dif_neg (by omega)]
    exact row_eq h w _ _ _ (by dsimp; omega)

/-- The reference runs and leaves its arguments as they were; it has no semaphore. -/
theorem quiescent : Cert.quiescent_ProjARefIdeal := by
  intro m g _
  haveI : IsEmpty (SemLoc sig) := Fintype.card_eq_zero_iff.mp (by decide)
  exact (θ_run _ _ _).mono (fun r h => ⟨fun c => (h c).2, funext fun s => isEmptyElim s.2⟩) (Cert.ProjARefIdeal.Value.run m g)

/-- The kernel and the reference end with the same values. -/
theorem algebraic : Cert.algebraic_ProjAIdeal_ProjARefIdeal := by
  intro m g m' g' _ hagree
  refine ⟨fun c => (Cert.ProjAIdeal.Gen.dats m 0 c).arrAt 3 Cert.ProjAIdeal.cfg0.N, Cert.ProjAIdeal.Gen.run_blocks m g, ?_⟩
  refine (θ_run _ _ _).mono (fun r h c => ⟨?_, (h c).2⟩) (Cert.ProjARefIdeal.Value.run m' g')
  rw [(h c).1]
  funext i
  refine (res_eq m' c i).trans ?_
  rw [(hagree c).1, (hagree c).2.1, (hagree c).2.2]
  exact (congrFun (Cert.ProjAIdeal.At.final3 m c) i).symm

end Cert.ProjARefIdeal.At

end
-- ==== Proof.lean ====
module

public import proofs.«01_k».proof.Defs
public import proofs.«01_k».proof.Proof.Gen.Dil0
public import proofs.«01_k».proof.Proof.Gen.Dil0.Skeleton
public import proofs.«01_k».proof.Proof.Gen.Dil0.Launch
public import proofs.«01_k».proof.Proof.Gen.Dil0.Points
public import proofs.«01_k».proof.Proof.Gen.Dil0.Frame
public import proofs.«01_k».proof.Proof.Gen.Dil0Ideal
public import proofs.«01_k».proof.Proof.Gen.Dil0Ideal.Skeleton
public import proofs.«01_k».proof.Proof.Gen.Dil0Ideal.Launch
public import proofs.«01_k».proof.Proof.Gen.Dil0Ideal.Points
public import proofs.«01_k».proof.Proof.Gen.Dil0Ideal.Frame
public import proofs.«01_k».proof.Proof.Gen.Dil0RefIdeal
public import proofs.«01_k».proof.Proof.Gen.Dil1
public import proofs.«01_k».proof.Proof.Gen.Dil1.Skeleton
public import proofs.«01_k».proof.Proof.Gen.Dil1.Launch
public import proofs.«01_k».proof.Proof.Gen.Dil1.Points
public import proofs.«01_k».proof.Proof.Gen.Dil1.Frame
public import proofs.«01_k».proof.Proof.Gen.Dil1Ideal
public import proofs.«01_k».proof.Proof.Gen.Dil1Ideal.Skeleton
public import proofs.«01_k».proof.Proof.Gen.Dil1Ideal.Launch
public import proofs.«01_k».proof.Proof.Gen.Dil1Ideal.Points
public import proofs.«01_k».proof.Proof.Gen.Dil1Ideal.Frame
public import proofs.«01_k».proof.Proof.Gen.Dil1RefIdeal
public import proofs.«01_k».proof.Proof.Gen.Dil2
public import proofs.«01_k».proof.Proof.Gen.Dil2.Skeleton
public import proofs.«01_k».proof.Proof.Gen.Dil2.Launch
public import proofs.«01_k».proof.Proof.Gen.Dil2.Points
public import proofs.«01_k».proof.Proof.Gen.Dil2.Frame
public import proofs.«01_k».proof.Proof.Gen.Dil2Ideal
public import proofs.«01_k».proof.Proof.Gen.Dil2Ideal.Skeleton
public import proofs.«01_k».proof.Proof.Gen.Dil2Ideal.Launch
public import proofs.«01_k».proof.Proof.Gen.Dil2Ideal.Points
public import proofs.«01_k».proof.Proof.Gen.Dil2Ideal.Frame
public import proofs.«01_k».proof.Proof.Gen.Dil2RefIdeal
public import proofs.«01_k».proof.Proof.Gen.On_rows0
public import proofs.«01_k».proof.Proof.Gen.On_rows1
public import proofs.«01_k».proof.Proof.Gen.On_rows2
public import Idealize.ShloMosaic.Adequacy
public import Idealize.ShloMosaic.Init
public import proofs.«01_k».proof.Proof.Gen.Dil0Ideal.Value
public import proofs.«01_k».proof.Proof.Gen.OutA.Frame
public import proofs.«01_k».proof.Proof.Gen.OutB.Frame
public import proofs.«01_k».proof.Proof.Gen.Ple.Frame
public import proofs.«01_k».proof.Proof.Gen.ProjQ.Frame
public import proofs.«01_k».proof.Proof.Gen.ProjKV.Frame
public import proofs.«01_k».proof.Proof.Gen.ProjA.Launch
public import proofs.«01_k».proof.Proof.Gen.ProjA.Points
public import proofs.«01_k».proof.Proof.Gen.ProjA.Skeleton
public import proofs.«01_k».proof.Proof.Gen.ProjAIdeal.Launch
public import proofs.«01_k».proof.Proof.Gen.ProjAIdeal.Points
public import proofs.«01_k».proof.Proof.Gen.ProjAIdeal.Skeleton
public import proofs.«01_k».proof.Proof.Gen.OutAIdeal.Value
public import proofs.«01_k».proof.Proof.Gen.OutARefIdeal.Run
public import proofs.«01_k».proof.Proof.Gen.OutBIdeal.Value
public import proofs.«01_k».proof.Proof.Gen.OutBRefIdeal.Run
public import proofs.«01_k».proof.Proof.Gen.PleIdeal.Value
public import proofs.«01_k».proof.Proof.Gen.PleRefIdeal.Run
public import proofs.«01_k».proof.Proof.Gen.ProjQIdeal.Value
public import proofs.«01_k».proof.Proof.Gen.ProjQRefIdeal.Run
public import proofs.«01_k».proof.Proof.Gen.ProjKVIdeal.Value
public import proofs.«01_k».proof.Proof.Gen.ProjKVRefIdeal.Run
public import proofs.«01_k».proof.Proof.Gen.ProjARefIdeal.Run
public import proofs.«01_k».proof.Proof.Gen.Dil0RefIdeal.Run
public import proofs.«01_k».proof.Proof.Gen.Dil1Ideal.Value
public import proofs.«01_k».proof.Proof.Gen.Dil1RefIdeal.Run
public import proofs.«01_k».proof.Proof.Gen.Dil2Ideal.Value
public import proofs.«01_k».proof.Proof.Gen.Dil2RefIdeal.Run
public import proofs.«01_k».proof.Proof.Gen.NormH.Frame
public import proofs.«01_k».proof.Proof.Gen.NormHIdeal.Value
public import proofs.«01_k».proof.Proof.Gen.NormHRefIdeal.Run
public import proofs.«01_k».proof.Proof.Gen.NormY.Frame
public import proofs.«01_k».proof.Proof.Gen.NormYIdeal.Value
public import proofs.«01_k».proof.Proof.Gen.NormYRefIdeal.Run
public import proofs.«01_k».proof.Proof.Gen.NormT.Frame
public import proofs.«01_k».proof.Proof.Gen.NormTIdeal.Value
public import proofs.«01_k».proof.Proof.Gen.NormTRefIdeal.Run
public import proofs.«01_k».proof.Proof.Gen.NormX.Frame
public import proofs.«01_k».proof.Proof.Gen.NormXIdeal.Value
public import proofs.«01_k».proof.Proof.Gen.NormXRefIdeal.Run
public import proofs.«01_k».proof.Proof.Claim0
public import proofs.«01_k».proof.Proof.NormAt
public import proofs.«01_k».proof.Proof.NormMore
public import proofs.«01_k».proof.Proof.Claim1
public import proofs.«01_k».proof.Proof.Claim2
public import proofs.«01_k».proof.Proof.OutProjA
public import proofs.«01_k».proof.Proof.OutProjB
public import proofs.«01_k».proof.Proof.PleAt
public import proofs.«01_k».proof.Proof.TurnQ
public import proofs.«01_k».proof.Proof.TurnKV
public import proofs.«01_k».proof.Proof.FrameA
public import proofs.«01_k».proof.Proof.TurnA

@[expose] public section

noncomputable section

namespace Cert.Proof

open Idealize.ShloMosaic Idealize.SL.Sem Cert.Dil0

theorem claim : Cert.Claim := ⟨Cert.Dil0.Gen.facts, Cert.Dil0Ideal.Gen.facts, Cert.Dil0RefIdeal.Gen.facts, Cert.Dil1.Gen.facts, Cert.Dil1Ideal.Gen.facts, Cert.Dil1RefIdeal.Gen.facts, Cert.Dil2.Gen.facts, Cert.Dil2Ideal.Gen.facts, Cert.Dil2RefIdeal.Gen.facts,
  Cert.OutA.Gen.facts, Cert.OutAIdeal.Gen.facts, Cert.OutARefIdeal.Gen.facts, Cert.OutB.Gen.facts, Cert.OutBIdeal.Gen.facts, Cert.OutBRefIdeal.Gen.facts, Cert.Ple.Gen.facts, Cert.PleIdeal.Gen.facts, Cert.PleRefIdeal.Gen.facts, Cert.ProjQ.Gen.facts, Cert.ProjQIdeal.Gen.facts, Cert.ProjQRefIdeal.Gen.facts, Cert.ProjKV.Gen.facts, Cert.ProjKVIdeal.Gen.facts, Cert.ProjKVRefIdeal.Gen.facts, Cert.ProjA.Gen.facts, Cert.ProjAIdeal.Gen.facts, Cert.ProjARefIdeal.Gen.facts, Cert.NormH.Gen.facts, Cert.NormHIdeal.Gen.facts, Cert.NormHRefIdeal.Gen.facts, Cert.NormY.Gen.facts, Cert.NormYIdeal.Gen.facts, Cert.NormYRefIdeal.Gen.facts, Cert.NormT.Gen.facts, Cert.NormTIdeal.Gen.facts, Cert.NormTRefIdeal.Gen.facts, Cert.NormX.Gen.facts, Cert.NormXIdeal.Gen.facts, Cert.NormXRefIdeal.Gen.facts,
  Cert.On_rows0.Gen.facts, Cert.On_rows1.Gen.facts, Cert.On_rows2.Gen.facts,
  fun m ρ _ => Cert.Dil0.Gen.frame m ρ,
  fun m ρ _ => Cert.Dil0Ideal.Gen.frame m ρ,
  Cert.Dil0RefIdeal.At.quiescent,
  fun m ρ _ => Cert.Dil1.Gen.frame m ρ,
  fun m ρ _ => Cert.Dil1Ideal.Gen.frame m ρ,
  Cert.Dil1RefIdeal.At.quiescent,
  fun m ρ _ => Cert.Dil2.Gen.frame m ρ,
  fun m ρ _ => Cert.Dil2Ideal.Gen.frame m ρ,
  Cert.Dil2RefIdeal.At.quiescent,
  fun m ρ _ => Cert.OutA.Gen.frame m ρ,
  fun m ρ _ => Cert.OutAIdeal.Gen.frame m ρ,
  Cert.OutARefIdeal.At.quiescent,
  fun m ρ _ => Cert.OutB.Gen.frame m ρ,
  fun m ρ _ => Cert.OutBIdeal.Gen.frame m ρ,
  Cert.OutBRefIdeal.At.quiescent,
  fun m ρ _ => Cert.Ple.Gen.frame m ρ,
  fun m ρ _ => Cert.PleIdeal.Gen.frame m ρ,
  Cert.PleRefIdeal.At.quiescent,
  fun m ρ _ => Cert.ProjQ.Gen.frame m ρ,
  fun m ρ _ => Cert.ProjQIdeal.Gen.frame m ρ,
  Cert.ProjQRefIdeal.At.quiescent,
  fun m ρ _ => Cert.ProjKV.Gen.frame m ρ,
  fun m ρ _ => Cert.ProjKVIdeal.Gen.frame m ρ,
  Cert.ProjKVRefIdeal.At.quiescent,
  fun m ρ _ => Cert.ProjA.Gen.frame m ρ,
  fun m ρ _ => Cert.ProjAIdeal.Gen.frame m ρ,
  Cert.ProjARefIdeal.At.quiescent,
  fun m ρ _ => Cert.NormH.Gen.frame m ρ,
  fun m ρ _ => Cert.NormHIdeal.Gen.frame m ρ,
  Cert.NormHRefIdeal.At.quiescent,
  fun m ρ _ => Cert.NormY.Gen.frame m ρ,
  fun m ρ _ => Cert.NormYIdeal.Gen.frame m ρ,
  Cert.NormYRefIdeal.At.quiescent,
  fun m ρ _ => Cert.NormT.Gen.frame m ρ,
  fun m ρ _ => Cert.NormTIdeal.Gen.frame m ρ,
  Cert.NormTRefIdeal.At.quiescent,
  fun m ρ _ => Cert.NormX.Gen.frame m ρ,
  fun m ρ _ => Cert.NormXIdeal.Gen.frame m ρ,
  Cert.NormXRefIdeal.At.quiescent,
  IdealRules.named_const.statement Cert.Dil0Ideal.κ "scale" .f32 0x3DB504F3#32 (((Real.sqrt 128)⁻¹ : ℝ) : EReal) rfl,
  Cert.Dil0RefIdeal.At.algebraic,
  IdealRules.named_const.statement Cert.Dil1Ideal.κ "scale" .f32 0x3DB504F3#32 (((Real.sqrt 128)⁻¹ : ℝ) : EReal) rfl,
  Cert.Dil1RefIdeal.At.algebraic,
  IdealRules.named_const.statement Cert.Dil2Ideal.κ "scale" .f32 0x3DB504F3#32 (((Real.sqrt 128)⁻¹ : ℝ) : EReal) rfl,
  Cert.Dil2RefIdeal.At.algebraic,
  trivial,
  Cert.OutARefIdeal.At.algebraic,
  trivial,
  Cert.OutBRefIdeal.At.algebraic,
  trivial,
  Cert.PleRefIdeal.At.algebraic,
  trivial,
  Cert.ProjQRefIdeal.At.algebraic,
  trivial,
  Cert.ProjKVRefIdeal.At.algebraic,
  trivial,
  Cert.ProjARefIdeal.At.algebraic,
  trivial,
  Cert.NormHRefIdeal.At.algebraic,
  trivial,
  Cert.NormYRefIdeal.At.algebraic,
  trivial,
  Cert.NormTRefIdeal.At.algebraic,
  trivial,
  Cert.NormXRefIdeal.At.algebraic⟩

end Cert.Proof

end
